-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S256x512 : Shape := ⟨2, ![256, 512]⟩
abbrev S128x64 : Shape := ⟨2, ![128, 64]⟩
abbrev S64x64 : Shape := ⟨2, ![64, 64]⟩
abbrev S2 : Shape := ⟨1, ![2]⟩
abbrev S_ : Shape := ⟨0, ![]⟩
abbrev S1x128x512 : Shape := ⟨3, ![1, 128, 512]⟩
abbrev S128x512 : Shape := ⟨2, ![128, 512]⟩
abbrev S1 : Shape := ⟨1, ![1]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S64x512 : Shape := ⟨2, ![64, 512]⟩

abbrev nBuf : Space → Nat
  | .hbm => 9
  | .vmem => 13
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S128x64, .f32⟩
  | .hbm, ⟨6, _⟩ => ⟨S128x64, .f32⟩
  | .hbm, ⟨7, _⟩ => ⟨S64x64, .f32⟩
  | .hbm, ⟨8, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S128x64, .f32⟩
  | .local _ .vmem, ⟨6, _⟩ => ⟨S128x64, .f32⟩
  | .local _ .vmem, ⟨7, _⟩ => ⟨S64x64, .f32⟩
  | .local _ .vmem, ⟨8, _⟩ => ⟨S2x128x512, .f32⟩
  | .local _ .vmem, ⟨9, _⟩ => ⟨S2x128x512, .bf16⟩
  | .local _ .vmem, ⟨10, _⟩ => ⟨S2x128x512, .bf16⟩
  | .local _ .vmem, ⟨11, _⟩ => ⟨S2x128x512, .bf16⟩
  | .local _ .vmem, ⟨12, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 5 25 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_33 : BitVec 32 := 1#32
  let v34 : BitVec 32 := Scalar.muli v7 c1_i32_33
  let v35 : BitVec 32 := Scalar.addi c0_i32_34 v34
  v35.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_48 : BitVec 32 := 1#32
  let v50 : BitVec 32 := Scalar.muli v5 c1_i32_48
  let v51 : BitVec 32 := Scalar.addi c0_i32_49 v50
  v51.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_99 : BitVec 32 := 1#32
  let v198 : BitVec 32 := Scalar.muli v7 c1_i32_99
  let v199 : BitVec 32 := Scalar.addi c0_i32_100 v198
  v199.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_151 : BitVec 32 := 1#32
  let v346 : BitVec 32 := Scalar.muli v5 c1_i32_151
  let v347 : BitVec 32 := Scalar.addi c0_i32_152 v346
  v347.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_167 : BitVec 32 := 1#32
  let v362 : BitVec 32 := Scalar.muli v5 c1_i32_167
  let v363 : BitVec 32 := Scalar.addi c0_i32_168 v362
  v363.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_179 : BitVec 32 := 1#32
  let v370 : BitVec 32 := Scalar.muli v7 c1_i32_179
  let v371 : BitVec 32 := Scalar.addi c0_i32_180 v370
  v371.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_191 : BitVec 32 := 1#32
  let v378 : BitVec 32 := Scalar.muli v5 c1_i32_191
  let v379 : BitVec 32 := Scalar.addi c0_i32_192 v378
  v379.toNat
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_203 : BitVec 32 := 1#32
  let v386 : BitVec 32 := Scalar.muli v7 c1_i32_203
  let v387 : BitVec 32 := Scalar.addi c0_i32_204 v386
  v387.toNat
@[reducible] def k0_t1_loop : Scf.Loop 32 :=
  let c1_i32_205 : BitVec 32 := 1#32
  let c31_i32 : BitVec 32 := 31#32
  let v388 : BitVec 32 := Scalar.addi c1_i32_205 c31_i32
  let c1_i32_206 : BitVec 32 := 1#32
  ⟨c1_i32_205, v388, c1_i32_206⟩
def k0_off1 (k0_t1 : Fin k0_t1_loop.trips) : Fin 1 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  ![v417.toNat]
def k0_off2 (k0_t1 : Fin k0_t1_loop.trips) : Fin 3 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let c0_i32_244 : BitVec 32 := 0#32
  let c0_i32_245 : BitVec 32 := 0#32
  ![v417.toNat, 0, 0]
def k0_off3 (k0_t1 : Fin k0_t1_loop.trips) : Fin 3 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  let c0_i32_246 : BitVec 32 := 0#32
  let c0_i32_247 : BitVec 32 := 0#32
  ![v418.toNat, 0, 0]
def k0_cond1 (k0_t1 : Fin k0_t1_loop.trips) : BitVec 1 :=
  let c1_i32_205 : BitVec 32 := 1#32
  let c1_i32_206 : BitVec 32 := 1#32
  let arg25 : BitVec 32 := Scf.iv c1_i32_205 c1_i32_206 k0_t1
  let c31_i32_248 : BitVec 32 := 31#32
  let v427 : BitVec 1 := Scalar.cmpi .slt arg25 c31_i32_248
  let v428 : BitVec 32 := Scalar.extui v427
  let c0_i32_249 : BitVec 32 := 0#32
  let v429 : BitVec 1 := Scalar.cmpi .ne v428 c0_i32_249
  v429

def k0_off4 (k0_t1 : Fin k0_t1_loop.trips) : Fin 1 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  ![v417.toNat]
def k0_off5 (k0_t1 : Fin k0_t1_loop.trips) : Fin 1 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  ![v418.toNat]
def k0_off6 (k0_t1 : Fin k0_t1_loop.trips) : Fin 3 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  let c0_i32_389 : BitVec 32 := 0#32
  let c0_i32_390 : BitVec 32 := 0#32
  ![v418.toNat, 0, 0]
def k0_off7 (k0_t1 : Fin k0_t1_loop.trips) : Fin 3 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let c0_i32_391 : BitVec 32 := 0#32
  let c0_i32_392 : BitVec 32 := 0#32
  ![v417.toNat, 0, 0]
def k0_dev11 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_387 : BitVec 32 := 1#32
  let v788 : BitVec 32 := Scalar.muli v7 c1_i32_387
  let v789 : BitVec 32 := Scalar.addi c0_i32_388 v788
  v789.toNat
def k0_cond2 (k0_t1 : Fin k0_t1_loop.trips) : BitVec 1 :=
  let c1_i32_205 : BitVec 32 := 1#32
  let c1_i32_206 : BitVec 32 := 1#32
  let arg25 : BitVec 32 := Scf.iv c1_i32_205 c1_i32_206 k0_t1
  let c31_i32_256 : BitVec 32 := 31#32
  let v438 : BitVec 1 := Scalar.cmpi .slt arg25 c31_i32_256
  let v439 : BitVec 32 := Scalar.extui v438
  let c0_i32_257 : BitVec 32 := 0#32
  let v440 : BitVec 1 := Scalar.cmpi .ne v439 c0_i32_257
  v440

def k0_off8 (k0_t1 : Fin k0_t1_loop.trips) : Fin 1 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  ![v417.toNat]
def k0_off9 (k0_t1 : Fin k0_t1_loop.trips) : Fin 1 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  ![v418.toNat]
def k0_off10 (k0_t1 : Fin k0_t1_loop.trips) : Fin 3 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  let c0_i32_389 : BitVec 32 := 0#32
  let c0_i32_390 : BitVec 32 := 0#32
  ![v418.toNat, 0, 0]
def k0_off11 (k0_t1 : Fin k0_t1_loop.trips) : Fin 3 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let c0_i32_391 : BitVec 32 := 0#32
  let c0_i32_392 : BitVec 32 := 0#32
  ![v417.toNat, 0, 0]
def k0_dev12 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_387 : BitVec 32 := 1#32
  let v788 : BitVec 32 := Scalar.muli v5 c1_i32_387
  let v789 : BitVec 32 := Scalar.addi c0_i32_388 v788
  v789.toNat
def k0_off12 (k0_t1 : Fin k0_t1_loop.trips) : Fin 3 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v441 : Index := Scalar.indexCast v417
  let c0_258 : Index := 0#32
  let c0_259 : Index := 0#32
  ![v441.toNat, 0, 0]
def k0_off13 (k0_t1 : Fin k0_t1_loop.trips) : Fin 1 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  ![v418.toNat]
def k0_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_346 : BitVec 32 := 1#32
  let v729 : BitVec 32 := Scalar.muli v7 c1_i32_346
  let v730 : BitVec 32 := Scalar.addi c0_i32_347 v729
  v730.toNat
def k0_dev14 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_364 : BitVec 32 := 1#32
  let v757 : BitVec 32 := Scalar.muli v5 c1_i32_364
  let v758 : BitVec 32 := Scalar.addi c0_i32_365 v757
  v758.toNat
def k0_cond3 (k0_t1 : Fin k0_t1_loop.trips) : BitVec 1 :=
  let c1_i32_205 : BitVec 32 := 1#32
  let c1_i32_206 : BitVec 32 := 1#32
  let arg25 : BitVec 32 := Scf.iv c1_i32_205 c1_i32_206 k0_t1
  let c31_i32_370 : BitVec 32 := 31#32
  let v767 : BitVec 1 := Scalar.cmpi .slt arg25 c31_i32_370
  let v768 : BitVec 32 := Scalar.extui v767
  let c0_i32_371 : BitVec 32 := 0#32
  let v769 : BitVec 1 := Scalar.cmpi .ne v768 c0_i32_371
  v769

def k0_off14 (k0_t1 : Fin k0_t1_loop.trips) : Fin 1 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  ![v417.toNat]
def k0_off15 (k0_t1 : Fin k0_t1_loop.trips) : Fin 3 → Nat :=
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let c0_i32_386 : BitVec 32 := 0#32
  let c0_i32_387 : BitVec 32 := 0#32
  ![v417.toNat, 0, 0]
def k0_off16 (k0_t1 : Fin k0_t1_loop.trips) : Fin 3 → Nat :=
  let c1_i32_241 : BitVec 32 := 1#32
  let c1_i32_205 : BitVec 32 := 1#32
  let c1_i32_206 : BitVec 32 := 1#32
  let arg25 : BitVec 32 := Scf.iv c1_i32_205 c1_i32_206 k0_t1
  let c2_i32_240 : BitVec 32 := 2#32
  let v417 : BitVec 32 := Scalar.remsi arg25 c2_i32_240
  let v418 : BitVec 32 := Scalar.subi c1_i32_241 v417
  let c0_i32_388 : BitVec 32 := 0#32
  let c0_i32_389 : BitVec 32 := 0#32
  ![v418.toNat, 0, 0]
def k0_cond4 (k0_t1 : Fin k0_t1_loop.trips) : BitVec 1 :=
  let c1_i32_205 : BitVec 32 := 1#32
  let c1_i32_206 : BitVec 32 := 1#32
  let arg25 : BitVec 32 := Scf.iv c1_i32_205 c1_i32_206 k0_t1
  let c30_i32 : BitVec 32 := 30#32
  let v770 : BitVec 1 := Scalar.cmpi .slt arg25 c30_i32
  let v771 : BitVec 32 := Scalar.extui v770
  let c0_i32_372 : BitVec 32 := 0#32
  let v772 : BitVec 1 := Scalar.cmpi .ne v771 c0_i32_372
  v772

def k0_dev15 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_386 : BitVec 32 := 1#32
  let v788 : BitVec 32 := Scalar.muli v5 c1_i32_386
  let v789 : BitVec 32 := Scalar.addi c0_i32_387 v788
  v789.toNat
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_389 : BitVec 32 := 1#32
  let v790 : BitVec 32 := Scalar.muli v7 c1_i32_389
  let v791 : BitVec 32 := Scalar.addi c0_i32_390 v790
  v791.toNat
def k0_cond5 (k0_t1 : Fin k0_t1_loop.trips) : BitVec 1 :=
  let c1_i32_205 : BitVec 32 := 1#32
  let c1_i32_206 : BitVec 32 := 1#32
  let arg25 : BitVec 32 := Scf.iv c1_i32_205 c1_i32_206 k0_t1
  let c31_i32_383 : BitVec 32 := 31#32
  let v785 : BitVec 1 := Scalar.cmpi .slt arg25 c31_i32_383
  let v786 : BitVec 32 := Scalar.extui v785
  let c0_i32_384 : BitVec 32 := 0#32
  let v787 : BitVec 1 := Scalar.cmpi .ne v786 c0_i32_384
  v787

def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_386 : BitVec 32 := 1#32
  let v788 : BitVec 32 := Scalar.muli v5 c1_i32_386
  let v789 : BitVec 32 := Scalar.addi c0_i32_387 v788
  v789.toNat
def k0_dev18 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_389 : BitVec 32 := 1#32
  let v790 : BitVec 32 := Scalar.muli v7 c1_i32_389
  let v791 : BitVec 32 := Scalar.addi c0_i32_390 v790
  v791.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S64x128x512 : Shape := ⟨3, ![64, 128, 512]⟩
abbrev S512x8192 : Shape := ⟨2, ![512, 8192]⟩
abbrev S8192x512 : Shape := ⟨2, ![8192, 512]⟩
abbrev S128x64 : Shape := ⟨2, ![128, 64]⟩
abbrev S64x128x8192 : Shape := ⟨3, ![64, 128, 8192]⟩
abbrev S64x128x128x64 : Shape := ⟨4, ![64, 128, 128, 64]⟩
abbrev S64x128x128x32x2 : Shape := ⟨5, ![64, 128, 128, 32, 2]⟩
abbrev S64x128x128x32x1 : Shape := ⟨5, ![64, 128, 128, 32, 1]⟩
abbrev S64x128x128x32 : Shape := ⟨4, ![64, 128, 128, 32]⟩
abbrev S1x128x1x64 : Shape := ⟨4, ![1, 128, 1, 64]⟩
abbrev S64x128x128x128 : Shape := ⟨4, ![64, 128, 128, 128]⟩
abbrev S_ : Shape := ⟨0, ![]⟩
abbrev S64x128x128 : Shape := ⟨3, ![64, 128, 128]⟩
abbrev S64x128x128x1 : Shape := ⟨4, ![64, 128, 128, 1]⟩
abbrev S64x128x64x128 : Shape := ⟨4, ![64, 128, 64, 128]⟩

abbrev nBuf : Space → Nat
  | .hbm => 66
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S128x64, .f32⟩
  | .hbm, ⟨6, _⟩ => ⟨S128x64, .f32⟩
  | .hbm, ⟨7, _⟩ => ⟨S64x128x8192, .f32⟩
  | .hbm, ⟨8, _⟩ => ⟨S64x128x128x64, .f32⟩
  | .hbm, ⟨9, _⟩ => ⟨S64x128x128x32x2, .f32⟩
  | .hbm, ⟨10, _⟩ => ⟨S64x128x128x32x1, .f32⟩
  | .hbm, ⟨11, _⟩ => ⟨S64x128x128x32, .f32⟩
  | .hbm, ⟨12, _⟩ => ⟨S64x128x128x32, .f32⟩
  | .hbm, ⟨13, _⟩ => ⟨S64x128x128x32x1, .f32⟩
  | .hbm, ⟨14, _⟩ => ⟨S64x128x128x32, .f32⟩
  | .hbm, ⟨15, _⟩ => ⟨S64x128x128x32x1, .f32⟩
  | .hbm, ⟨16, _⟩ => ⟨S64x128x128x32x1, .f32⟩
  | .hbm, ⟨17, _⟩ => ⟨S64x128x128x32x2, .f32⟩
  | .hbm, ⟨18, _⟩ => ⟨S64x128x128x64, .f32⟩
  | .hbm, ⟨19, _⟩ => ⟨S1x128x1x64, .f32⟩
  | .hbm, ⟨20, _⟩ => ⟨S64x128x128x64, .f32⟩
  | .hbm, ⟨21, _⟩ => ⟨S64x128x128x64, .f32⟩
  | .hbm, ⟨22, _⟩ => ⟨S1x128x1x64, .f32⟩
  | .hbm, ⟨23, _⟩ => ⟨S64x128x128x64, .f32⟩
  | .hbm, ⟨24, _⟩ => ⟨S64x128x128x64, .f32⟩
  | .hbm, ⟨25, _⟩ => ⟨S64x128x128x64, .f32⟩
  | .hbm, ⟨26, _⟩ => ⟨S64x128x8192, .f32⟩
  | .hbm, ⟨27, _⟩ => ⟨S64x128x128x64, .f32⟩
  | .hbm, ⟨28, _⟩ => ⟨S64x128x128x32x2, .f32⟩
  | .hbm, ⟨29, _⟩ => ⟨S64x128x128x32x1, .f32⟩
  | .hbm, ⟨30, _⟩ => ⟨S64x128x128x32, .f32⟩
  | .hbm, ⟨31, _⟩ => ⟨S64x128x128x32, .f32⟩
  | .hbm, ⟨32, _⟩ => ⟨S64x128x128x32x1, .f32⟩
  | .hbm, ⟨33, _⟩ => ⟨S64x128x128x32, .f32⟩
  | .hbm, ⟨34, _⟩ => ⟨S64x128x128x32x1, .f32⟩
  | .hbm, ⟨35, _⟩ => ⟨S64x128x128x32x1, .f32⟩
  | .hbm, ⟨36, _⟩ => ⟨S64x128x128x32x2, .f32⟩
  | .hbm, ⟨37, _⟩ => ⟨S64x128x128x64, .f32⟩
  | .hbm, ⟨38, _⟩ => ⟨S1x128x1x64, .f32⟩
  | .hbm, ⟨39, _⟩ => ⟨S64x128x128x64, .f32⟩
  | .hbm, ⟨40, _⟩ => ⟨S64x128x128x64, .f32⟩
  | .hbm, ⟨41, _⟩ => ⟨S1x128x1x64, .f32⟩
  | .hbm, ⟨42, _⟩ => ⟨S64x128x128x64, .f32⟩
  | .hbm, ⟨43, _⟩ => ⟨S64x128x128x64, .f32⟩
  | .hbm, ⟨44, _⟩ => ⟨S64x128x128x64, .f32⟩
  | .hbm, ⟨45, _⟩ => ⟨S64x128x8192, .f32⟩
  | .hbm, ⟨46, _⟩ => ⟨S64x128x128x64, .f32⟩
  | .hbm, ⟨47, _⟩ => ⟨S64x128x128x128, .f32⟩
  | .hbm, ⟨48, _⟩ => ⟨S_, .f32⟩
  | .hbm, ⟨49, _⟩ => ⟨S64x128x128x128, .f32⟩
  | .hbm, ⟨50, _⟩ => ⟨S64x128x128x128, .f32⟩
  | .hbm, ⟨51, _⟩ => ⟨S_, .f32⟩
  | .hbm, ⟨52, _⟩ => ⟨S64x128x128, .f32⟩
  | .hbm, ⟨53, _⟩ => ⟨S64x128x128x1, .f32⟩
  | .hbm, ⟨54, _⟩ => ⟨S64x128x128x128, .f32⟩
  | .hbm, ⟨55, _⟩ => ⟨S64x128x128x128, .f32⟩
  | .hbm, ⟨56, _⟩ => ⟨S64x128x128x128, .f32⟩
  | .hbm, ⟨57, _⟩ => ⟨S_, .f32⟩
  | .hbm, ⟨58, _⟩ => ⟨S64x128x128, .f32⟩
  | .hbm, ⟨59, _⟩ => ⟨S64x128x128x1, .f32⟩
  | .hbm, ⟨60, _⟩ => ⟨S64x128x128x128, .f32⟩
  | .hbm, ⟨61, _⟩ => ⟨S64x128x128x128, .f32⟩
  | .hbm, ⟨62, _⟩ => ⟨S64x128x64x128, .f32⟩
  | .hbm, ⟨63, _⟩ => ⟨S64x128x128x64, .f32⟩
  | .hbm, ⟨64, _⟩ => ⟨S64x128x8192, .f32⟩
  | .hbm, ⟨65, _⟩ => ⟨S64x128x512, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.Base.lean ====
/-
  The geometry and the resource algebra of the ring kernel.

  Four channels run round the ring of thirty-two devices: channel 0 carries an activation row to the right, channel 1 the
  accumulator that goes with it, channels 2 and 3 the same to the left.  Each channel has a two-slot buffer, two source
  semaphores, two arrival semaphores and one credit semaphore.
-/
module

public import proofs.«01_k».proof.Proof.Gen.KernelIdeal
public import proofs.«01_k».proof.Proof.Gen.KernelIdeal.Launch
public import Idealize.ShloMosaic.Lib.Rounds
public import Idealize.ShloMosaic.Lib.Release
public import Idealize.ShloMosaic.Lib.Tactic
public import Idealize.ShloMosaic.Lib.Pipeline.Regions
public import Idealize.ShloMosaic.Lib.Pipeline.Kit
public import Idealize.ShloMosaic.Lib.Pipeline.RegionTalk

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ring -/

/-- The next device. -/
def right (c : Dev nD) : Dev nD := ⟨(c.val + 1) % 32, Nat.mod_lt _ (by decide)⟩
/-- The device before. -/
def left (c : Dev nD) : Dev nD := ⟨(c.val + 31) % 32, Nat.mod_lt _ (by decide)⟩
/-- The device before the next one is the device itself. -/
theorem left_right (c : Dev nD) : left (right c) = c := by revert c; decide
/-- The next device after the one before is the device itself. -/
theorem right_left (c : Dev nD) : right (left c) = c := by revert c; decide

/-- Where channel `ch` sends. -/
def tgt (ch : Fin 4) (c : Dev nD) : Dev nD := if ch.val < 2 then right c else left c
/-- Where channel `ch` receives from. -/
def src (ch : Fin 4) (c : Dev nD) : Dev nD := if ch.val < 2 then left c else right c
/-- A device is the source of the device it sends to. -/
theorem src_tgt (ch : Fin 4) (c : Dev nD) : src ch (tgt ch c) = c := by
  unfold src tgt; split
  · exact left_right c
  · exact right_left c
/-- A device is the target of the device it receives from. -/
theorem tgt_src (ch : Fin 4) (c : Dev nD) : tgt ch (src ch c) = c := by
  unfold src tgt; split
  · exact right_left c
  · exact left_right c
/-- A channel's step round the ring as a permutation of the devices. -/
def ringEquiv (ch : Fin 4) : Dev nD ≃ Dev nD := ⟨tgt ch, src ch, src_tgt ch, tgt_src ch⟩

/-- How many transfers channel `ch` makes. -/
def nS (ch : Fin 4) : ℕ := if ch.val % 2 = 0 then 31 else 32
/-- How many credits channel `ch` gives. -/
def nC (ch : Fin 4) : ℕ := if ch.val % 2 = 0 then 30 else 31

/-! ## The resource algebra: the pipeline library's copy, the rounds, the slots' releases -/

/-- A slot of a channel's buffer on a device. -/
abbrev Key : Type := Dev nD × Fin 4 × ℕ
abbrev UU : Type := UR sig nD τ × (URounds (GSem nD τ sig) ℕ × Release.USlots Key)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (Release.USlots Key) (MT nD τ sig ℕ (Elt F) ℕ UU ℕ) := Emb.inr.trans embR

/-! ## Buffers and slots -/

/-- The two-slot buffer of each channel. -/
def bufM : Fin 4 → Memref sig .tc .vmem S2x128x512 .bf16
  | 0 => Memref.whole cc0_scratch0
  | 1 => Memref.whole cc0_scratch1
  | 2 => Memref.whole cc0_scratch2
  | 3 => Memref.whole cc0_scratch3

/-- Slot `t mod 2`, as an offset. -/
def slotOff (t : ℕ) : Fin 3 → ℕ := ![t % 2, 0, 0]
/-- A slot lies inside its buffer. -/
theorem slotOff_inb (t : ℕ) : ∀ a, slotOff t a + S1x128x512.size a ≤ S2x128x512.size a := by
  intro a
  have := Nat.mod_lt t (show 0 < 2 by decide)
  fin_cases a
  · show t % 2 + 1 ≤ 2; omega
  · show 0 + 128 ≤ 128; omega
  · show 0 + 512 ≤ 512; omega

abbrev slotRect (t : ℕ) : Rect S2x128x512 := Rect.unit (s := S2x128x512) (slotOff t) S1x128x512.size (slotOff_inb t)

/-- Slot `t mod 2` of channel `ch`'s buffer, as a transfer names it. -/
abbrev slotM (ch : Fin 4) (t : ℕ) : Memref sig .tc .vmem S128x512 .bf16 :=
  ((bufM ch).slice (slotRect t) (fun _ => rfl)).squeeze S128x512 squeezes_S1x128x512_S128x512

/-- Transfers of the same parity use the same slot. -/
theorem slotM_congr (ch : Fin 4) {t t' : ℕ} (h : t % 2 = t' % 2) : slotM ch t = slotM ch t' := by
  have key : ∀ (off off' : Fin 3 → ℕ) (e : off = off') (i : ∀ a, off a + S1x128x512.size a ≤ S2x128x512.size a) (i' : ∀ a, off' a + S1x128x512.size a ≤ S2x128x512.size a),
      ((bufM ch).slice (Rect.unit (s := S2x128x512) off S1x128x512.size i) (fun _ => rfl)).squeeze S128x512 squeezes_S1x128x512_S128x512
        = ((bufM ch).slice (Rect.unit (s := S2x128x512) off' S1x128x512.size i') (fun _ => rfl)).squeeze S128x512 squeezes_S1x128x512_S128x512 := by
    rintro off _ rfl i i'; rfl
  exact key _ _ (by unfold slotOff; rw [h]) _ _

/-- A slice at a slot's offset, however the offset is written, is the slot. -/
theorem slotM_of_off (ch : Fin 4) (t : ℕ) (off : Fin 3 → ℕ) (inb : ∀ a, off a + S1x128x512.size a ≤ S2x128x512.size a) (h : off = slotOff t) :
    ((bufM ch).slice (Rect.unit (s := S2x128x512) off S1x128x512.size inb) (fun _ => rfl)).squeeze S128x512 squeezes_S1x128x512_S128x512 = slotM ch t := by
  subst h; rfl

/-- The elements of slot `t mod 2` among those of the channel's buffer. -/
def slotSet (ch : Fin 4) (t : ℕ) : Finset (bufM ch).view.ty.Idx := (slotRect t).set.map (bufM ch).view.emb
/-- The elements that a transfer of a slot touches are the slot's. -/
theorem slotM_set (ch : Fin 4) (t : ℕ) : (slotM ch t).view.set = slotSet ch t := (View.set_reshape _ _).trans (View.set_slice _ _)
/-- The elements that a load or a store of a slot touches are the slot's. -/
theorem access_set (ch : Fin 4) (t : ℕ) : ((bufM ch).access (slotRect t)).set = slotSet ch t := View.set_slice _ _

/-- A slot has an element. -/
theorem slotM_nonempty (ch : Fin 4) (t : ℕ) : (slotM ch t).view.set.Nonempty := by
  unfold View.set
  rw [Finset.map_nonempty]
  exact ⟨fun a => ⟨0, by revert a; decide⟩, Finset.mem_univ _⟩

/-- The two slots' boxes don't meet. -/
theorem slotRect_disjoint (t : ℕ) : Disjoint (slotRect t).set (slotRect (t + 1)).set := by
  refine Rect.unit_disjoint 0 ?_
  show t % 2 + 1 ≤ (t + 1) % 2 ∨ (t + 1) % 2 + 1 ≤ t % 2
  omega

/-- The two slots of a channel have no element in common. -/
theorem slot_disjoint (ch : Fin 4) (t : ℕ) :
    Disjoint (slotSet ch t) (slotSet ch (t + 1)) := by
  unfold slotSet
  rw [Finset.disjoint_map]
  exact slotRect_disjoint t

/-- The two slots of a channel are the whole buffer. -/
theorem slot_cover (ch : Fin 4) (t : ℕ) :
    slotSet ch t ∪ slotSet ch (t + 1) = (bufM ch).view.set := by
  unfold slotSet
  rw [← Finset.map_union]
  unfold View.set
  congr 1
  ext i
  simp only [Finset.mem_union, Finset.mem_univ, iff_true]
  have hi : (i 0).val < 2 := (i 0).isLt
  have key : ∀ u, u % 2 = (i 0).val → i ∈ (slotRect u).set := fun u hu => by
    refine Rect.mem_set_unit.mpr fun a => ?_
    fin_cases a
    · show u % 2 ≤ (i 0).val ∧ (i 0).val < u % 2 + 1; omega
    · have h3 : (i 1).val < 128 := (i 1).isLt
      show 0 ≤ (i 1).val ∧ (i 1).val < 0 + 128; omega
    · have h3 : (i 2).val < 512 := (i 2).isLt
      show 0 ≤ (i 2).val ∧ (i 2).val < 0 + 512; omega
  rcases Nat.lt_or_ge ((t % 2)) ((i 0).val) with h | h
  · right; exact key _ (by omega)
  · rcases Nat.lt_or_ge ((i 0).val) (t % 2) with h' | h'
    · right; exact key _ (by omega)
    · left; exact key _ (by omega)

/-! ## Slots held at a row of values -/

variable [∀ e, Nonempty (Elt F e)]

/-- A memref's elements on device `c` at share `q`, reading `x`. -/
def heldAt (c : Dev nD) (M : Memref sig .tc .vmem S128x512 .bf16) (q : PosShare TreeShare) (x : Vec F S128x512 .bf16) : sProp 𝕄 :=
  M.view.loc (c : Thread nD τ) ↦[M.view.set]{q} M.view.rep x

/-- Elements held at contents that read as `x` are held at `x`. -/
theorem heldAt_of_read (c : Dev nD) (M : Memref sig .tc .vmem S128x512 .bf16) (q : PosShare TreeShare) (x : Vec F S128x512 .bf16)
    (f : Buf (Elt F) (M.view.loc (c : Thread nD τ))) (h : M.view.read (Elt F) f = x) :
    (M.view.loc (c : Thread nD τ) ↦[M.view.set]{q} f : sProp 𝕄) = heldAt c M q x := by
  unfold heldAt
  refine pointsTo_congr fun i hi => ?_
  obtain ⟨y, -, rfl⟩ := Finset.mem_map.mp hi
  have h1 : M.view.read (Elt F) f y = M.view.read (Elt F) (M.view.rep x) y := by rw [h, View.read_rep]
  exact (cast_inj _).mp h1

instance heldAt_storable (c : Dev nD) (M : Memref sig .tc .vmem S128x512 .bf16) (q : PosShare TreeShare) (x : Vec F S128x512 .bf16) :
    BI.Storable (upEmb : UEmb _ 𝕄) (heldAt c M q x) := by unfold heldAt; infer_instance

end Cert.Ring
-- ==== Proof.Sched.lean ====
/-
  The schedule of the ring kernel's semaphores.

  Transfer `t` of a channel leaves slot `t mod 2` of the sender and lands in slot `(t + 1) mod 2` of the target.  Its source
  semaphore and its arrival semaphore are those of the two slots, and the transfer is round `t / 2` of each.  A credit
  semaphore has one round whose duties are the credits in order.  Every transfer and every credit carries as index its
  number plus two; the barrier's index is one, a source semaphore's is zero, and an index is its own level.
-/
module

public import proofs.«01_k».proof.Proof.Base

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [∀ e, Nonempty (Elt F e)]

local notation "𝕄" => MT nD τ sig ℕ (Elt F) ℕ UU ℕ

/-! ## The cells -/

/-- The source semaphore of slot `t mod 2`. -/
def sS (ch : Fin 4) (t : ℕ) : DmaSem sig := ⟨9 + 4 * ch.val + t % 2, by have := ch.isLt; show _ < 25; omega⟩
/-- The arrival semaphore of slot `t mod 2`. -/
def rS (ch : Fin 4) (t : ℕ) : DmaSem sig := ⟨11 + 4 * ch.val + t % 2, by have := ch.isLt; show _ < 25; omega⟩
/-- The credit semaphore. -/
def cS (ch : Fin 4) : Sem sig := ⟨ch.val, by have := ch.isLt; show _ < 5; omega⟩
/-- The barrier semaphore. -/
def bS : Sem sig := ⟨4, by decide⟩

abbrev sCell (ch : Fin 4) (t : ℕ) (c : Dev nD) : GSem nD τ sig := ((c : Thread nD τ), .dma (sS ch t))
abbrev rCell (ch : Fin 4) (t : ℕ) (c : Dev nD) : GSem nD τ sig := ((c : Thread nD τ), .dma (rS ch t))
abbrev cCell (ch : Fin 4) (c : Dev nD) : GSem nD τ sig := ((c : Thread nD τ), .reg (cS ch))
abbrev bCell (c : Dev nD) : GSem nD τ sig := ((c : Thread nD τ), .reg bS)

/-- Transfers of the same parity use the same source semaphore. -/
theorem sS_congr (ch : Fin 4) {t u : ℕ} (h : t % 2 = u % 2) : sS ch t = sS ch u := by unfold sS; simp only [h]
/-- Transfers of the same parity use the same arrival semaphore. -/
theorem rS_congr (ch : Fin 4) {t u : ℕ} (h : t % 2 = u % 2) : rS ch t = rS ch u := by unfold rS; simp only [h]

/-- Transfers of the same parity use the same source cell. -/
theorem sCell_congr (ch : Fin 4) (c : Dev nD) {t u : ℕ} (h : t % 2 = u % 2) : sCell ch t c = sCell ch u c := by unfold sCell; rw [sS_congr ch h]
/-- Transfers of the same parity use the same arrival cell. -/
theorem rCell_congr (ch : Fin 4) (c : Dev nD) {t u : ℕ} (h : t % 2 = u % 2) : rCell ch t c = rCell ch u c := by unfold rCell; rw [rS_congr ch h]

/-- What a semaphore is for. -/
inductive Role where
  | other
  | snd (ch : Fin 4) (s : ℕ)
  | rcv (ch : Fin 4) (s : ℕ)
  | crd (ch : Fin 4)
  | bar
deriving DecidableEq

/-- A semaphore's role, from its number. -/
def role : SemLoc sig → Role
  | .reg s => if h : s.val < 4 then .crd ⟨s.val, h⟩ else .bar
  | .dma s => if s.val < 9 then .other
      else if (s.val - 9) % 4 < 2 then .snd (Fin.ofNat 4 ((s.val - 9) / 4)) ((s.val - 9) % 4)
      else .rcv (Fin.ofNat 4 ((s.val - 9) / 4)) ((s.val - 9) % 4 - 2)

/-- A channel's credit semaphore has the role of its credits. -/
theorem role_c (ch : Fin 4) : role (.reg (cS ch)) = .crd ch := by revert ch; decide +kernel
/-- The barrier semaphore has the barrier's role. -/
theorem role_b : role (.reg bS) = .bar := rfl
/-- A source semaphore's role is its channel's and its slot's. -/
theorem role_s (ch : Fin 4) (t : ℕ) : role (.dma (sS ch t)) = .snd ch (t % 2) := by
  rcases Nat.mod_two_eq_zero_or_one t with h | h
  · rw [sS_congr ch (u := 0) h, h]; revert ch; decide +kernel
  · rw [sS_congr ch (u := 1) h, h]; revert ch; decide +kernel
/-- An arrival semaphore's role is its channel's and its slot's. -/
theorem role_r (ch : Fin 4) (t : ℕ) : role (.dma (rS ch t)) = .rcv ch (t % 2) := by
  rcases Nat.mod_two_eq_zero_or_one t with h | h
  · rw [rS_congr ch (u := 0) h, h]; revert ch; decide +kernel
  · rw [rS_congr ch (u := 1) h, h]; revert ch; decide +kernel

/-! ## What a device tells its neighbours -/

/-- Device `e`'s slot for transfer `t` of channel `ch` has been given up, and the round of its arrival semaphore that
    transfer belongs to is open. -/
def Rel (e : Dev nD) (ch : Fin 4) (t : ℕ) : sProp 𝕄 :=
  iprop(Release.released (ES (F := F)) (e, ch, (t + 1) % 2) (t / 2 + 1) ∗ reached (ER (F := F)) (rCell ch (t + 1) e) (t / 2))

instance Rel_persistent (e : Dev nD) (ch : Fin 4) (t : ℕ) : BI.Persistent (Rel (F := F) e ch t) := by unfold Rel; infer_instance
instance Rel_storable (e : Dev nD) (ch : Fin 4) (t : ℕ) : BI.Storable (upEmb : UEmb _ 𝕄) (Rel (F := F) e ch t) := by unfold Rel; infer_instance

/-- What a device that has reached the barrier says of one channel. -/
def Hello1 (e : Dev nD) (ch : Fin 4) : sProp 𝕄 := iprop(Rel e ch 0 ∗ reached (ER (F := F)) (cCell ch e) 0)
instance Hello1_persistent (e : Dev nD) (ch : Fin 4) : BI.Persistent (Hello1 (F := F) e ch) := by unfold Hello1; infer_instance
instance Hello1_storable (e : Dev nD) (ch : Fin 4) : BI.Storable (upEmb : UEmb _ 𝕄) (Hello1 (F := F) e ch) := by unfold Hello1; infer_instance

/-- What a device that has reached the barrier says. -/
def Hello (e : Dev nD) : sProp 𝕄 := iprop(Hello1 e 0 ∗ Hello1 e 1 ∗ Hello1 e 2 ∗ Hello1 e 3)

instance Hello_persistent (e : Dev nD) : BI.Persistent (Hello (F := F) e) := by unfold Hello; infer_instance
instance Hello_storable (e : Dev nD) : BI.Storable (upEmb : UEmb _ 𝕄) (Hello (F := F) e) := by unfold Hello; infer_instance

/-- A greeting speaks of every channel. -/
theorem Hello_at (e : Dev nD) (ch : Fin 4) : Hello (F := F) e ⊢ Hello1 e ch := by
  unfold Hello
  iintro ⟨#H0, #H1, #H2, #H3⟩
  fin_cases ch
  · iexact H0
  · iexact H1
  · iexact H2
  · iexact H3

/-! ## The schedule -/

/-- The units a transfer of one slot credits. -/
def N : ℕ := (slotM 0 0).view.dmaCredit
/-- Every transfer credits the same number of units. -/
theorem N_eq (ch : Fin 4) (t : ℕ) : (slotM ch t).view.dmaCredit = N := by
  fin_cases ch <;> rfl
/-- A transfer credits at least one unit. -/
theorem N_pos : 0 < N := View.dmaCredit_pos _ (by decide)

variable (X : Fin 4 → ℕ → Dev nD → Vec F S128x512 .bf16)

/-- The duties of a round, by role. -/
def dutiesOf (ρ : Role) (r : ℕ) : Finset ℕ :=
  match ρ with
  | .other => ∅
  | .snd ch s => if 2 * r + s < nS ch then {0} else ∅
  | .rcv ch s => if 2 * r + (1 - s) < nS ch then {0} else ∅
  | .crd ch => if r = 0 then Finset.range (nC ch) else ∅
  | .bar => if r = 0 then {0, 1} else ∅

/-- The units of a duty, by role. -/
def amountOf (ρ : Role) : ℕ :=
  match ρ with
  | .snd _ _ => N
  | .rcv _ _ => N
  | _ => 1

/-- Every duty has at least one unit. -/
theorem amountOf_pos (ρ : Role) : 0 < amountOf ρ := by
  cases ρ
  · exact Nat.one_pos
  · exact N_pos
  · exact N_pos
  · exact Nat.one_pos
  · exact Nat.one_pos

/-- What a duty hands to the cell's device, by role. -/
def payOf (c : Dev nD) (ρ : Role) (r d : ℕ) : sProp 𝕄 :=
  match ρ with
  | .other => iprop(emp)
  | .snd ch s => heldAt c (slotM ch s) fullShare.left (X ch (2 * r + s) c)
  | .rcv ch s => heldAt c (slotM ch s) fullShare (X ch (2 * r + (1 - s)) (src ch c))
  | .crd ch => iprop(Rel (tgt ch c) ch (d + 1) ∗ Rel (tgt ch c) ch d)
  | .bar => Hello (if d = 0 then right c else left c)

/-- The schedule: duties, units and payloads by role. -/
def Rd : Rounds.Schedule (GSem nD τ sig) ℕ 𝕄 where
  duties g r := if g.1.2 = .tc then dutiesOf (role g.2) r else ∅
  unitless _ := False
  amount g _ _ := amountOf (role g.2)
  payload g r d := payOf X g.1.1 (role g.2) r d
  amount_pos g _ _ _ := amountOf_pos (role g.2)

instance Rd_payload_storable (g : GSem nD τ sig) (r : ℕ) (d : ℕ) :
    BI.Storable (upEmb : UEmb _ 𝕄) ((Rd (F := F) X).payload g r d) := by
  show BI.Storable upEmb (payOf X g.1.1 (role g.2) r d)
  unfold payOf
  split <;> infer_instance

section Facts

variable (ch : Fin 4) (t : ℕ) (c : Dev nD)

/-- A transfer's number from its round and its slot. -/
theorem half_s : 2 * (t / 2) + t % 2 = t := by omega
/-- The same from the slot that it arrives in. -/
theorem half_r : 2 * (t / 2) + (1 - (t + 1) % 2) = t := by omega

/-- A source cell has one duty in the round of a transfer. -/
theorem duties_s (h : t < nS ch) : (Rd (F := F) X).duties (sCell ch t c) (t / 2) = {0} := by
  dsimp only [Rd]; rw [if_pos rfl, role_s]; unfold dutiesOf; dsimp only; rw [half_s, if_pos h]
/-- An arrival cell has one duty in the round of a transfer. -/
theorem duties_r (h : t < nS ch) : (Rd (F := F) X).duties (rCell ch (t + 1) c) (t / 2) = {0} := by
  dsimp only [Rd]; rw [if_pos rfl, role_r]; unfold dutiesOf; dsimp only; rw [half_r, if_pos h]
/-- A credit cell has one round, with a duty for every credit. -/
theorem duties_c : (Rd (F := F) X).duties (cCell ch c) 0 = Finset.range (nC ch) := by
  dsimp only [Rd]; rw [if_pos rfl, role_c]; unfold dutiesOf; dsimp only; rw [if_pos rfl]
/-- A barrier cell has one round, with a duty for each neighbour. -/
theorem duties_b : (Rd (F := F) X).duties (bCell c) 0 = {0, 1} := by
  dsimp only [Rd]; rw [if_pos rfl, role_b]; unfold dutiesOf; dsimp only; rw [if_pos rfl]

/-- A source cell has no duty after the last transfer. -/
theorem later_s (h : nS ch ≤ t) : ∀ r, t / 2 ≤ r → (Rd (F := F) X).duties (sCell ch t c) r = ∅ := fun r hr => by
  dsimp only [Rd]; rw [if_pos rfl, role_s]; unfold dutiesOf; dsimp only; rw [if_neg (by omega)]
/-- An arrival cell has no duty after the last transfer. -/
theorem later_r (h : nS ch ≤ t) : ∀ r, t / 2 ≤ r → (Rd (F := F) X).duties (rCell ch (t + 1) c) r = ∅ := fun r hr => by
  dsimp only [Rd]; rw [if_pos rfl, role_r]; unfold dutiesOf; dsimp only; rw [if_neg (by omega)]
/-- A credit cell has no duty after its round. -/
theorem later_c : ∀ r, 1 ≤ r → (Rd (F := F) X).duties (cCell ch c) r = ∅ := fun r hr => by
  dsimp only [Rd]; rw [if_pos rfl, role_c]; unfold dutiesOf; dsimp only; rw [if_neg (by omega)]
/-- A barrier cell has no duty after its round. -/
theorem later_b : ∀ r, 1 ≤ r → (Rd (F := F) X).duties (bCell c) r = ∅ := fun r hr => by
  dsimp only [Rd]; rw [if_pos rfl, role_b]; unfold dutiesOf; dsimp only; rw [if_neg (by omega)]

/-- A duty of a source cell is a transfer's units. -/
theorem amount_s (r d : ℕ) : (Rd (F := F) X).amount (sCell ch t c) r d = N := by dsimp only [Rd]; rw [role_s]; rfl
/-- A duty of an arrival cell is a transfer's units. -/
theorem amount_r (r d : ℕ) : (Rd (F := F) X).amount (rCell ch t c) r d = N := by dsimp only [Rd]; rw [role_r]; rfl
/-- A duty of a credit cell is one unit. -/
theorem amount_c (r d : ℕ) : (Rd (F := F) X).amount (cCell ch c) r d = 1 := by dsimp only [Rd]; rw [role_c]; rfl
/-- A duty of a barrier cell is one unit. -/
theorem amount_b (r d : ℕ) : (Rd (F := F) X).amount (bCell c) r d = 1 := by dsimp only [Rd]; rw [role_b]; rfl

/-- A source cell's round is a transfer's units. -/
theorem expect_s (h : t < nS ch) : (Rd (F := F) X).expect (sCell ch t c) (t / 2) = N := by
  unfold Schedule.expect Schedule.amountOf; rw [duties_s X ch t c h, Finset.sum_singleton, amount_s]
/-- An arrival cell's round is a transfer's units. -/
theorem expect_r (h : t < nS ch) : (Rd (F := F) X).expect (rCell ch (t + 1) c) (t / 2) = N := by
  unfold Schedule.expect Schedule.amountOf; rw [duties_r X ch t c h, Finset.sum_singleton, amount_r]
/-- A credit cell's round is as many units as there are credits. -/
theorem expect_c : (Rd (F := F) X).expect (cCell ch c) 0 = nC ch := by
  unfold Schedule.expect Schedule.amountOf
  rw [duties_c, Finset.sum_congr rfl fun d _ => amount_c X ch c 0 d, Finset.sum_const, Finset.card_range, smul_eq_mul, mul_one]
/-- A barrier cell's round is two units. -/
theorem expect_b : (Rd (F := F) X).expect (bCell c) 0 = 2 := by
  unfold Schedule.expect Schedule.amountOf
  rw [duties_b, Finset.sum_congr rfl fun d _ => amount_b X c 0 d]; rfl

/-- A slot is named by the parity alone. -/
theorem slotM_mod : slotM ch (t % 2) = slotM ch t := slotM_congr ch (by omega)

/-- A finished transfer gives back the half of its source slot that it read, with the contents sent. -/
theorem payload_s (d : ℕ) : (Rd (F := F) X).payload (sCell ch t c) (t / 2) d = heldAt c (slotM ch t) fullShare.left (X ch t c) := by
  show payOf X c (role (.dma (sS ch t))) (t / 2) d = _
  rw [role_s]; unfold payOf; dsimp only; rw [half_s, slotM_mod]
/-- An arrival hands over the slot it landed in, with the contents that the source sent. -/
theorem payload_r (d : ℕ) : (Rd (F := F) X).payload (rCell ch (t + 1) c) (t / 2) d
    = heldAt c (slotM ch (t + 1)) fullShare (X ch t (src ch c)) := by
  show payOf X c (role (.dma (rS ch (t + 1)))) (t / 2) d = _
  rw [role_r]; unfold payOf; dsimp only; rw [half_r, slotM_mod]
/-- A credit says that the target's slots for its own transfer and for the one before have been given up. -/
theorem payload_c (r d : ℕ) : (Rd (F := F) X).payload (cCell ch c) r d = iprop(Rel (tgt ch c) ch (d + 1) ∗ Rel (tgt ch c) ch d) := by
  show payOf X c (role (.reg (cS ch))) r d = _
  rw [role_c]; rfl
/-- The first signal of the barrier is the right neighbour's greeting. -/
theorem payload_b0 (r : ℕ) : (Rd (F := F) X).payload (bCell c) r 0 = Hello (right c) := rfl
/-- The second signal of the barrier is the left neighbour's greeting. -/
theorem payload_b1 (r : ℕ) : (Rd (F := F) X).payload (bCell c) r 1 = Hello (left c) := rfl

/-- All that a source cell's round hands over. -/
theorem rest_s (h : t < nS ch) : (bigSep ((Rd (F := F) X).duties (sCell ch t c) (t / 2) \ ∅) (fun d => (Rd X).payload (sCell ch t c) (t / 2) d) : sProp 𝕄)
    = heldAt c (slotM ch t) fullShare.left (X ch t c) := by
  rw [Finset.sdiff_empty, duties_s X ch t c h, bigSep_singleton, payload_s]
/-- All that an arrival cell's round hands over. -/
theorem rest_r (h : t < nS ch) : (bigSep ((Rd (F := F) X).duties (rCell ch (t + 1) c) (t / 2) \ ∅) (fun d => (Rd X).payload (rCell ch (t + 1) c) (t / 2) d) : sProp 𝕄)
    = heldAt c (slotM ch (t + 1)) fullShare (X ch t (src ch c)) := by
  rw [Finset.sdiff_empty, duties_r X ch t c h, bigSep_singleton, payload_r]
/-- All that a barrier cell's round hands over. -/
theorem rest_b : (bigSep ((Rd (F := F) X).duties (bCell c) 0 \ ∅) (fun d => (Rd X).payload (bCell c) 0 d) : sProp 𝕄)
    = iprop(Hello (right c) ∗ Hello (left c)) := by
  rw [Finset.sdiff_empty, duties_b, bigSep_insert (by decide), bigSep_singleton, payload_b0, payload_b1]; rfl

end Facts

/-! ## Levels, and what a device owes -/

/-- The indices a wait may be registered at. -/
def L (g : GSem nD τ sig) : Finset ℕ := if g.1.2 = .tc then Finset.range 40 else ∅
/-- An index is its own level. -/
def lv (_ : GSem nD τ sig) (i : ℕ) : ℕ := i
/-- The indices at which a wait on a device's cell may be registered. -/
theorem L_tc (c : Dev nD) (sm : SemLoc sig) : L ((c : Thread nD τ), sm) = Finset.range 40 := if_pos rfl

/-- What device `c` owes the arrival cells of channel `ch` from transfer `t` on. -/
def OS (ch : Fin 4) (t : ℕ) (c : Dev nD) : CellTallies nD τ sig ℕ :=
  ∑ j ∈ Finset.Ico t (nS ch), tallyAt (rCell ch (j + 1) (tgt ch c)) (j + 2) N
/-- What it owes the credit cell of the channel's source from credit `k` on. -/
def OC (ch : Fin 4) (k : ℕ) (c : Dev nD) : CellTallies nD τ sig ℕ :=
  ∑ j ∈ Finset.Ico k (nC ch), tallyAt (cCell ch (src ch c)) (j + 2) 1
/-- All it owes after the barrier: transfers from `t₀ … t₃`, credits from `k₀ … k₃`. -/
def OO (t₀ t₁ t₂ t₃ k₀ k₁ k₂ k₃ : ℕ) (c : Dev nD) : CellTallies nD τ sig ℕ :=
  OS 0 t₀ c + OS 1 t₁ c + OS 2 t₂ c + OS 3 t₃ c + (OC 0 k₀ c + OC 1 k₁ c + OC 2 k₂ c + OC 3 k₃ c)

/-- A range of numbers is its first and the rest. -/
theorem Ico_peel {t n : ℕ} (h : t < n) : Finset.Ico t n = insert t (Finset.Ico (t + 1) n) := by
  ext i; simp only [Finset.mem_Ico, Finset.mem_insert]; omega
/-- The first number is not among the rest. -/
theorem notMem_Ico (t n : ℕ) : t ∉ Finset.Ico (t + 1) n := fun h => by have := Finset.mem_Ico.mp h; omega

/-- What is owed of transfers from `t` on is transfer `t` and the rest. -/
theorem OS_peel {ch : Fin 4} {t : ℕ} (h : t < nS ch) (c : Dev nD) :
    OS ch t c = OS ch (t + 1) c + tallyAt (rCell ch (t + 1) (tgt ch c)) (t + 2) N := by
  unfold OS; rw [Ico_peel h, Finset.sum_insert (notMem_Ico _ _), add_comm]
/-- What is owed of credits from `k` on is credit `k` and the rest. -/
theorem OC_peel {ch : Fin 4} {k : ℕ} (h : k < nC ch) (c : Dev nD) :
    OC ch k c = OC ch (k + 1) c + tallyAt (cCell ch (src ch c)) (k + 2) 1 := by
  unfold OC; rw [Ico_peel h, Finset.sum_insert (notMem_Ico _ _), add_comm]
/-- After the last transfer none is owed. -/
theorem OS_end {ch : Fin 4} {t : ℕ} (h : nS ch ≤ t) (c : Dev nD) : OS ch t c = 0 := by
  unfold OS; rw [Finset.Ico_eq_empty_of_le h, Finset.sum_empty]
/-- After the last credit none is owed. -/
theorem OC_end {ch : Fin 4} {k : ℕ} (h : nC ch ≤ k) (c : Dev nD) : OC ch k c = 0 := by
  unfold OC; rw [Finset.Ico_eq_empty_of_le h, Finset.sum_empty]

/-- Where a sum of tallies is positive, one of them is. -/
theorem sum_tally_pos {s : Finset ℕ} {f : ℕ → CellTallies nD τ sig ℕ} {g : GSem nD τ sig} {u : ℕ} (h : 0 < (∑ j ∈ s, f j) g u) :
    ∃ j ∈ s, 0 < f j g u := by
  induction s using Finset.induction_on with
  | empty => exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨j, hj, h⟩ := ih h
      exact ⟨j, Finset.mem_insert_of_mem hj, h⟩

/-- A channel makes at most thirty-two transfers. -/
theorem nS_le (ch : Fin 4) : nS ch ≤ 32 := by revert ch; decide
/-- A channel gives at most thirty-two credits. -/
theorem nC_le (ch : Fin 4) : nC ch ≤ 32 := by revert ch; decide

/-- A tally is positive only at its own cell and index. -/
theorem tally_pos {g g' : GSem nD τ sig} {i u k : ℕ} (h : 0 < (tallyAt g' i k : CellTallies nD τ sig ℕ) g u) : g = g' ∧ u = i := by
  rw [tallyAt_apply] at h
  split at h
  · next hg => exact hg
  · exact absurd h (Nat.lt_irrefl 0)

/-- Transfers owed from `t` on have levels of at least `t + 2`. -/
theorem OS_pos {ch : Fin 4} {t : ℕ} {c : Dev nD} {g : GSem nD τ sig} {u : ℕ} (h : 0 < OS ch t c g u) :
    u ∈ L g ∧ t + 2 ≤ u := by
  obtain ⟨j, hj, h⟩ := sum_tally_pos h
  obtain ⟨rfl, rfl⟩ := tally_pos h
  have := Finset.mem_Ico.mp hj; have := nS_le ch
  rw [L_tc, Finset.mem_range]; omega
/-- Credits owed from `t` on have levels of at least `t + 2`. -/
theorem OC_pos {ch : Fin 4} {t : ℕ} {c : Dev nD} {g : GSem nD τ sig} {u : ℕ} (h : 0 < OC ch t c g u) :
    u ∈ L g ∧ t + 2 ≤ u := by
  obtain ⟨j, hj, h⟩ := sum_tally_pos h
  obtain ⟨rfl, rfl⟩ := tally_pos h
  have := Finset.mem_Ico.mp hj; have := nC_le ch
  rw [L_tc, Finset.mem_range]; omega

/-- All that is owed at or above step `b` has a level above `b + 1`. -/
theorem OO_pos {b t₀ t₁ t₂ t₃ k₀ k₁ k₂ k₃ : ℕ} {c : Dev nD} (hb : b ≤ t₀ ∧ b ≤ t₁ ∧ b ≤ t₂ ∧ b ≤ t₃ ∧ b ≤ k₀ ∧ b ≤ k₁ ∧ b ≤ k₂ ∧ b ≤ k₃)
    {g : GSem nD τ sig} {u : ℕ} (h : 0 < OO t₀ t₁ t₂ t₃ k₀ k₁ k₂ k₃ c g u) : u ∈ L g ∧ b + 2 ≤ u := by
  unfold OO at h
  simp only [Pi.add_apply, Finsupp.add_apply, Nat.add_pos_iff_pos_or_pos] at h
  rcases h with (((h | h) | h) | h) | (((h | h) | h) | h)
  · have := OS_pos h; exact ⟨this.1, by omega⟩
  · have := OS_pos h; exact ⟨this.1, by omega⟩
  · have := OS_pos h; exact ⟨this.1, by omega⟩
  · have := OS_pos h; exact ⟨this.1, by omega⟩
  · have := OC_pos h; exact ⟨this.1, by omega⟩
  · have := OC_pos h; exact ⟨this.1, by omega⟩
  · have := OC_pos h; exact ⟨this.1, by omega⟩
  · have := OC_pos h; exact ⟨this.1, by omega⟩

/-- A wait at index `i` is below all that is owed. -/
theorem mayWait_of (c : Dev nD) (sm : SemLoc sig) (i : ℕ) (hi : i < 40) (O : CellTallies nD τ sig ℕ)
    (h : ∀ g u, 0 < O g u → u ∈ L g ∧ i < u) :
    levAts L lv ⊢ (MayWait (c : Thread nD τ) sm i O : sProp 𝕄) :=
  MayOwe.of_cut (L := L) (lev := lv) i
    (fun p hp => by rw [Finset.mem_singleton.mp hp, L_tc]; exact Finset.mem_range.mpr hi)
    (fun g u hg => (h g u hg).1)
    (fun p hp => by rw [Finset.mem_singleton.mp hp]; exact le_rfl)
    (fun g u hg => (h g u hg).2)

end Cert.Ring
-- ==== Proof.Steps.lean ====
/-
  One step of each kind on a channel: starting a transfer, waiting for its source, waiting for an arrival, giving a
  credit, waiting for a credit.  Each is stated once for every channel, step and device, over any memrefs and semaphores
  equal to the channel's.
-/
module

public import proofs.«01_k».proof.Proof.Sched

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig ℕ (Elt F) ℕ UU ℕ

/-- No variants: nothing of the program recurs. -/
abbrev 𝒱₀ : Variants := Variants.none

/-! ## The cells of a launch and their records -/

/-- The semaphores the kernel scopes: the four credit semaphores, then the sixteen transfer semaphores. -/
def osem0 (k : Fin 20) : SemLoc sig :=
  if h : k.val < 4 then .reg ⟨k.val, by show _ < 5; omega⟩ else .dma ⟨k.val + 5, by have := k.isLt; show _ < 25; omega⟩

/-- No two scoped semaphores are the same. -/
theorem osem0_inj : Function.Injective osem0 := by decide +kernel

/-- A device's barrier cell. -/
def bEmb : Dev nD ↪ GSem nD τ sig := ⟨bCell, fun a b h => Fin.ext (congrArg (fun g : GSem nD τ sig => g.1.1.val) h)⟩
/-- A device's scoped cells. -/
def oEmb : Dev nD × Fin 20 ↪ GSem nD τ sig := ⟨fun p => ((p.1 : Thread nD τ), osem0 p.2), fun a b h =>
  Prod.ext (Fin.ext (congrArg (fun g : GSem nD τ sig => g.1.1.val) h)) (osem0_inj (congrArg Prod.snd h))⟩
/-- The barrier cells. -/
def bCells : Finset (GSem nD τ sig) := Finset.univ.map bEmb
/-- The scoped cells. -/
def oCells : Finset (GSem nD τ sig) := Finset.univ.map oEmb
/-- The slots. -/
def keys : Finset Key := Finset.univ ×ˢ (Finset.univ ×ˢ Finset.range 2)

/-- A barrier cell is a cell of the launch. -/
theorem mem_b (c : Dev nD) : bCell c ∈ bCells ∪ oCells :=
  Finset.mem_union_left _ (Finset.mem_map_of_mem bEmb (Finset.mem_univ c))
/-- A cell of a scoped semaphore is a cell of the launch. -/
theorem mem_o (c : Dev nD) (k : Fin 20) {sm : SemLoc sig} (h : osem0 k = sm) : ((c : Thread nD τ), sm) ∈ bCells ∪ oCells := by
  subst h; exact Finset.mem_union_right _ (Finset.mem_map_of_mem oEmb (Finset.mem_univ (c, k)))
/-- A credit cell is a cell of the launch. -/
theorem mem_c (ch : Fin 4) (c : Dev nD) : cCell ch c ∈ bCells ∪ oCells :=
  mem_o c ⟨ch.val, by omega⟩ (by unfold osem0; rw [dif_pos ch.isLt]; rfl)
/-- A source cell is a cell of the launch. -/
theorem mem_s (ch : Fin 4) (t : ℕ) (c : Dev nD) : sCell ch t c ∈ bCells ∪ oCells :=
  mem_o c ⟨4 * ch.val + t % 2 + 4, by omega⟩ (by
    unfold osem0 sS; rw [dif_neg (by show ¬ (4 * ch.val + t % 2 + 4 < 4); omega)]
    refine congrArg SemLoc.dma (Fin.ext ?_); show 4 * ch.val + t % 2 + 4 + 5 = 9 + 4 * ch.val + t % 2; omega)
/-- An arrival cell is a cell of the launch. -/
theorem mem_r (ch : Fin 4) (t : ℕ) (c : Dev nD) : rCell ch t c ∈ bCells ∪ oCells :=
  mem_o c ⟨4 * ch.val + t % 2 + 6, by omega⟩ (by
    unfold osem0 rS; rw [dif_neg (by show ¬ (4 * ch.val + t % 2 + 6 < 4); omega)]
    refine congrArg SemLoc.dma (Fin.ext ?_); show 4 * ch.val + t % 2 + 6 + 5 = 11 + 4 * ch.val + t % 2; omega)

/-- A slot's elements on its device, at contents not chosen. -/
def slotAny (c : Dev nD) (ch : Fin 4) (t : ℕ) : sProp 𝕄 :=
  Release.slot ((slotM ch t).view.loc (c : Thread nD τ)) (slotM ch t).view.set
/-- The same, by the slot's key. -/
def Sl (k : Key) : sProp 𝕄 := slotAny k.1 k.2.1 k.2.2

instance Sl_storable (k : Key) : BI.Storable (upEmb : UEmb _ 𝕄) (Sl (F := F) k) := by unfold Sl slotAny; infer_instance

/-- Transfers of the same parity use the same slot, at any contents. -/
theorem slotAny_congr (c : Dev nD) (ch : Fin 4) {t u : ℕ} (h : t % 2 = u % 2) : slotAny (F := F) c ch t = slotAny c ch u := by
  unfold slotAny; rw [slotM_congr ch h]
/-- The slot of a key, by a transfer that uses it. -/
theorem Sl_at (c : Dev nD) (ch : Fin 4) (t : ℕ) : Sl (F := F) (c, ch, t % 2) = slotAny c ch t := slotAny_congr c ch (by show t % 2 % 2 = t % 2; omega)
/-- A slot held at some contents is held at contents not chosen. -/
theorem heldAt_any (c : Dev nD) (ch : Fin 4) (t : ℕ) (x : Vec F S128x512 .bf16) :
    heldAt c (slotM ch t) fullShare x ⊢ slotAny c ch t := by
  unfold heldAt slotAny Release.slot
  iintro H; iexists _; iexact H

variable (X : Fin 4 → ℕ → Dev nD → Vec F S128x512 .bf16) (κ : GSem nD τ sig → ℕ) (ιs : Key → ℕ)

/-- The invariants of all cells and slots, and that every barrier cell is open. -/
def Recs : sProp 𝕄 :=
  iprop((bigSep (bCells ∪ oCells) fun g => cellInv ER (Rd X) (κ g) g) ∗ (bigSep keys fun k => Release.slotInv (ES (F := F)) (ιs k) k (Sl k))
    ∗ (bigSep bCells fun g => reached ER g 0))

instance Recs_persistent : BI.Persistent (Recs X κ ιs) := by unfold Recs; infer_instance

/-- The records hold every cell's invariant. -/
theorem Recs_cell {g : GSem nD τ sig} (h : g ∈ bCells ∪ oCells) : Recs X κ ιs ⊢ cellInv ER (Rd X) (κ g) g := by
  unfold Recs; iintro ⟨#H, -, -⟩
  have e : (bigSep (bCells ∪ oCells) fun g => (cellInv ER (Rd X) (κ g) g : sProp 𝕄)) ⊢ cellInv ER (Rd X) (κ g) g := bigSep_elim h
  iapply e; iexact H
/-- The records hold every slot's invariant. -/
theorem Recs_slot (c : Dev nD) (ch : Fin 4) (t : ℕ) :
    Recs X κ ιs ⊢ Release.slotInv (ES (F := F)) (ιs (c, ch, t % 2)) (c, ch, t % 2) (Sl (c, ch, t % 2)) := by
  unfold Recs; iintro ⟨-, #H, -⟩
  have e : (bigSep keys fun k => (Release.slotInv (ES (F := F)) (ιs k) k (Sl k) : sProp 𝕄))
      ⊢ Release.slotInv (ES (F := F)) (ιs (c, ch, t % 2)) (c, ch, t % 2) (Sl (c, ch, t % 2)) :=
    bigSep_elim (by unfold keys; simp only [Finset.mem_product, Finset.mem_univ, Finset.mem_range, true_and]; omega)
  iapply e; iexact H
/-- The records say that every barrier cell is open. -/
theorem Recs_bar (c : Dev nD) : Recs X κ ιs ⊢ reached (ER (F := F)) (bCell c) 0 := by
  unfold Recs; iintro ⟨-, -, #H⟩
  have e : (bigSep bCells fun g => (reached ER g 0 : sProp 𝕄)) ⊢ reached (ER (F := F)) (bCell c) 0 :=
    bigSep_elim (Finset.mem_map_of_mem bEmb (Finset.mem_univ c))
  iapply e; iexact H

/-! ## What a device holds of a channel between its steps -/

omit [FloatOps F] [∀ e, Nonempty (Elt F e)] in
/-- A resource for each number of a range is that of the first and those of the rest. -/
theorem bigSep_peel {t n : ℕ} (h : t < n) (Φ : ℕ → sProp 𝕄) :
    bigSep (Finset.Ico t n) Φ = iprop(Φ t ∗ bigSep (Finset.Ico (t + 1) n) Φ) := by
  rw [Ico_peel h, bigSep_insert (notMem_Ico _ _)]; rfl

/-- Its place on the two source semaphores, transfer `t` next. -/
def SP (ch : Fin 4) (t : ℕ) (c : Dev nD) : sProp 𝕄 :=
  iprop((atPos (ER (F := F)) (sCell ch t c) (t / 2) ∅ 0 ∗ reached (ER (F := F)) (sCell ch t c) (t / 2))
    ∗ (atPos (ER (F := F)) (sCell ch (t + 1) c) ((t + 1) / 2) ∅ 0 ∗ reached (ER (F := F)) (sCell ch (t + 1) c) ((t + 1) / 2)))

/-- The rights to start transfers from `t` on. -/
def ST (ch : Fin 4) (t : ℕ) (c : Dev nD) : sProp 𝕄 :=
  bigSep (Finset.Ico t (nS ch)) fun j => iprop(dutyTok (ER (F := F)) (sCell ch j c) (j / 2) 0
    ∗ dutyTok (ER (F := F)) (rCell ch (j + 1) (tgt ch c)) (j / 2) 0
    ∗ Release.writeTok (ES (F := F)) (tgt ch c, ch, (j + 1) % 2) (j / 2 + 1))

/-- Its place on the two arrival semaphores, arrival `u` next. -/
def RP (ch : Fin 4) (u : ℕ) (c : Dev nD) : sProp 𝕄 :=
  iprop((atPos (ER (F := F)) (rCell ch (u + 1) c) (u / 2) ∅ 0 ∗ reached (ER (F := F)) (rCell ch (u + 1) c) (u / 2))
    ∗ (atPos (ER (F := F)) (rCell ch (u + 2) c) ((u + 1) / 2) ∅ 0 ∗ reached (ER (F := F)) (rCell ch (u + 2) c) ((u + 1) / 2)))

/-- What entitles it to wait for arrivals from `u` on. -/
def RC (ch : Fin 4) (u : ℕ) (c : Dev nD) : sProp 𝕄 :=
  bigSep (Finset.Ico u (nS ch)) fun j => cred (tallyAt (rCell ch (j + 1) c) (j + 2) N)

/-- What a credit says. -/
def CPay (ch : Fin 4) (c : Dev nD) (d : ℕ) : sProp 𝕄 := iprop(Rel (F := F) (tgt ch c) ch (d + 1) ∗ Rel (tgt ch c) ch d)
instance CPay_persistent (ch : Fin 4) (c : Dev nD) (d : ℕ) : BI.Persistent (CPay (F := F) ch c d) := by unfold CPay; infer_instance

/-- Its place on its credit semaphore, credit `j` next, and what entitles it to wait for credits from `j` on. -/
def CW (ch : Fin 4) (j : ℕ) (c : Dev nD) : sProp 𝕄 :=
  iprop((bigSep (Finset.Ico j (nC ch)) fun i => cred (tallyAt (cCell ch c) (i + 2) 1))
    ∗ (if j < nC ch then iprop(∃ S : Finset ℕ, ⌜S ⊆ Finset.range (nC ch)⌝ ∗ atPos (ER (F := F)) (cCell ch c) 0 S j ∗ bigSep S (CPay ch c))
      else atPos (ER (F := F)) (cCell ch c) 1 ∅ 0))

/-- The rights to give credits from `k` on, the slots' release counts, and what was released last. -/
def CT (ch : Fin 4) (k : ℕ) (c : Dev nD) : sProp 𝕄 :=
  iprop((bigSep (Finset.Ico k (nC ch)) fun i => dutyTok (ER (F := F)) (cCell ch (src ch c)) 0 i)
    ∗ (Release.readerAt (ES (F := F)) (c, ch, k % 2) ((k + 1) / 2) ∗ Release.readerAt (ES (F := F)) (c, ch, (k + 1) % 2) ((k + 2) / 2))
    ∗ Rel c ch k)

omit [FloatOps F] [∀ e, Nonempty (Elt F e)] in
/-- A slot that has been given up for a transfer was given up for the earlier ones that use it. -/
theorem Rel_mono (e : Dev nD) (ch : Fin 4) {t u : ℕ} (h : u ≤ t) (hp : t % 2 = u % 2) : Rel (F := F) e ch t ⊢ Rel e ch u := by
  unfold Rel
  rw [show (t + 1) % 2 = (u + 1) % 2 by omega, rCell_congr ch e (show (t + 1) % 2 = (u + 1) % 2 by omega)]
  iintro ⟨#H1, #H2⟩
  isplitr
  · iapply (Release.released_mono (ES (F := F)) (show u / 2 + 1 ≤ t / 2 + 1 by omega)); iexact H1
  · iapply (reached_mono (ER (F := F)) (show u / 2 ≤ t / 2 by omega)); iexact H2

/-- A device's place on its arrival semaphores says which round the other slot's has reached. -/
theorem RP_reached (ch : Fin 4) (u : ℕ) (c : Dev nD) :
    RP (F := F) ch u c ⊢ iprop(RP (F := F) ch u c ∗ reached (ER (F := F)) (rCell ch (u + 2) c) ((u + 1) / 2)) := by
  unfold RP
  iintro ⟨⟨H1, #H2⟩, ⟨H3, #H4⟩⟩
  isplitl [H1 H3]
  · isplitl [H1]
    · isplitl [H1]; · iexact H1
      iexact H2
    isplitl [H3]; · iexact H3
    iexact H4
  iexact H4

/-! ## The steps -/

section Steps

variable (ch : Fin 4) (c : Dev nD) (t : ℕ) {α : Type}

/-- Starting transfer `t`: half of the source slot stays with the device. -/
theorem step_send (ht : t < nS ch) {srcM dstM : Memref sig .tc .vmem S128x512 .bf16} (hs : srcM = slotM ch t) (hd : dstM = slotM ch (t + 1))
    {ss rs : DmaSem sig} (hss : ss = sS ch t) (hrs : rs = rS ch (t + 1)) {dev : Dev nD} (hdev : dev = tgt ch c)
    {hsc : dstM.view.ref.isScScratch = false} {hsrc : srcM.view.WordExact} {hdst : dstM.view.WordExact}
    {hsem : DmaTarget.Typed .vmem (.dma rs) (.remote (dev : Thread nD τ) dstM (.dma ss) hsc)}
    {k : PUnit → Prog (TpuEff nD τ sig (Elt F) Λ₀ .tc) α} {Kt : α → sProp 𝕄}
    {O₀ : CellTallies nD τ sig ℕ} (O : CellTallies nD τ sig ℕ) (hO : O₀ = O + tallyAt (rCell ch (t + 1) (tgt ch c)) (t + 2) N) {W : Waits sig ℕ} :
    iprop(Recs X κ ιs ∗ Rel (tgt ch c) ch t ∗ SP ch t c ∗ ST ch t c ∗ heldAt c (slotM ch t) fullShare (X ch t c) ∗ owes (c : Thread nD τ) O₀ W)
      ⊢ iprop(((SP ch t c ∗ ST ch (t + 1) c ∗ heldAt c (slotM ch t) fullShare.right (X ch t c) ∗ cred (tallyAt (sCell ch t c) 0 N)
              ∗ owes (c : Thread nD τ) O W) -∗ wp frame (wpE (defs₀ (F := F)) 𝒱₀ c none) Set.univ (k ⟨⟩) Kt)
          -∗ wp frame (wpE (defs₀ (F := F)) 𝒱₀ c none) Set.univ (.op (.enqueueDma srcM (.remote (dev : Thread nD τ) dstM (.dma ss) hsc) (.dma rs) hsrc hdst hsem) k) Kt) := by
  subst hs hd hss hrs hdev
  unfold Rel ST heldAt
  rw [bigSep_peel ht]
  iintro ⟨#HR, #HRel, HSP, HST, Hx, HO⟩ Hk
  icases HRel with ⟨#Hrel, #Hrd⟩
  icases HST with ⟨⟨Ht1, Ht2, Hw⟩, HST⟩
  unfold SP
  icases HSP with ⟨⟨Ha, #Hra⟩, HSP2⟩
  ihave #HI := (Recs_slot X κ ιs (tgt ch c) ch (t + 1)) $$ HR
  imod (Release.slot_take (ES (F := F)) (Set.mem_univ _) (t / 2 + 1)) $$ [Hw] with HS
  · isplitr; · iexact HI
    isplitr; · iexact Hrel
    iexact Hw
  ihave HS1 := (Entails.of_eq (Sl_at (F := F) (tgt ch c) ch (t + 1))) $$ HS
  unfold slotAny Release.slot
  icases HS1 with ⟨%fd, HS⟩
  ihave Hx2 := (pointsTo_share (PosShare.mem_left_op_right fullShare)).1 $$ Hx
  icases Hx2 with ⟨Hxl, Hxr⟩
  iapply (Rounds.wp_send_pointsTo 𝒱₀ ER (Rd X) (c : Thread nD τ) none (c' := (tgt ch c : Thread nD τ)) (src := slotM ch t) (dst := slotM ch (t + 1))
      (sS := .dma (sS ch t)) (sem := .dma (rS ch (t + 1))) (q := fullShare.left) (fs := (slotM ch t).view.rep (X ch t c)) (fd := fd)
      (κ₁ := κ (sCell ch t c)) (κ₂ := κ (rCell ch (t + 1) (tgt ch c))) (r₁ := t / 2) (r₂ := t / 2) (d₁ := 0) (d₂ := 0)
      (by rw [duties_s X ch t c ht]; exact Finset.mem_singleton_self _) (by rw [duties_r X ch t _ ht]; exact Finset.mem_singleton_self _)
      (t + 2) 0 N (N_eq ch (t + 1)) (amount_s X ch t c _ _) (amount_r X ch (t + 1) _ _ _) O hO
      (by rw [payload_s]; exact .rfl)
      (by
        rw [payload_r, src_tgt, heldAt_of_read _ _ _ (X ch t c) _ (by rw [View.read_write_univ, View.read_rep])])) $$ [Hxl HS HO Ht1 Ht2]
  · isplitr; · iapply (Recs_cell X κ ιs (mem_s ch t c)); iexact HR
    isplitr; · iapply (Recs_cell X κ ιs (mem_r ch (t + 1) (tgt ch c))); iexact HR
    isplitl [Hxl]; · iexact Hxl
    isplitl [HS]; · iexact HS
    isplitl [HO]; · iexact HO
    isplitl [Ht1]; · iexact Ht1
    isplitr; · iexact Hra
    isplitl [Ht2]; · iexact Ht2
    iexact Hrd
  iintro ⟨Hc, HO⟩
  iapply Hk
  isplitl [Ha HSP2]
  · isplitl [Ha]
    · isplitl [Ha]; · iexact Ha
      iexact Hra
    iexact HSP2
  isplitl [HST]; · iexact HST
  isplitl [Hxr]; · iexact Hxr
  isplitl [Hc]; · iexact Hc
  iexact HO

/-- Waiting for the source of transfer `t`: the slot is whole again. -/
theorem step_swait (ht : t < nS ch) {ss : DmaSem sig} (hss : ss = sS ch t)
    {srcM dstM : Memref sig .tc .vmem S128x512 .bf16} (hN : dstM.view.dmaCredit = N)
    {hsrc : srcM.view.WordExact} {hdst : dstM.view.WordExact}
    {k : PUnit → Prog (TpuEff nD τ sig (Elt F) Λ₀ .tc) α} {Kt : α → sProp 𝕄} {O : CellTallies nD τ sig ℕ} (hO : ∀ g u, 0 < O g u → u ∈ L g ∧ 0 < u) {W : Waits sig ℕ} :
    iprop(Recs X κ ιs ∗ levAts L lv ∗ SP ch t c ∗ cred (tallyAt (sCell ch t c) 0 N) ∗ heldAt c (slotM ch t) fullShare.right (X ch t c) ∗ owes (c : Thread nD τ) O W)
      ⊢ iprop(((SP ch (t + 1) c ∗ heldAt c (slotM ch t) fullShare (X ch t c) ∗ owes (c : Thread nD τ) O (insert (.dma (sS ch t), 0) W))
            -∗ wp frame (wpE (defs₀ (F := F)) 𝒱₀ c none) Set.univ (k ⟨⟩) Kt)
          -∗ wp frame (wpE (defs₀ (F := F)) 𝒱₀ c none) Set.univ (.op (.waitDma2 ss srcM dstM hsrc hdst) k) Kt) := by
  subst hss
  iintro ⟨#HR, #Hlev, HSP, Hc, Hxr, HO⟩ Hk
  unfold SP
  icases HSP with ⟨⟨Ha, #Hra⟩, ⟨Ha', #Hra'⟩⟩
  iapply (Rounds.wp_wait_rest_token 𝒱₀ ER (Rd X) (c : Thread nD τ) none (κ := κ (sCell ch t c)) (sm := .dma (sS ch t)) (k' := N)
      (fun K => by rw [wpE_waitDma2_eq 𝒱₀ (c : Thread nD τ) none Set.univ, hN]) (Set.mem_univ _) 0 (O := O) (W := W) (R := t / 2) (m := 0) (T := ∅)
      (by rw [expect_s X ch t c ht, Nat.zero_add])) $$ [Hc HO Ha]
  · isplitr; · iapply (Recs_cell X κ ιs (mem_s ch t c)); iexact HR
    isplitl [Hc]; · iexact Hc
    isplitl [HO]; · iexact HO
    isplitr; · iapply (mayWait_of c _ 0 (by decide) O hO); iexact Hlev
    iexact Ha
  rw [rest_s X ch t c ht, show t / 2 + 1 = (t + 1 + 1) / 2 by omega, sS_congr ch (show t % 2 = (t + 1 + 1) % 2 by omega)]
  iintro ⟨HO, Ha, #Hra2, Hxl⟩
  iapply Hk
  isplitl [Ha Ha']
  · isplitl [Ha']
    · isplitl [Ha']; · iexact Ha'
      iexact Hra'
    · isplitl [Ha]; · iexact Ha
      iexact Hra2
  isplitl [Hxl Hxr]
  · unfold heldAt
    iapply (pointsTo_share (PosShare.mem_left_op_right fullShare)).2
    isplitl [Hxl] <;> iassumption
  iexact HO

/-- Waiting for arrival `t`: the slot it came to, at what the source sent. -/
theorem step_rwait (ht : t < nS ch) {rs : DmaSem sig} (hrs : rs = rS ch (t + 1))
    {srcM dstM : Memref sig .tc .vmem S128x512 .bf16} (hN : dstM.view.dmaCredit = N)
    {hsrc : srcM.view.WordExact} {hdst : dstM.view.WordExact}
    {k : PUnit → Prog (TpuEff nD τ sig (Elt F) Λ₀ .tc) α} {Kt : α → sProp 𝕄} {O : CellTallies nD τ sig ℕ} (hO : ∀ g u, 0 < O g u → u ∈ L g ∧ t + 2 < u) {W : Waits sig ℕ} :
    iprop(Recs X κ ιs ∗ levAts L lv ∗ RP ch t c ∗ RC ch t c ∗ owes (c : Thread nD τ) O W)
      ⊢ iprop(((RP ch (t + 1) c ∗ RC ch (t + 1) c ∗ heldAt c (slotM ch (t + 1)) fullShare (X ch t (src ch c))
              ∗ owes (c : Thread nD τ) O (insert (.dma (rS ch (t + 1)), t + 2) W))
            -∗ wp frame (wpE (defs₀ (F := F)) 𝒱₀ c none) Set.univ (k ⟨⟩) Kt)
          -∗ wp frame (wpE (defs₀ (F := F)) 𝒱₀ c none) Set.univ (.op (.waitDma2 rs srcM dstM hsrc hdst) k) Kt) := by
  subst hrs
  unfold RC
  rw [bigSep_peel ht]
  iintro ⟨#HR, #Hlev, HRP, HRC, HO⟩ Hk
  icases HRC with ⟨Hc, HRC⟩
  unfold RP
  icases HRP with ⟨⟨Ha, #Hra⟩, ⟨Ha', #Hra'⟩⟩
  iapply (Rounds.wp_wait_rest_token 𝒱₀ ER (Rd X) (c : Thread nD τ) none (κ := κ (rCell ch (t + 1) c)) (sm := .dma (rS ch (t + 1))) (k' := N)
      (fun K => by rw [wpE_waitDma2_eq 𝒱₀ (c : Thread nD τ) none Set.univ, hN]) (Set.mem_univ _) (t + 2) (O := O) (W := W) (R := t / 2) (m := 0) (T := ∅)
      (by rw [expect_r X ch t c ht, Nat.zero_add])) $$ [Hc HO Ha]
  · isplitr; · iapply (Recs_cell X κ ιs (mem_r ch (t + 1) c)); iexact HR
    isplitl [Hc]; · iexact Hc
    isplitl [HO]; · iexact HO
    isplitr; · iapply (mayWait_of c _ (t + 2) (by have := nS_le ch; omega) O hO); iexact Hlev
    iexact Ha
  rw [rest_r X ch t c ht, show t / 2 + 1 = (t + 1 + 1) / 2 by omega]
  iintro ⟨HO, Ha, #Hra2, Hx⟩
  iapply Hk
  isplitl [Ha Ha']
  · isplitl [Ha']
    · isplitl [Ha']; · iexact Ha'
      iexact Hra'
    · rw [rCell_congr ch c (show (t + 1 + 2) % 2 = (t + 1) % 2 by omega)]
      isplitl [Ha]; · iexact Ha
      iexact Hra2
  isplitl [HRC]; · iexact HRC
  isplitl [Hx]; · iexact Hx
  iexact HO

/-- Giving credit `t`: slot `t mod 2` is given up to the source. -/
theorem step_credit (ht : t < nC ch) {cs : Sem sig} (hcs : cs = cS ch) {dev : Dev nD} (hdev : dev = src ch c) {z : ℤ} (hz : z = ((1 : ℕ) : ℤ))
    {k : PUnit → Prog (TpuEff nD τ sig (Elt F) Λ₀ .tc) α} {Kt : α → sProp 𝕄}
    {O₀ : CellTallies nD τ sig ℕ} (O : CellTallies nD τ sig ℕ) (hO : O₀ = O + tallyAt (cCell ch (src ch c)) (t + 2) 1) {W : Waits sig ℕ} :
    iprop(Recs X κ ιs ∗ Hello1 (src ch c) ch ∗ RP ch t c ∗ CT ch t c ∗ slotAny c ch t ∗ owes (c : Thread nD τ) O₀ W)
      ⊢ iprop(((RP ch t c ∗ CT ch (t + 1) c ∗ owes (c : Thread nD τ) O W) -∗ wp frame (wpE (defs₀ (F := F)) 𝒱₀ c none) Set.univ (k ⟨⟩) Kt)
          -∗ wp frame (wpE (defs₀ (F := F)) 𝒱₀ c none) Set.univ (.op (.semSignal (dev : Thread nD τ) cs z) k) Kt) := by
  subst hcs hdev hz
  unfold CT Hello1
  rw [bigSep_peel ht]
  iintro ⟨#HR, #Hh, HRP, HCT, Hs, HO⟩ Hk
  icases Hh with ⟨-, #Hc⟩
  ihave HRP2 := (RP_reached ch t c) $$ HRP
  icases HRP2 with ⟨HRP, #Hrd⟩
  icases HCT with ⟨⟨Htok, HCT⟩, ⟨Hr, Hr'⟩, #HRel⟩
  ihave #HI := (Recs_slot X κ ιs c ch t) $$ HR
  imod (Release.slot_release (ES (F := F)) (Set.mem_univ _) (S := Sl (c, ch, t % 2)) (Release.slot_slot_false (slotM_nonempty ch _)) ((t + 1) / 2)) $$ [Hr Hs] with ⟨Hr, #Hrel⟩
  · isplitr; · iexact HI
    isplitl [Hr]; · iexact Hr
    rw [Sl_at]; iexact Hs
  ihave #HRel' : Rel c ch (t + 1) $$ []
  · unfold Rel
    rw [show (t + 1 + 1) % 2 = t % 2 by omega]
    isplitr; · iexact Hrel
    iexact Hrd
  iapply (Rounds.wp_signal 𝒱₀ ER (Rd X) (c : Thread nD τ) none (dst := (src ch c : Thread nD τ)) (sem := cS ch) (r := 0) (d := t) (k' := 1)
      (κ := κ (cCell ch (src ch c))) (by rw [duties_c]; exact Finset.mem_range.mpr ht) (amount_c X ch _ _ _) (t + 2) O hO) $$ [HO Htok]
  · isplitr; · iapply (Recs_cell X κ ιs (mem_c ch (src ch c))); iexact HR
    isplitl [HO]; · iexact HO
    isplitl [Htok]; · iexact Htok
    isplitr
    · rw [payload_c, tgt_src]
      isplitr; · iexact HRel'
      iexact HRel
    iexact Hc
  iintro HO
  iapply Hk
  isplitl [HRP]; · iexact HRP
  isplitl [HCT Hr Hr']
  · isplitl [HCT]; · iexact HCT
    isplitl [Hr Hr']
    · isplitl [Hr']; · iexact Hr'
      rw [show (t + 1 + 1) % 2 = t % 2 by omega, show (t + 1) / 2 + 1 = (t + 1 + 2) / 2 by omega]
      iexact Hr
    iexact HRel'
  iexact HO

omit [FloatOps F] [∀ e, Nonempty (Elt F e)] in
/-- Some credit no earlier than `j` says what credit `j` was to say. -/
theorem CPay_use {S : Finset ℕ} {d j : ℕ} (hd : d ∈ S) (hj : j ≤ d) : bigSep S (CPay (F := F) ch c) ⊢ Rel (tgt ch c) ch (j + 1) := by
  have e : bigSep S (CPay (F := F) ch c) ⊢ CPay (F := F) ch c d := bigSep_elim hd
  refine e.trans ?_
  unfold CPay
  by_cases h : d % 2 = j % 2
  · iintro ⟨#H, -⟩
    iapply (Rel_mono (tgt ch c) ch (show j + 1 ≤ d + 1 by omega) (by omega)); iexact H
  · iintro ⟨-, #H⟩
    iapply (Rel_mono (tgt ch c) ch (show j + 1 ≤ d by omega) (by omega)); iexact H

omit [FloatOps F] [∀ e, Nonempty (Elt F e)] in
/-- What two sets of credits say, as what their union says. -/
theorem CPay_join {S T : Finset ℕ} (h : S ⊆ T) :
    (iprop(bigSep S (CPay (F := F) ch c) ∗ bigSep (T \ S) (CPay (F := F) ch c)) : sProp 𝕄) ⊢ bigSep T (CPay (F := F) ch c) := by
  have e := bigSep_sep_union (Φ := CPay (F := F) ch c) S (T \ S)
  rw [Finset.union_sdiff_of_subset h] at e
  exact e

/-- Waiting for credit `t`: the target has given up the slot for transfer `t + 1`. -/
theorem step_cwait (ht : t < nC ch) {cs : Sem sig} (hcs : cs = cS ch) {z : ℤ} (hz : z = ((1 : ℕ) : ℤ))
    {k : PUnit → Prog (TpuEff nD τ sig (Elt F) Λ₀ .tc) α} {Kt : α → sProp 𝕄} {O : CellTallies nD τ sig ℕ} (hO : ∀ g u, 0 < O g u → u ∈ L g ∧ t + 2 < u) {W : Waits sig ℕ} :
    iprop(Recs X κ ιs ∗ levAts L lv ∗ CW ch t c ∗ owes (c : Thread nD τ) O W)
      ⊢ iprop(((CW ch (t + 1) c ∗ Rel (tgt ch c) ch (t + 1) ∗ ∃ W', owes (c : Thread nD τ) O W')
            -∗ wp frame (wpE (defs₀ (F := F)) 𝒱₀ c none) Set.univ (k ⟨⟩) Kt)
          -∗ wp frame (wpE (defs₀ (F := F)) 𝒱₀ c none) Set.univ (.op (.semWait cs z) k) Kt) := by
  subst hcs hz
  unfold CW
  rw [bigSep_peel ht, if_pos ht]
  iintro ⟨#HR, #Hlev, HCW, HO⟩ Hk
  icases HCW with ⟨⟨Hc, HCW⟩, ⟨%S, %hS, Ha, #HS⟩⟩
  by_cases hl : t + 1 < nC ch
  · iapply (Rounds.wp_wait 𝒱₀ ER (Rd X) (c : Thread nD τ) none (κ := κ (cCell ch c)) (sm := .reg (cS ch)) (k' := 1)
        (wpE_semWait_eq 𝒱₀ (c : Thread nD τ) none Set.univ) (Set.mem_univ _) (cr := Finsupp.single (t + 2) 1) (O := O) (W := W)
        {(SemLoc.reg (cS ch), t + 2)} (R := 0) (m := t) (T := S) (Util.total_single _ _) (image_single_subset _ _ _)) $$ [Hc HO Ha]
    · isplitr; · iapply (Recs_cell X κ ιs (mem_c ch c)); iexact HR
      isplitl [Hc]; · iexact Hc
      isplitl [HO]; · iexact HO
      isplitr; · iapply (mayWait_of c _ (t + 2) (by have := nC_le ch; omega) O hO); iexact Hlev
      iexact Ha
    rw [if_pos hl, duties_c, expect_c]
    have e (S' : Finset ℕ) : (bigSep (S' \ S) fun d => (Rd X).payload (cCell ch c) 0 d) = bigSep (S' \ S) (CPay (F := F) ch c) :=
      bigSep_congr fun d _ => payload_c X ch c 0 d
    iintro %S' ⟨%hS', HO, Ha, Hnew⟩
    ihave #Hnew := (Entails.of_eq (e S')) $$ Hnew
    ihave #Hall : bigSep S' (CPay ch c) $$ []
    · iapply (CPay_join ch c hS'.1)
      isplitr; · iexact HS
      iexact Hnew
    obtain ⟨d, hd, hdt⟩ : ∃ d ∈ S', t ≤ d := by
      by_contra hno
      have hsub : S' ⊆ Finset.range t := fun d hd => Finset.mem_range.mpr (by
        by_contra hlt; exact hno ⟨d, hd, by omega⟩)
      have h1 := Finset.card_le_card hsub
      have h2 := Finset.card_sdiff_of_subset hS'.2.1
      rw [Finset.card_range] at h1 h2
      have h3 := Finset.card_le_card hS'.2.1
      rw [Finset.card_range] at h3
      have := hS'.2.2
      omega
    iapply Hk
    isplitl [HCW Ha]
    · isplitl [HCW]; · iexact HCW
      iexists S'
      isplitr; · ipureintro; exact hS'.2.1
      isplitl [Ha]; · iexact Ha
      iexact Hall
    isplitr; · iapply (CPay_use ch c hd hdt); iexact Hall
    iexists _; iexact HO
  · iapply (Rounds.wp_wait_rest_token 𝒱₀ ER (Rd X) (c : Thread nD τ) none (κ := κ (cCell ch c)) (sm := .reg (cS ch)) (k' := 1)
        (wpE_semWait_eq 𝒱₀ (c : Thread nD τ) none Set.univ) (Set.mem_univ _) (t + 2) (O := O) (W := W)
        (R := 0) (m := t) (T := S) (by rw [expect_c]; omega)) $$ [Hc HO Ha]
    · isplitr; · iapply (Recs_cell X κ ιs (mem_c ch c)); iexact HR
      isplitl [Hc]; · iexact Hc
      isplitl [HO]; · iexact HO
      isplitr; · iapply (mayWait_of c _ (t + 2) (by have := nC_le ch; omega) O hO); iexact Hlev
      iexact Ha
    rw [if_neg hl, duties_c]
    have e : (bigSep (Finset.range (nC ch) \ S) fun d => (Rd X).payload (cCell ch c) 0 d) = bigSep (Finset.range (nC ch) \ S) (CPay (F := F) ch c) :=
      bigSep_congr fun d _ => payload_c X ch c 0 d
    rw [e]
    iintro ⟨HO, Ha, -, #Hnew⟩
    ihave #Hall : bigSep (Finset.range (nC ch)) (CPay ch c) $$ []
    · iapply (CPay_join ch c hS)
      isplitr; · iexact HS
      iexact Hnew
    iapply Hk
    isplitl [HCW Ha]
    · isplitl [HCW]; · iexact HCW
      iexact Ha
    isplitr; · iapply (CPay_use ch c (Finset.mem_range.mpr ht) le_rfl); iexact Hall
    iexists _; iexact HO

end Steps

end Cert.Ring
-- ==== Proof.Data.lean ====
/-
  What the ring carries: the contents of every transfer, and reading and writing one slot.

  The rows of activations travel unchanged; an accumulator row grows, at every device, by that device's share of the
  block function of the activation row that goes with it.
-/
module

public import proofs.«01_k».proof.Proof.Steps
public import Idealize.ShloMosaic.Lib.Pipeline.Value
public import proofs.«01_k».proof.Proof.Gen.KernelIdeal.Skeleton

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## A device's operands and its share of the block function -/

/-- What a device reads of its staged operands: the four weight blocks in the narrow format, the two tables, the rotation,
    and its two activation rows. -/
structure Ops (F : FTy → Type) where
  wq : FVec F S512x256 .bf16
  wk : FVec F S512x256 .bf16
  wv : FVec F S512x256 .bf16
  wo : FVec F S256x512 .bf16
  cs : Vec F S128x64 .f32
  sn : Vec F S128x64 .f32
  rt : Vec F S64x64 .f32
  xa : Vec F S1x128x512 .f32
  xb : Vec F S1x128x512 .f32

/-- A row as a one-row block. -/
def row (x : Vec F S128x512 .bf16) : Vec F S1x128x512 .bf16 := shapeCast S1x128x512 x
/-- A one-row block as a row. -/
def unrow (x : Vec F S1x128x512 .bf16) : Vec F S128x512 .bf16 := shapeCast S128x512 x
omit [FloatOps F] in
/-- A one-row block, read as a row and back, is itself. -/
theorem row_unrow (x : Vec F S1x128x512 .bf16) : row (unrow x) = x := Idealize.ShloMosaic.shapeCast_shapeCast _ _ _
omit [FloatOps F] in
/-- A row, read as a one-row block and back, is itself. -/
theorem unrow_row (x : Vec F S128x512 .bf16) : unrow (row x) = x := Idealize.ShloMosaic.shapeCast_shapeCast _ _ _

/-- The share of the row that travels to the right, at a step of the loop. -/
def fwdA (o : Ops F) (v : Vec F S1x128x512 .bf16) : FVec F S128x512 .f32 :=
  let q := k0_pay3 o.wq v
  let k := k0_pay4 o.wk v
  let u := k0_pay5 o.wv v
  let h2 := k0_pay7 o.wo o.cs o.sn o.rt q k u (k0_pay6 (F := F))
  k0_pay12 o.wo o.cs o.sn o.rt q k u (k0_pay11 o.wo o.cs o.sn o.rt q k u h2 (k0_pay8 u) (k0_pay9 o.cs o.sn o.rt q k) (k0_pay10 (F := F)))

/-- The share of the row that travels to the left, at a step of the loop. -/
def fwdB (o : Ops F) (v : Vec F S1x128x512 .bf16) : FVec F S128x512 .f32 :=
  let q := k0_pay14 o.wq v
  let k := k0_pay15 o.wk v
  let u := k0_pay16 o.wv v
  let h1 := k0_pay23 o.wo o.cs o.sn o.rt (k0_pay17 (F := F)) (k0_pay19 o.wk v) (k0_pay20 o.wv v) (k0_pay21 o.wq o.cs v) (k0_pay22 o.wq o.rt v)
  let h3 := k0_pay26 o.wo o.cs o.sn o.rt q k u h1 (k0_pay24 u) (k0_pay25 o.cs o.sn o.rt q k)
  k0_pay32 o.wo o.cs o.sn o.rt h3 (k0_pay28 k) (k0_pay29 u) (k0_pay30 o.cs q) (k0_pay31 o.rt q)

/-- What a device starts the right accumulator with, from its own first row. -/
def iniA (o : Ops F) (v : Vec F S1x128x512 .bf16) : FVec F S1x128x512 .bf16 :=
  let q := k0_pay43 o.wq v
  let k := k0_pay44 o.wk v
  let u := k0_pay45 o.wv v
  let h2 := k0_pay49 o.wo o.cs o.sn o.rt q k u (k0_pay46 (F := F)) (k0_pay47 o.wq o.wk o.wv o.cs o.sn o.rt v) (k0_pay48 o.wo)
    (constant S128x512 .f32 0x00000000#32)
  k0_pay55 (k0_pay52 o.wo h2 (k0_pay50 u) (k0_pay51 o.cs o.sn o.rt q k)) (k0_pay53 o.cs o.sn o.rt q k u) (k0_pay54 o.wo)
    (constant S128x512 .f32 0x00000000#32)

/-- What a device starts the left accumulator with, from its own second row. -/
def iniB (o : Ops F) (v : Vec F S1x128x512 .bf16) : FVec F S1x128x512 .bf16 :=
  let q := k0_pay57 o.wq v
  let k := k0_pay58 o.wk v
  let u := k0_pay59 o.wv v
  let h1 := k0_pay64 o.wo (k0_pay60 (F := F)) (k0_pay61 o.wv v) (k0_pay62 o.wq o.cs o.sn o.rt v) (k0_pay63 o.wk o.cs o.sn o.rt v)
  k0_pay70 o.wo (k0_pay66 o.wo o.cs o.sn o.rt q k u h1 (k0_pay65 o.cs o.sn o.rt q k u)) (k0_pay67 u) (k0_pay68 o.cs o.sn o.rt q)
    (k0_pay69 o.cs o.sn o.rt k)

/-! ## The contents of the transfers -/

/-- The row that goes right, at send `t` of device `c`. -/
def xA (o : Dev nD → Ops F) : ℕ → Dev nD → Vec F S128x512 .bf16
  | 0, c => unrow (k0_pay40 (o c).xa)
  | t + 1, c => xA o t (src 0 c)
/-- The row that goes left. -/
def xB (o : Dev nD → Ops F) : ℕ → Dev nD → Vec F S128x512 .bf16
  | 0, c => unrow (k0_pay41 (o c).xb)
  | t + 1, c => xB o t (src 2 c)
/-- The accumulator that goes right. -/
def aA (o : Dev nD → Ops F) : ℕ → Dev nD → Vec F S128x512 .bf16
  | 0, c => unrow (iniA (o c) (row (xA o 0 c)))
  | t + 1, c => unrow (k0_pay34 (k0_pay33 (fwdA (o c) (row (xA o (t + 1) c))) (row (aA o t (src 1 c)))))
/-- The accumulator that goes left. -/
def aB (o : Dev nD → Ops F) : ℕ → Dev nD → Vec F S128x512 .bf16
  | 0, c => unrow (iniB (o c) (row (xB o 0 c)))
  | t + 1, c => unrow (k0_pay35 (fwdB (o c) (row (xB o (t + 1) c))) (row (aB o t (src 3 c))))

/-- What send `t` of channel `ch` from device `c` carries. -/
def cont (o : Dev nD → Ops F) : Fin 4 → ℕ → Dev nD → Vec F S128x512 .bf16
  | 0 => xA o
  | 1 => aA o
  | 2 => xB o
  | 3 => aB o

/-! ## Reading and writing one slot -/

/-- The semaphore arrays of the transfers' sources. -/
def sArr : Fin 4 → DmaSems sig S2
  | 0 => cc0_scratch4
  | 1 => cc0_scratch6
  | 2 => cc0_scratch8
  | 3 => cc0_scratch10
/-- The semaphore arrays of the transfers' arrivals. -/
def rArr : Fin 4 → DmaSems sig S2
  | 0 => cc0_scratch5
  | 1 => cc0_scratch7
  | 2 => cc0_scratch9
  | 3 => cc0_scratch11
/-- The credit semaphores. -/
def cArr : Fin 4 → Sems sig S_
  | 0 => cc0_scratch12
  | 1 => cc0_scratch13
  | 2 => cc0_scratch14
  | 3 => cc0_scratch15

/-- A slot of a semaphore array, as an offset. -/
def semOff (t : ℕ) : Fin 1 → ℕ := ![t % 2]

/-- A slot of a channel's array of source semaphores is the semaphore that the schedule names. -/
theorem sArr_sem (ch : Fin 4) (t : ℕ) (off : Fin 1 → ℕ) (inb : ∀ a, off a + S1.size a ≤ S2.size a) (h : off = semOff t) :
    (((sArr ch).slice (Rect.unit (s := S2) off S1.size inb)).squeeze S_ squeezes_S1_S_).sem = sS ch t := by
  subst h
  rw [← sS_congr ch (show t % 2 % 2 = t % 2 by omega)]
  have key : ∀ (ch : Fin 4) (u : Fin 2) (inb : ∀ a, (![u.val] : Fin 1 → ℕ) a + S1.size a ≤ S2.size a),
      (((sArr ch).slice (Rect.unit (s := S2) ![u.val] S1.size inb)).squeeze S_ squeezes_S1_S_).sem = sS ch u.val := by decide +kernel
  exact key ch ⟨t % 2, Nat.mod_lt _ (by decide)⟩ inb
/-- A slot of a channel's array of arrival semaphores is the semaphore that the schedule names. -/
theorem rArr_sem (ch : Fin 4) (t : ℕ) (off : Fin 1 → ℕ) (inb : ∀ a, off a + S1.size a ≤ S2.size a) (h : off = semOff t) :
    (((rArr ch).slice (Rect.unit (s := S2) off S1.size inb)).squeeze S_ squeezes_S1_S_).sem = rS ch t := by
  subst h
  rw [← rS_congr ch (show t % 2 % 2 = t % 2 by omega)]
  have key : ∀ (ch : Fin 4) (u : Fin 2) (inb : ∀ a, (![u.val] : Fin 1 → ℕ) a + S1.size a ≤ S2.size a),
      (((rArr ch).slice (Rect.unit (s := S2) ![u.val] S1.size inb)).squeeze S_ squeezes_S1_S_).sem = rS ch u.val := by decide +kernel
  exact key ch ⟨t % 2, Nat.mod_lt _ (by decide)⟩ inb
/-- A channel's credit semaphore is the one that the schedule names. -/
theorem cArr_sem (ch : Fin 4) : (cArr ch).sem = cS ch := by revert ch; decide +kernel

variable [∀ e, Nonempty (Elt F e)]

local notation "𝕄" => MT nD τ sig ℕ (Elt F) ℕ UU ℕ

section Access

variable (ch : Fin 4) (c : Dev nD) (t : ℕ) {α : Type}

omit [FloatOps F] [∀ e, Nonempty (Elt F e)] in
/-- What the slot's access reads is the slot's row as a one-row block. -/
theorem access_read (f : Buf (Elt F) ((slotM ch t).view.loc (c : Thread nD τ))) :
    ((bufM ch).access (slotRect t)).read (Elt F) f = row ((slotM ch t).view.read (Elt F) f) :=
  (Idealize.ShloMosaic.shapeCast_shapeCast _ _ _).symm

/-- Reading a slot. -/
theorem step_load {off : Fin 3 → ℕ} {inb : ∀ a, off a + S1x128x512.size a ≤ S2x128x512.size a} (h : off = slotOff t)
    {hl : (bufM ch).view.LoadsAt (Rect.unit (s := S2x128x512) off S1x128x512.size inb).toLoadRect}
    {q : PosShare TreeShare} {x : Vec F S128x512 .bf16}
    {k : Vec F S1x128x512 .bf16 → Prog (TpuEff nD τ sig (Elt F) Λ₀ .tc) α} {Kt : α → sProp 𝕄} :
    heldAt c (slotM ch t) q x
      ⊢ iprop((heldAt c (slotM ch t) q x -∗ wp frame (wpE (defs₀ (F := F)) 𝒱₀ c none) Set.univ (k (row x)) Kt)
          -∗ wp frame (wpE (defs₀ (F := F)) 𝒱₀ c none) Set.univ
            (.op (.load (bufM ch) (Rect.unit (s := S2x128x512) off S1x128x512.size inb).toLoadRect hl) k) Kt) := by
  subst h
  have e := wp_load_rect (defs := defs₀ (F := F)) (Γ := .empty) 𝒱₀ (c : Thread nD τ) none Set.univ (m := bufM ch) (r := slotRect t) (hl := hl) (k := k) (Q := Kt)
    (S := (slotM ch t).view.set) (q := q) (f := (slotM ch t).view.rep x) (by rw [slotM_set, access_set])
  rw [access_read ch c t, View.read_rep] at e
  exact e

/-- Writing a slot. -/
theorem step_store {off : Fin 3 → ℕ} {inb : ∀ a, off a + S1x128x512.size a ≤ S2x128x512.size a} (h : off = slotOff t)
    {w : Vec F S1x128x512 .bf16} {hx : ((bufM ch).access (Rect.unit (s := S2x128x512) off S1x128x512.size inb)).Stores Finset.univ}
    {hm : (Finset.univ : Finset (Rect.unit (s := S2x128x512) off S1x128x512.size inb).shape.Idx) = Finset.univ
      ∨ ∀ a, (Rect.unit (s := S2x128x512) off S1x128x512.size inb).stride a = 1}
    {k : PUnit → Prog (TpuEff nD τ sig (Elt F) Λ₀ .tc) α} {Kt : α → sProp 𝕄} :
    slotAny (F := F) c ch t
      ⊢ iprop((heldAt c (slotM ch t) fullShare (unrow w) -∗ wp frame (wpE (defs₀ (F := F)) 𝒱₀ c none) Set.univ (k ⟨⟩) Kt)
          -∗ wp frame (wpE (defs₀ (F := F)) 𝒱₀ c none) Set.univ
            (.op (.store (bufM ch) (Rect.unit (s := S2x128x512) off S1x128x512.size inb) w Finset.univ hx hm) k) Kt) := by
  subst h
  unfold slotAny Release.slot
  iintro ⟨%f, H⟩ Hk
  have e := wp_store (defs := defs₀ (F := F)) (Γ := .empty) 𝒱₀ (c : Thread nD τ) none Set.univ (m := bufM ch) (r := slotRect t) (w := w) (Mk := Finset.univ) (hx := hx) (hm := hm) (k := k) (Q := Kt)
    (S := (slotM ch t).view.set) (f := f) (by rw [slotM_set, ← access_set]; exact Finset.Subset.refl _)
  iapply e $$ H
  iintro H
  iapply Hk
  have hw : (slotM ch t).view.read (Elt F) (((bufM ch).access (slotRect t)).write (Elt F) f w Finset.univ) = unrow w := by
    have := access_read (F := F) ch c t (((bufM ch).access (slotRect t)).write (Elt F) f w Finset.univ)
    rw [View.read_write_univ] at this
    have h2 := congrArg unrow this; rw [unrow_row] at h2; exact h2.symm
  iapply (Entails.of_eq (heldAt_of_read c (slotM ch t) fullShare (unrow w) _ hw)); iexact H

end Access

end Cert.Ring

end
-- ==== Proof.Trip.lean ====
/-
  One trip of the kernel's loop: what a device does at steps 1 … 31 of the ring.
-/
module

public import proofs.«01_k».proof.Proof.Data

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig ℕ (Elt F) ℕ UU ℕ

/-! ## Naming what the loop's operations touch -/

/-- A channel's buffer is a whole buffer. -/
theorem hbuf (ch : Fin 4) : (bufM ch).IsWhole := by
  match ch with
  | 0 => exact Memref.isWhole_whole _
  | 1 => exact Memref.isWhole_whole _
  | 2 => exact Memref.isWhole_whole _
  | 3 => exact Memref.isWhole_whole _

/-- The loop makes thirty-one trips. -/
theorem trips_31 : k0_t1_loop.trips = 31 := by decide +kernel
/-- A trip's number is below thirty-one. -/
theorem trip_lt (i : Fin k0_t1_loop.trips) : i.val < 31 := by have := i.isLt; have := trips_31; omega
/-- The first condition of a trip holds in all trips but the last. -/
theorem cond1_iff : ∀ i : Fin k0_t1_loop.trips, k0_cond1 i = 1#1 ↔ i.val < 30 := by decide +kernel
/-- The second condition of a trip holds in all trips but the last. -/
theorem cond2_iff : ∀ i : Fin k0_t1_loop.trips, k0_cond2 i = 1#1 ↔ i.val < 30 := by decide +kernel
/-- The third condition of a trip holds in all trips but the last. -/
theorem cond3_iff : ∀ i : Fin k0_t1_loop.trips, k0_cond3 i = 1#1 ↔ i.val < 30 := by decide +kernel
/-- The fifth condition of a trip holds in all trips but the last. -/
theorem cond5_iff : ∀ i : Fin k0_t1_loop.trips, k0_cond5 i = 1#1 ↔ i.val < 30 := by decide +kernel
/-- The fourth condition of a trip holds in all trips but the last two. -/
theorem cond4_iff : ∀ i : Fin k0_t1_loop.trips, k0_cond4 i = 1#1 ↔ i.val < 29 := by decide +kernel

/-- The other slot of a pair, as an offset. -/
theorem other_slot (i : ℕ) : (![1 - (i + 1) % 2, 0, 0] : Fin 3 → ℕ) = slotOff (i + 1 + 1) := by
  unfold slotOff; rw [show 1 - (i + 1) % 2 = (i + 1 + 1) % 2 by omega]
/-- The other semaphore of a pair, as an offset. -/
theorem other_sem (i : ℕ) : (![1 - (i + 1) % 2] : Fin 1 → ℕ) = semOff (i + 1 + 1) := by
  unfold semOff; rw [show 1 - (i + 1) % 2 = (i + 1 + 1) % 2 by omega]

/-- A copy out of any slot, however its offset is written, credits a transfer's units. -/
theorem slot_N (ch : Fin 4) (off : Fin 3 → ℕ) (inb : ∀ a, off a + S1x128x512.size a ≤ S2x128x512.size a) :
    (((bufM ch).slice (Rect.unit (s := S2x128x512) off S1x128x512.size inb) (fun _ => rfl)).squeeze S128x512 squeezes_S1x128x512_S128x512).view.dmaCredit = N :=
  N_eq ch 0

/-- The next device is where a channel that goes right sends. -/
theorem dev_right (ch : Fin 4) (h : ch.val < 2) (c : Dev nD) (n : ℕ) (lt : n < nD) (e : n = (c.val + 1) % 32) : (⟨n, lt⟩ : Dev nD) = tgt ch c := by
  unfold tgt; rw [if_pos h]; exact Fin.ext e
/-- The device before is where a channel that goes left sends. -/
theorem dev_left (ch : Fin 4) (h : ¬ ch.val < 2) (c : Dev nD) (n : ℕ) (lt : n < nD) (e : n = (c.val + 31) % 32) : (⟨n, lt⟩ : Dev nD) = tgt ch c := by
  unfold tgt; rw [if_neg h]; exact Fin.ext e
/-- The device before is where a channel that goes right receives from. -/
theorem dev_left' (ch : Fin 4) (h : ch.val < 2) (c : Dev nD) (n : ℕ) (lt : n < nD) (e : n = (c.val + 31) % 32) : (⟨n, lt⟩ : Dev nD) = src ch c := by
  unfold src; rw [if_pos h]; exact Fin.ext e
/-- The next device is where a channel that goes left receives from. -/
theorem dev_right' (ch : Fin 4) (h : ¬ ch.val < 2) (c : Dev nD) (n : ℕ) (lt : n < nD) (e : n = (c.val + 1) % 32) : (⟨n, lt⟩ : Dev nD) = src ch c := by
  unfold src; rw [if_neg h]; exact Fin.ext e

/-! Each send and each credit pays one instalment of what the device owes. -/

/-- A transfer of the first channel pays its part of what is owed. -/
theorem OO_send0 (c : Dev nD) (t₀ t₁ t₂ t₃ k₀ k₁ k₂ k₃ : ℕ) (h : t₀ < nS 0) :
    OO t₀ t₁ t₂ t₃ k₀ k₁ k₂ k₃ c = OO (t₀ + 1) t₁ t₂ t₃ k₀ k₁ k₂ k₃ c + tallyAt (rCell 0 (t₀ + 1) (tgt 0 c)) (t₀ + 2) N := by
  unfold OO; rw [OS_peel h]; ac_rfl
/-- A transfer of the second channel pays its part of what is owed. -/
theorem OO_send1 (c : Dev nD) (t₀ t₁ t₂ t₃ k₀ k₁ k₂ k₃ : ℕ) (h : t₁ < nS 1) :
    OO t₀ t₁ t₂ t₃ k₀ k₁ k₂ k₃ c = OO t₀ (t₁ + 1) t₂ t₃ k₀ k₁ k₂ k₃ c + tallyAt (rCell 1 (t₁ + 1) (tgt 1 c)) (t₁ + 2) N := by
  unfold OO; rw [OS_peel h]; ac_rfl
/-- A transfer of the third channel pays its part of what is owed. -/
theorem OO_send2 (c : Dev nD) (t₀ t₁ t₂ t₃ k₀ k₁ k₂ k₃ : ℕ) (h : t₂ < nS 2) :
    OO t₀ t₁ t₂ t₃ k₀ k₁ k₂ k₃ c = OO t₀ t₁ (t₂ + 1) t₃ k₀ k₁ k₂ k₃ c + tallyAt (rCell 2 (t₂ + 1) (tgt 2 c)) (t₂ + 2) N := by
  unfold OO; rw [OS_peel h]; ac_rfl
/-- A transfer of the fourth channel pays its part of what is owed. -/
theorem OO_send3 (c : Dev nD) (t₀ t₁ t₂ t₃ k₀ k₁ k₂ k₃ : ℕ) (h : t₃ < nS 3) :
    OO t₀ t₁ t₂ t₃ k₀ k₁ k₂ k₃ c = OO t₀ t₁ t₂ (t₃ + 1) k₀ k₁ k₂ k₃ c + tallyAt (rCell 3 (t₃ + 1) (tgt 3 c)) (t₃ + 2) N := by
  unfold OO; rw [OS_peel h]; ac_rfl
/-- A credit of the first channel pays its part of what is owed. -/
theorem OO_credit0 (c : Dev nD) (t₀ t₁ t₂ t₃ k₀ k₁ k₂ k₃ : ℕ) (h : k₀ < nC 0) :
    OO t₀ t₁ t₂ t₃ k₀ k₁ k₂ k₃ c = OO t₀ t₁ t₂ t₃ (k₀ + 1) k₁ k₂ k₃ c + tallyAt (cCell 0 (src 0 c)) (k₀ + 2) 1 := by
  unfold OO; rw [OC_peel h]; ac_rfl
/-- A credit of the second channel pays its part of what is owed. -/
theorem OO_credit1 (c : Dev nD) (t₀ t₁ t₂ t₃ k₀ k₁ k₂ k₃ : ℕ) (h : k₁ < nC 1) :
    OO t₀ t₁ t₂ t₃ k₀ k₁ k₂ k₃ c = OO t₀ t₁ t₂ t₃ k₀ (k₁ + 1) k₂ k₃ c + tallyAt (cCell 1 (src 1 c)) (k₁ + 2) 1 := by
  unfold OO; rw [OC_peel h]; ac_rfl
/-- A credit of the third channel pays its part of what is owed. -/
theorem OO_credit2 (c : Dev nD) (t₀ t₁ t₂ t₃ k₀ k₁ k₂ k₃ : ℕ) (h : k₂ < nC 2) :
    OO t₀ t₁ t₂ t₃ k₀ k₁ k₂ k₃ c = OO t₀ t₁ t₂ t₃ k₀ k₁ (k₂ + 1) k₃ c + tallyAt (cCell 2 (src 2 c)) (k₂ + 2) 1 := by
  unfold OO; rw [OC_peel h]; ac_rfl
/-- A credit of the fourth channel pays its part of what is owed. -/
theorem OO_credit3 (c : Dev nD) (t₀ t₁ t₂ t₃ k₀ k₁ k₂ k₃ : ℕ) (h : k₃ < nC 3) :
    OO t₀ t₁ t₂ t₃ k₀ k₁ k₂ k₃ c = OO t₀ t₁ t₂ t₃ k₀ k₁ k₂ (k₃ + 1) c + tallyAt (cCell 3 (src 3 c)) (k₃ + 2) 1 := by
  unfold OO; rw [OC_peel h]; ac_rfl

/-! ## What passes between the parts of a trip -/

section Trip

variable (o : Dev nD → Ops F) (κ : GSem nD τ sig → ℕ) (ιs : Key → ℕ) (c : Dev nD)

/-- What every step of device `c` may use: the records, the levels, and the greetings of its two neighbours. -/
def Env : sProp 𝕄 := iprop(Recs (cont o) κ ιs ∗ levAts L lv ∗ Hello (right c) ∗ Hello (left c))
instance Env_persistent : BI.Persistent (Env o κ ιs c) := by unfold Env; infer_instance

/-- The environment holds the records. -/
theorem Env_recs : Env o κ ιs c ⊢ Recs (cont o) κ ιs := by unfold Env; iintro ⟨#H, -, -, -⟩; iexact H
/-- The environment holds the levels. -/
theorem Env_lev : Env o κ ιs c ⊢ (levAts L lv : sProp 𝕄) := by unfold Env; iintro ⟨-, #H, -, -⟩; iexact H
/-- The environment holds the greeting of a channel's target. -/
theorem Env_tgt (ch : Fin 4) : Env o κ ιs c ⊢ Hello1 (F := F) (tgt ch c) ch := by
  unfold Env tgt
  iintro ⟨-, -, #H1, #H2⟩
  split
  · iapply (Hello_at (right c) ch); iexact H1
  · iapply (Hello_at (left c) ch); iexact H2
/-- The environment holds the greeting of a channel's source. -/
theorem Env_src (ch : Fin 4) : Env o κ ιs c ⊢ Hello1 (F := F) (src ch c) ch := by
  unfold Env src
  iintro ⟨-, -, #H1, #H2⟩
  split
  · iapply (Hello_at (left c) ch); iexact H2
  · iapply (Hello_at (right c) ch); iexact H1

/-- An activation channel in trip `i` after its arrival: its row is in its slot, and already on its way on unless this is the
    last trip. -/
def Mid (ch : Fin 4) (i : ℕ) : sProp 𝕄 :=
  iprop(RP ch (i + 1) c ∗ RC ch (i + 1) c ∗ CW ch (i + 1) c ∗ SP (F := F) ch (i + 1) c ∗ ST ch (i + 2) c
    ∗ (if i < 30 then iprop(heldAt c (slotM ch (i + 1)) fullShare.right (cont o ch (i + 1) c) ∗ cred (tallyAt (sCell ch (i + 1) c) 0 N))
        else heldAt c (slotM ch (i + 1)) fullShare (cont o ch (i + 1) c)))

/-- All that is owed before step `t`, of activations and of accumulators. -/
abbrev OT (t u k l : ℕ) : CellTallies nD τ sig ℕ := OO t u t u k l k l c

/-- What an activation channel's source sends is what the device sends next. -/
theorem cont_row (ch : Fin 4) (h : ch.val % 2 = 0) (i : ℕ) : cont o ch i (src ch c) = cont o ch (i + 1) c := by
  match ch with
  | 0 => rfl
  | 2 => rfl
  | 1 => exact absurd h (by decide)
  | 3 => exact absurd h (by decide)

/-- All that is owed from step `b` on is above a wait below level `b + 2`. -/
theorem low (b t₀ t₁ t₂ t₃ k₀ k₁ k₂ k₃ n : ℕ) (hb : b ≤ t₀ ∧ b ≤ t₁ ∧ b ≤ t₂ ∧ b ≤ t₃ ∧ b ≤ k₀ ∧ b ≤ k₁ ∧ b ≤ k₂ ∧ b ≤ k₃) (hn : n < b + 2) :
    ∀ g u, 0 < OO t₀ t₁ t₂ t₃ k₀ k₁ k₂ k₃ c g u → u ∈ L g ∧ n < u := fun g u h => by
  have := OO_pos hb h; exact ⟨this.1, by omega⟩

/-- After the last credit the place on the credit semaphore stays. -/
theorem CW_end (ch : Fin 4) (j : ℕ) (h : nC ch ≤ j) : CW (F := F) ch j c = CW ch (j + 1) c := by
  unfold CW
  rw [Finset.Ico_eq_empty_of_le h, Finset.Ico_eq_empty_of_le (Nat.le_succ_of_le h), if_neg (by omega), if_neg (by omega)]
/-- After the last transfer there is no right to start one. -/
theorem ST_end (ch : Fin 4) (t : ℕ) (h : nS ch ≤ t) : ST (F := F) ch t c = ST ch (t + 1) c := by
  unfold ST
  rw [Finset.Ico_eq_empty_of_le h, Finset.Ico_eq_empty_of_le (Nat.le_succ_of_le h)]

set_option maxRecDepth 65536 in
/-- The first part of a trip: both activation rows arrive and, but for the last trip, are sent on. -/
theorem part1_run (i : Fin k0_t1_loop.trips) (W : Waits sig ℕ) (v5 v7 : BitVec 32) (wq wk wv : FVec F S512x256 .bf16)
    {Kt : (Σ' (arg25 : BitVec 32) (v417 : BitVec 32) (v444 : FVec F S128x256 .f32) (v445 : FVec F S128x256 .f32) (v446 : FVec F S128x256 .f32), FVec F S128x512 .f32) → sProp 𝕄} :
    iprop(Env o κ ιs c ∗ (RP 0 i.val c ∗ RC 0 i.val c ∗ CW 0 i.val c ∗ SP 0 (i.val + 1) c ∗ ST 0 (i.val + 1) c)
        ∗ (RP 2 i.val c ∗ RC 2 i.val c ∗ CW 2 i.val c ∗ SP 2 (i.val + 1) c ∗ ST 2 (i.val + 1) c)
        ∗ owes (c : Thread nD τ) (OO (i.val + 1) (i.val + 1) (i.val + 1) (i.val + 1) (i.val + 1) (i.val + 1) (i.val + 1) (i.val + 1) c) W)
      ⊢ iprop(((Mid o c 0 i.val ∗ Mid o c 2 i.val
            ∗ ∃ W', owes (c : Thread nD τ) (OO (i.val + 2) (i.val + 1) (i.val + 2) (i.val + 1) (i.val + 1) (i.val + 1) (i.val + 1) (i.val + 1) c) W')
          -∗ Kt ⟨Scf.iv 1#32 1#32 i, Scalar.remsi (Scf.iv 1#32 1#32 i) 2#32, k0_pay3 wq (row (cont o 0 (i.val + 1) c)),
              k0_pay4 wk (row (cont o 0 (i.val + 1) c)), k0_pay5 wv (row (cont o 0 (i.val + 1) c)), k0_pay6 (F := F)⟩)
        -∗ wp frame (wpE (defs₀ (F := F)) 𝒱₀ (c : Thread nD τ) none) Set.univ
            (k0_part1 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3)
              c v5 v7 wq wk wv 1#32 1#32 i) Kt) := by
  have hi := trip_lt i
  rw [k0_part1_eq_skeleton]
  unfold k0_part1_skel Mid
  simp only [semSignalWord, semWaitWord, Prog.lift, Prog.bind_op, Prog.bind_ret, Prog.pure_eq_ret, Prog.bind_assoc]
  iintro ⟨#HE, ⟨HRP0, HRC0, HCW0, HSP0, HST0⟩, ⟨HRP2, HRC2, HCW2, HSP2, HST2⟩, HO⟩ Hk
  ihave #HR := (Env_recs o κ ιs c) $$ HE
  ihave #Hlev := (Env_lev o κ ιs c) $$ HE
  iapply (step_rwait (cont o) κ ιs 0 c i.val (by show _ < 31; omega) (rArr_sem 0 (i.val + 1) _ (k0_off1_inb i) (k0_off1_eq i))
    (slot_N 0 _ (k0_off2_inb i)) (low c (i.val + 1) (i.val + 1) (i.val + 1) (i.val + 1) (i.val + 1) (i.val + 1) (i.val + 1) (i.val + 1) (i.val + 1) (i.val + 2) (by omega) (by omega))) $$ [HRP0 HRC0 HO]
  · isplitr; · iexact HR
    isplitr; · iexact Hlev
    isplitl [HRP0]; · iexact HRP0
    isplitl [HRC0]; · iexact HRC0
    iexact HO
  rw [cont_row o c 0 rfl]
  iintro ⟨HRP0, HRC0, Hx0, HO⟩
  by_cases hl : i.val < 30
  · simp only [dif_pos ((cond1_iff i).mpr hl), dif_pos ((cond2_iff i).mpr hl), if_pos hl]
    iapply (step_cwait (cont o) κ ιs 0 c i.val (by show _ < 30; omega) (cArr_sem 0) rfl
      (low c (i.val + 1) (i.val + 1) (i.val + 1) (i.val + 1) (i.val + 1) (i.val + 1) (i.val + 1) (i.val + 1) (i.val + 1) (i.val + 2) (by omega) (by omega))) $$ [HCW0 HO]
    · isplitr; · iexact HR
      isplitr; · iexact Hlev
      isplitl [HCW0]; · iexact HCW0
      iexact HO
    iintro ⟨HCW0, #Hrel0, ⟨%W0, HO⟩⟩
    iapply (step_send (cont o) κ ιs 0 c (i.val + 1) (by show _ < 31; omega) (slotM_of_off 0 (i.val + 1) _ _ (k0_off7_eq i)) (slotM_of_off 0 (i.val + 1 + 1) _ _ ((k0_off6_eq i).trans (other_slot i)))
      (sArr_sem 0 (i.val + 1) _ _ (k0_off4_eq i)) (rArr_sem 0 (i.val + 1 + 1) _ _ ((k0_off5_eq i).trans (other_sem i))) (dev_right 0 (by decide) c _ _ (k0_dev11_eq c))
      (OO (i.val + 2) (i.val + 1) (i.val + 1) (i.val + 1) (i.val + 1) (i.val + 1) (i.val + 1) (i.val + 1) c) (OO_send0 c _ _ _ _ _ _ _ _ (by show _ < 31; omega))) $$ [HSP0 HST0 Hx0 HO]
    · isplitr; · iexact HR
      isplitr; · iexact Hrel0
      isplitl [HSP0]; · iexact HSP0
      isplitl [HST0]; · iexact HST0
      isplitl [Hx0]; · iexact Hx0
      iexact HO
    iintro ⟨HSP0, HST0, Hx0, Hc0, HO⟩
    iapply (step_rwait (cont o) κ ιs 2 c i.val (by show _ < 31; omega) (rArr_sem 2 (i.val + 1) _ (k0_off1_inb i) (k0_off1_eq i))
      (slot_N 2 _ (k0_off2_inb i)) (low c (i.val + 1) (i.val + 2) (i.val + 1) (i.val + 1) (i.val + 1) (i.val + 1) (i.val + 1) (i.val + 1) (i.val + 1) (i.val + 2) (by omega) (by omega))) $$ [HRP2 HRC2 HO]
    · isplitr; · iexact HR
      isplitr; · iexact Hlev
      isplitl [HRP2]; · iexact HRP2
      isplitl [HRC2]; · iexact HRC2
      iexact HO
    rw [cont_row o c 2 rfl]
    iintro ⟨HRP2, HRC2, Hx2, HO⟩
    iapply (step_cwait (cont o) κ ιs 2 c i.val (by show _ < 30; omega) (cArr_sem 2) rfl
      (low c (i.val + 1) (i.val + 2) (i.val + 1) (i.val + 1) (i.val + 1) (i.val + 1) (i.val + 1) (i.val + 1) (i.val + 1) (i.val + 2) (by omega) (by omega))) $$ [HCW2 HO]
    · isplitr; · iexact HR
      isplitr; · iexact Hlev
      isplitl [HCW2]; · iexact HCW2
      iexact HO
    iintro ⟨HCW2, #Hrel2, ⟨%W2, HO⟩⟩
    iapply (step_send (cont o) κ ιs 2 c (i.val + 1) (by show _ < 31; omega) (slotM_of_off 2 (i.val + 1) _ _ (k0_off11_eq i)) (slotM_of_off 2 (i.val + 1 + 1) _ _ ((k0_off10_eq i).trans (other_slot i)))
      (sArr_sem 2 (i.val + 1) _ _ (k0_off8_eq i)) (rArr_sem 2 (i.val + 1 + 1) _ _ ((k0_off9_eq i).trans (other_sem i))) (dev_left 2 (by decide) c _ _ (k0_dev12_eq c))
      (OO (i.val + 2) (i.val + 1) (i.val + 2) (i.val + 1) (i.val + 1) (i.val + 1) (i.val + 1) (i.val + 1) c) (OO_send2 c _ _ _ _ _ _ _ _ (by show _ < 31; omega))) $$ [HSP2 HST2 Hx2 HO]
    · isplitr; · iexact HR
      isplitr; · iexact Hrel2
      isplitl [HSP2]; · iexact HSP2
      isplitl [HST2]; · iexact HST2
      isplitl [Hx2]; · iexact Hx2
      iexact HO
    iintro ⟨HSP2, HST2, Hx2, Hc2, HO⟩
    iapply (step_load 0 c (i.val + 1) (k0_off12_eq i)) $$ Hx0
    iintro Hx0
    rw [wp_ret]
    imodintro
    iapply Hk
    isplitl [HRP0 HRC0 HCW0 HSP0 HST0 Hx0 Hc0]
    · isplitl [HRP0]; · iexact HRP0
      isplitl [HRC0]; · iexact HRC0
      isplitl [HCW0]; · iexact HCW0
      isplitl [HSP0]; · iexact HSP0
      isplitl [HST0]; · iexact HST0
      isplitl [Hx0] <;> iassumption
    isplitl [HRP2 HRC2 HCW2 HSP2 HST2 Hx2 Hc2]
    · isplitl [HRP2]; · iexact HRP2
      isplitl [HRC2]; · iexact HRC2
      isplitl [HCW2]; · iexact HCW2
      isplitl [HSP2]; · iexact HSP2
      isplitl [HST2]; · iexact HST2
      isplitl [Hx2] <;> iassumption
    iexists _; iexact HO
  · have h30 : i.val = 30 := by omega
    simp only [dif_neg (fun h => hl ((cond1_iff i).mp h)), dif_neg (fun h => hl ((cond2_iff i).mp h)), if_neg hl, Prog.pure_eq_ret, Prog.bind_ret]
    iapply (step_rwait (cont o) κ ιs 2 c i.val (by show _ < 31; omega) (rArr_sem 2 (i.val + 1) _ (k0_off1_inb i) (k0_off1_eq i))
      (slot_N 2 _ (k0_off2_inb i)) (low c (i.val + 1) (i.val + 1) (i.val + 1) (i.val + 1) (i.val + 1) (i.val + 1) (i.val + 1) (i.val + 1) (i.val + 1) (i.val + 2) (by omega) (by omega))) $$ [HRP2 HRC2 HO]
    · isplitr; · iexact HR
      isplitr; · iexact Hlev
      isplitl [HRP2]; · iexact HRP2
      isplitl [HRC2]; · iexact HRC2
      iexact HO
    rw [cont_row o c 2 rfl]
    iintro ⟨HRP2, HRC2, Hx2, HO⟩
    iapply (step_load 0 c (i.val + 1) (k0_off12_eq i)) $$ Hx0
    iintro Hx0
    rw [wp_ret]
    imodintro
    iapply Hk
    isplitl [HRP0 HRC0 HCW0 HSP0 HST0 Hx0]
    · isplitl [HRP0]; · iexact HRP0
      isplitl [HRC0]; · iexact HRC0
      isplitl [HCW0]; · iapply (Entails.of_eq (CW_end c 0 i.val (by show 30 ≤ _; omega))) $$ HCW0
      isplitl [HSP0]; · iexact HSP0
      isplitl [HST0]; · iapply (Entails.of_eq (ST_end c 0 (i.val + 1) (by show 31 ≤ _; omega))) $$ HST0
      iexact Hx0
    isplitl [HRP2 HRC2 HCW2 HSP2 HST2 Hx2]
    · isplitl [HRP2]; · iexact HRP2
      isplitl [HRC2]; · iexact HRC2
      isplitl [HCW2]; · iapply (Entails.of_eq (CW_end c 2 i.val (by show 30 ≤ _; omega))) $$ HCW2
      isplitl [HSP2]; · iexact HSP2
      isplitl [HST2]; · iapply (Entails.of_eq (ST_end c 2 (i.val + 1) (by show 31 ≤ _; omega))) $$ HST2
      iexact Hx2
    iexists _
    have eO : OO (i.val + 2) (i.val + 1) (i.val + 2) (i.val + 1) (i.val + 1) (i.val + 1) (i.val + 1) (i.val + 1) c
        = OO (i.val + 1) (i.val + 1) (i.val + 1) (i.val + 1) (i.val + 1) (i.val + 1) (i.val + 1) (i.val + 1) c := by
      unfold OO
      rw [OS_end (ch := 0) (t := i.val + 2) (by show 31 ≤ _; omega), OS_end (ch := 2) (t := i.val + 2) (by show 31 ≤ _; omega),
        OS_end (ch := 0) (t := i.val + 1) (by show 31 ≤ _; omega), OS_end (ch := 2) (t := i.val + 1) (by show 31 ≤ _; omega)]
    rw [eO]
    iexact HO

/-! ## The whole trip -/

/-- The slots a device keeps once it gives no more credits. -/
def Kept (ch : Fin 4) (i : ℕ) : sProp 𝕄 :=
  iprop((if nC ch ≤ i then slotAny (F := F) c ch i else emp) ∗ (if nC ch < i then slotAny c ch (i + 1) else emp))
/-- A channel between two steps: its places on the semaphores, its rights to send and to give credit, and the slots it keeps. -/
def Chan (ch : Fin 4) (i : ℕ) : sProp 𝕄 :=
  iprop(SP (F := F) ch (min (i + 1) (nS ch)) c ∗ ST ch (i + 1) c ∗ RP ch i c ∗ RC ch i c ∗ CW ch i c ∗ CT ch (min (i + 1) (nC ch)) c ∗ Kept c ch i)

/-- Before its last credit a device keeps no slot. -/
theorem Kept_none (ch : Fin 4) (i : ℕ) (h : i < nC ch) : ⊢ Kept (F := F) c ch i := by
  unfold Kept
  rw [if_neg (by omega), if_neg (by omega)]
  isplitl <;> iempintro
/-- With its last credit given, a device keeps the slot at hand. -/
theorem Kept_one (ch : Fin 4) (i : ℕ) (h : i = nC ch) : slotAny (F := F) c ch i ⊢ Kept c ch i := by
  unfold Kept
  rw [if_pos (by omega), if_neg (by omega)]
  iintro H
  isplitl [H]; · iexact H
  iempintro
/-- A step later it keeps both slots. -/
theorem Kept_two (ch : Fin 4) (i : ℕ) (h : i = nC ch) : iprop(Kept (F := F) c ch i ∗ slotAny c ch (i + 1)) ⊢ Kept c ch (i + 1) := by
  unfold Kept
  rw [if_pos (by omega), if_neg (by omega), if_pos (by omega), if_pos (by omega), slotAny_congr c ch (show (i + 1 + 1) % 2 = i % 2 by omega)]
  iintro ⟨⟨H1, -⟩, H2⟩
  isplitl [H2] <;> iassumption

/-- Of a channel after its arrival, the row may be read. -/
theorem Mid_read (ch : Fin 4) (i : ℕ) :
    Mid o c ch i ⊢ iprop(∃ q, heldAt c (slotM ch (i + 1)) q (cont o ch (i + 1) c) ∗ (heldAt c (slotM ch (i + 1)) q (cont o ch (i + 1) c) -∗ Mid o c ch i)) := by
  unfold Mid
  iintro ⟨H1, H2, H3, H4, H5, H6⟩
  split
  · icases H6 with ⟨Hx, Hc⟩
    iexists _
    isplitl [Hx]; · iexact Hx
    iintro Hx
    isplitl [H1]; · iexact H1
    isplitl [H2]; · iexact H2
    isplitl [H3]; · iexact H3
    isplitl [H4]; · iexact H4
    isplitl [H5]; · iexact H5
    isplitl [Hx] <;> iassumption
  · iexists _
    isplitl [H6]; · iexact H6
    iintro Hx
    isplitl [H1]; · iexact H1
    isplitl [H2]; · iexact H2
    isplitl [H3]; · iexact H3
    isplitl [H4]; · iexact H4
    isplitl [H5]; · iexact H5
    iexact Hx

set_option maxRecDepth 65536 in
set_option maxHeartbeats 1600000 in
/-- One trip: step `i + 1` of the ring takes each channel from one state to the next and pays one instalment of every debt. -/
theorem trip_run (i : Fin k0_t1_loop.trips) (v5 v7 : BitVec 32) {W : Waits sig ℕ} {Kt : Unit → sProp 𝕄} :
    iprop(Env o κ ιs c ∗ Chan c 0 i.val ∗ Chan c 1 i.val ∗ Chan c 2 i.val ∗ Chan c 3 i.val
        ∗ owes (c : Thread nD τ) (OO (i.val + 1) (i.val + 1) (i.val + 1) (i.val + 1) (i.val + 1) (i.val + 1) (i.val + 1) (i.val + 1) c) W)
      ⊢ iprop(((Chan c 0 (i.val + 1) ∗ Chan c 1 (i.val + 1) ∗ Chan c 2 (i.val + 1) ∗ Chan c 3 (i.val + 1)
            ∗ ∃ W', owes (c : Thread nD τ) (OO (i.val + 2) (i.val + 2) (i.val + 2) (i.val + 2) (i.val + 2) (i.val + 2) (i.val + 2) (i.val + 2) c) W') -∗ Kt ())
        -∗ wp frame (wpE (defs₀ (F := F)) 𝒱₀ (c : Thread nD τ) none) Set.univ
            (k0_t1_body (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3)
              c v5 v7 (o c).wq (o c).wk (o c).wv (o c).wo (o c).cs (o c).sn (o c).rt i ()) Kt) := by
  have hi := trip_lt i
  unfold k0_t1_body
  rw [k0_part9_eq_skeleton]
  unfold k0_part9_skel Chan
  rw [show min (i.val + 1) (nS 0) = i.val + 1 by show min _ 31 = _; omega, show min (i.val + 1) (nS 1) = i.val + 1 by show min _ 32 = _; omega,
    show min (i.val + 1) (nS 2) = i.val + 1 by show min _ 31 = _; omega, show min (i.val + 1) (nS 3) = i.val + 1 by show min _ 32 = _; omega]
  simp only [semSignalWord, semWaitWord, Prog.lift, Prog.bind_op, Prog.bind_ret, Prog.pure_eq_ret, Prog.bind_assoc]
  iintro ⟨#HE, ⟨HSP0, HST0, HRP0, HRC0, HCW0, HCT0, HK0⟩, ⟨HSP1, HST1, HRP1, HRC1, HCW1, HCT1, -⟩,
    ⟨HSP2, HST2, HRP2, HRC2, HCW2, HCT2, HK2⟩, ⟨HSP3, HST3, HRP3, HRC3, HCW3, HCT3, -⟩, HO⟩ Hk
  ihave #HR := (Env_recs o κ ιs c) $$ HE
  ihave #Hlev := (Env_lev o κ ιs c) $$ HE
  rw [wp_bind]
  iapply (part1_run o κ ιs c i W v5 v7 (o c).wq (o c).wk (o c).wv) $$ [HRP0 HRC0 HCW0 HSP0 HST0 HRP2 HRC2 HCW2 HSP2 HST2 HO]
  · isplitr; · iexact HE
    isplitl [HRP0 HRC0 HCW0 HSP0 HST0]
    · isplitl [HRP0]; · iexact HRP0
      isplitl [HRC0]; · iexact HRC0
      isplitl [HCW0]; · iexact HCW0
      isplitl [HSP0] <;> iassumption
    isplitl [HRP2 HRC2 HCW2 HSP2 HST2]
    · isplitl [HRP2]; · iexact HRP2
      isplitl [HRC2]; · iexact HRC2
      isplitl [HCW2]; · iexact HCW2
      isplitl [HSP2] <;> iassumption
    iexact HO
  iintro ⟨HM0, HM2, ⟨%W1, HO⟩⟩
  rw [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc]
  ihave H2 := (Mid_read o c 2 i.val) $$ HM2
  icases H2 with ⟨%q2, Hx2, Hm2⟩
  iapply (step_load 2 c (i.val + 1) (k0_off12_eq i)) $$ Hx2
  iintro Hx2
  ihave HM2 := Hm2 $$ Hx2
  iapply (step_rwait (cont o) κ ιs 1 c i.val (by show _ < 32; omega) (rArr_sem 1 (i.val + 1) _ (k0_off1_inb i) (k0_off1_eq i))
    (slot_N 1 _ (k0_off2_inb i)) (low c (i.val + 1) (i.val + 2) (i.val + 1) (i.val + 2) (i.val + 1) (i.val + 1) (i.val + 1) (i.val + 1) (i.val + 1) (i.val + 2) (by omega) (by omega))) $$ [HRP1 HRC1 HO]
  · isplitr; · iexact HR
    isplitr; · iexact Hlev
    isplitl [HRP1]; · iexact HRP1
    isplitl [HRC1]; · iexact HRC1
    iexact HO
  iintro ⟨HRP1, HRC1, Ha1, HO⟩
  iapply (step_load 1 c (i.val + 1) (k0_off12_eq i)) $$ Ha1
  iintro Ha1
  iapply (step_load 1 c (i.val + 1) (k0_off12_eq i)) $$ Ha1
  iintro Ha1
  ihave Ha1 := (heldAt_any c 1 (i.val + 1) _) $$ Ha1
  iapply (step_store 1 c (i.val + 1) (k0_off12_eq i)) $$ Ha1
  iintro Ha1
  iapply (step_cwait (cont o) κ ιs 1 c i.val (by show _ < 31; omega) (cArr_sem 1) rfl
    (low c (i.val + 1) (i.val + 2) (i.val + 1) (i.val + 2) (i.val + 1) (i.val + 1) (i.val + 1) (i.val + 1) (i.val + 1) (i.val + 2) (by omega) (by omega))) $$ [HCW1 HO]
  · isplitr; · iexact HR
    isplitr; · iexact Hlev
    isplitl [HCW1]; · iexact HCW1
    iexact HO
  iintro ⟨HCW1, #Hrel1, ⟨%W1, HO⟩⟩
  iapply (step_send (cont o) κ ιs 1 c (i.val + 1) (by show _ < 32; omega) (slotM_of_off 1 (i.val + 1) _ _ (k0_off2_eq i)) (slotM_of_off 1 (i.val + 1 + 1) _ _ ((k0_off3_eq i).trans (other_slot i)))
    (sArr_sem 1 (i.val + 1) _ _ (k0_off1_eq i)) (rArr_sem 1 (i.val + 1 + 1) _ _ ((k0_off13_eq i).trans (other_sem i))) (dev_right 1 (by decide) c _ _ (k0_dev13_eq c))
    (OO (i.val + 2) (i.val + 2) (i.val + 2) (i.val + 1) (i.val + 1) (i.val + 1) (i.val + 1) (i.val + 1) c) (OO_send1 c _ _ _ _ _ _ _ _ (by show _ < 32; omega))) $$ [HSP1 HST1 Ha1 HO]
  · isplitr; · iexact HR
    isplitr; · iexact Hrel1
    isplitl [HSP1]; · iexact HSP1
    isplitl [HST1]; · iexact HST1
    isplitl [Ha1]; · iexact Ha1
    iexact HO
  iintro ⟨HSP1, HST1, Ha1, Hc1, HO⟩
  iapply (step_rwait (cont o) κ ιs 3 c i.val (by show _ < 32; omega) (rArr_sem 3 (i.val + 1) _ (k0_off1_inb i) (k0_off1_eq i))
    (slot_N 3 _ (k0_off2_inb i)) (low c (i.val + 1) (i.val + 2) (i.val + 2) (i.val + 2) (i.val + 1) (i.val + 1) (i.val + 1) (i.val + 1) (i.val + 1) (i.val + 2) (by omega) (by omega))) $$ [HRP3 HRC3 HO]
  · isplitr; · iexact HR
    isplitr; · iexact Hlev
    isplitl [HRP3]; · iexact HRP3
    isplitl [HRC3]; · iexact HRC3
    iexact HO
  iintro ⟨HRP3, HRC3, Ha3, HO⟩
  iapply (step_load 3 c (i.val + 1) (k0_off12_eq i)) $$ Ha3
  iintro Ha3
  iapply (step_load 3 c (i.val + 1) (k0_off12_eq i)) $$ Ha3
  iintro Ha3
  ihave Ha3 := (heldAt_any c 3 (i.val + 1) _) $$ Ha3
  iapply (step_store 3 c (i.val + 1) (k0_off12_eq i)) $$ Ha3
  iintro Ha3
  iapply (step_cwait (cont o) κ ιs 3 c i.val (by show _ < 31; omega) (cArr_sem 3) rfl
    (low c (i.val + 1) (i.val + 2) (i.val + 2) (i.val + 2) (i.val + 1) (i.val + 1) (i.val + 1) (i.val + 1) (i.val + 1) (i.val + 2) (by omega) (by omega))) $$ [HCW3 HO]
  · isplitr; · iexact HR
    isplitr; · iexact Hlev
    isplitl [HCW3]; · iexact HCW3
    iexact HO
  iintro ⟨HCW3, #Hrel3, ⟨%W3, HO⟩⟩
  iapply (step_send (cont o) κ ιs 3 c (i.val + 1) (by show _ < 32; omega) (slotM_of_off 3 (i.val + 1) _ _ (k0_off2_eq i)) (slotM_of_off 3 (i.val + 1 + 1) _ _ ((k0_off3_eq i).trans (other_slot i)))
    (sArr_sem 3 (i.val + 1) _ _ (k0_off1_eq i)) (rArr_sem 3 (i.val + 1 + 1) _ _ ((k0_off13_eq i).trans (other_sem i))) (dev_left 3 (by decide) c _ _ (k0_dev14_eq c))
    (OO (i.val + 2) (i.val + 2) (i.val + 2) (i.val + 2) (i.val + 1) (i.val + 1) (i.val + 1) (i.val + 1) c) (OO_send3 c _ _ _ _ _ _ _ _ (by show _ < 32; omega))) $$ [HSP3 HST3 Ha3 HO]
  · isplitr; · iexact HR
    isplitr; · iexact Hrel3
    isplitl [HSP3]; · iexact HSP3
    isplitl [HST3]; · iexact HST3
    isplitl [Ha3]; · iexact Ha3
    iexact HO
  iintro ⟨HSP3, HST3, Ha3, Hc3, HO⟩
  unfold Mid
  by_cases hl : i.val < 30
  · simp only [dif_pos ((cond3_iff i).mpr hl), dif_pos ((cond5_iff i).mpr hl), if_pos hl, Prog.bind_op, Prog.bind_ret, Prog.pure_eq_ret, Prog.bind_assoc]
    icases HM0 with ⟨HRP0, HRC0, HCW0, HSP0, HST0, Ha0, Hc0⟩
    icases HM2 with ⟨HRP2, HRC2, HCW2, HSP2, HST2, Ha2, Hc2⟩
    iapply (step_swait (cont o) κ ιs 0 c (i.val + 1) (by show _ < 31; omega) (sArr_sem 0 (i.val + 1) _ _ (k0_off14_eq i))
      (slot_N 0 _ (k0_off15_inb i ((cond3_iff i).mpr hl))) (low c (i.val + 1) (i.val + 2) (i.val + 2) (i.val + 2) (i.val + 2) (i.val + 1) (i.val + 1) (i.val + 1) (i.val + 1) 0 (by omega) (by omega))) $$ [HSP0 Hc0 Ha0 HO]
    · isplitr; · iexact HR
      isplitr; · iexact Hlev
      isplitl [HSP0]; · iexact HSP0
      isplitl [Hc0]; · iexact Hc0
      isplitl [Ha0]; · iexact Ha0
      iexact HO
    iintro ⟨HSP0, Ha0, HO⟩
    ihave Ha0 := (heldAt_any c 0 (i.val + 1) _) $$ Ha0
    iapply (step_swait (cont o) κ ιs 2 c (i.val + 1) (by show _ < 31; omega) (sArr_sem 2 (i.val + 1) _ _ (k0_off14_eq i))
      (slot_N 2 _ (k0_off15_inb i ((cond3_iff i).mpr hl))) (low c (i.val + 1) (i.val + 2) (i.val + 2) (i.val + 2) (i.val + 2) (i.val + 1) (i.val + 1) (i.val + 1) (i.val + 1) 0 (by omega) (by omega))) $$ [HSP2 Hc2 Ha2 HO]
    · isplitr; · iexact HR
      isplitr; · iexact Hlev
      isplitl [HSP2]; · iexact HSP2
      isplitl [Hc2]; · iexact Hc2
      isplitl [Ha2]; · iexact Ha2
      iexact HO
    iintro ⟨HSP2, Ha2, HO⟩
    ihave Ha2 := (heldAt_any c 2 (i.val + 1) _) $$ Ha2
    rw [show min (i.val + 1) (nC 1) = i.val + 1 by show min _ 31 = _; omega, show min (i.val + 1) (nC 3) = i.val + 1 by show min _ 31 = _; omega]
    rw [show min (i.val + 1) (nC 0) = i.val + 1 by show min _ 30 = _; omega, show min (i.val + 1) (nC 2) = i.val + 1 by show min _ 30 = _; omega]
    by_cases hl' : i.val < 29
    · simp only [dif_pos ((cond4_iff i).mpr hl'), semSignalWord, Prog.lift, Prog.bind_op, Prog.bind_ret, Prog.pure_eq_ret, Prog.bind_assoc]
      iapply (step_credit (cont o) κ ιs 0 c (i.val + 1) (by show _ < 30; omega) (cArr_sem 0) (dev_left' 0 (by decide) c _ _ (k0_dev15_eq c)) rfl
        (OO (i.val + 2) (i.val + 2) (i.val + 2) (i.val + 2) (i.val + 2) (i.val + 1) (i.val + 1) (i.val + 1) c) (OO_credit0 c _ _ _ _ _ _ _ _ (by show _ < 30; omega))) $$ [HRP0 HCT0 Ha0 HO]
      · isplitr; · iexact HR
        isplitr; · iapply (Env_src o κ ιs c 0); iexact HE
        isplitl [HRP0]; · iexact HRP0
        isplitl [HCT0]; · iexact HCT0
        isplitl [Ha0]; · iexact Ha0
        iexact HO
      iintro ⟨HRP0, HCT0, HO⟩
      iapply (step_credit (cont o) κ ιs 2 c (i.val + 1) (by show _ < 30; omega) (cArr_sem 2) (dev_right' 2 (by decide) c _ _ (k0_dev16_eq c)) rfl
        (OO (i.val + 2) (i.val + 2) (i.val + 2) (i.val + 2) (i.val + 2) (i.val + 1) (i.val + 2) (i.val + 1) c) (OO_credit2 c _ _ _ _ _ _ _ _ (by show _ < 30; omega))) $$ [HRP2 HCT2 Ha2 HO]
      · isplitr; · iexact HR
        isplitr; · iapply (Env_src o κ ιs c 2); iexact HE
        isplitl [HRP2]; · iexact HRP2
        isplitl [HCT2]; · iexact HCT2
        isplitl [Ha2]; · iexact Ha2
        iexact HO
      iintro ⟨HRP2, HCT2, HO⟩
      iapply (step_swait (cont o) κ ιs 1 c (i.val + 1) (by show _ < 32; omega) (sArr_sem 1 (i.val + 1) _ _ (k0_off1_eq i))
        (slot_N 1 _ (k0_off2_inb i)) (low c (i.val + 1) (i.val + 2) (i.val + 2) (i.val + 2) (i.val + 2) (i.val + 2) (i.val + 1) (i.val + 2) (i.val + 1) 0 (by omega) (by omega))) $$ [HSP1 Hc1 Ha1 HO]
      · isplitr; · iexact HR
        isplitr; · iexact Hlev
        isplitl [HSP1]; · iexact HSP1
        isplitl [Hc1]; · iexact Hc1
        isplitl [Ha1]; · iexact Ha1
        iexact HO
      iintro ⟨HSP1, Ha1, HO⟩
      ihave Ha1 := (heldAt_any c 1 (i.val + 1) _) $$ Ha1
      iapply (step_swait (cont o) κ ιs 3 c (i.val + 1) (by show _ < 32; omega) (sArr_sem 3 (i.val + 1) _ _ (k0_off1_eq i))
        (slot_N 3 _ (k0_off2_inb i)) (low c (i.val + 1) (i.val + 2) (i.val + 2) (i.val + 2) (i.val + 2) (i.val + 2) (i.val + 1) (i.val + 2) (i.val + 1) 0 (by omega) (by omega))) $$ [HSP3 Hc3 Ha3 HO]
      · isplitr; · iexact HR
        isplitr; · iexact Hlev
        isplitl [HSP3]; · iexact HSP3
        isplitl [Hc3]; · iexact Hc3
        isplitl [Ha3]; · iexact Ha3
        iexact HO
      iintro ⟨HSP3, Ha3, HO⟩
      ihave Ha3 := (heldAt_any c 3 (i.val + 1) _) $$ Ha3
      iapply (step_credit (cont o) κ ιs 1 c (i.val + 1) (by show _ < 31; omega) (cArr_sem 1) (dev_left' 1 (by decide) c _ _ (k0_dev17_eq c)) rfl
        (OO (i.val + 2) (i.val + 2) (i.val + 2) (i.val + 2) (i.val + 2) (i.val + 2) (i.val + 2) (i.val + 1) c) (OO_credit1 c _ _ _ _ _ _ _ _ (by show _ < 31; omega))) $$ [HRP1 HCT1 Ha1 HO]
      · isplitr; · iexact HR
        isplitr; · iapply (Env_src o κ ιs c 1); iexact HE
        isplitl [HRP1]; · iexact HRP1
        isplitl [HCT1]; · iexact HCT1
        isplitl [Ha1]; · iexact Ha1
        iexact HO
      iintro ⟨HRP1, HCT1, HO⟩
      iapply (step_credit (cont o) κ ιs 3 c (i.val + 1) (by show _ < 31; omega) (cArr_sem 3) (dev_right' 3 (by decide) c _ _ (k0_dev18_eq c)) rfl
        (OO (i.val + 2) (i.val + 2) (i.val + 2) (i.val + 2) (i.val + 2) (i.val + 2) (i.val + 2) (i.val + 2) c) (OO_credit3 c _ _ _ _ _ _ _ _ (by show _ < 31; omega))) $$ [HRP3 HCT3 Ha3 HO]
      · isplitr; · iexact HR
        isplitr; · iapply (Env_src o κ ιs c 3); iexact HE
        isplitl [HRP3]; · iexact HRP3
        isplitl [HCT3]; · iexact HCT3
        isplitl [Ha3]; · iexact Ha3
        iexact HO
      iintro ⟨HRP3, HCT3, HO⟩
      rw [wp_ret]
      imodintro
      iapply Hk
      rw [show min (i.val + 1 + 1) (nS 0) = i.val + 1 + 1 by show min _ 31 = _; omega, show min (i.val + 1 + 1) (nS 1) = i.val + 1 + 1 by show min _ 32 = _; omega, show min (i.val + 1 + 1) (nS 2) = i.val + 1 + 1 by show min _ 31 = _; omega, show min (i.val + 1 + 1) (nS 3) = i.val + 1 + 1 by show min _ 32 = _; omega, show min (i.val + 1 + 1) (nC 0) = i.val + 1 + 1 by show min _ 30 = _; omega, show min (i.val + 1 + 1) (nC 1) = i.val + 1 + 1 by show min _ 31 = _; omega, show min (i.val + 1 + 1) (nC 2) = i.val + 1 + 1 by show min _ 30 = _; omega, show min (i.val + 1 + 1) (nC 3) = i.val + 1 + 1 by show min _ 31 = _; omega]
      isplitl [HSP0 HST0 HRP0 HRC0 HCW0 HCT0]
      · isplitl [HSP0]; · iexact HSP0
        isplitl [HST0]; · iexact HST0
        isplitl [HRP0]; · iexact HRP0
        isplitl [HRC0]; · iexact HRC0
        isplitl [HCW0]; · iexact HCW0
        isplitl [HCT0]; · iexact HCT0
        iapply (Kept_none c 0 (i.val + 1) (by show _ < 30; omega))
      isplitl [HSP1 HST1 HRP1 HRC1 HCW1 HCT1]
      · isplitl [HSP1]; · iexact HSP1
        isplitl [HST1]; · iexact HST1
        isplitl [HRP1]; · iexact HRP1
        isplitl [HRC1]; · iexact HRC1
        isplitl [HCW1]; · iexact HCW1
        isplitl [HCT1]; · iexact HCT1
        iapply (Kept_none c 1 (i.val + 1) (by show _ < 31; omega))
      isplitl [HSP2 HST2 HRP2 HRC2 HCW2 HCT2]
      · isplitl [HSP2]; · iexact HSP2
        isplitl [HST2]; · iexact HST2
        isplitl [HRP2]; · iexact HRP2
        isplitl [HRC2]; · iexact HRC2
        isplitl [HCW2]; · iexact HCW2
        isplitl [HCT2]; · iexact HCT2
        iapply (Kept_none c 2 (i.val + 1) (by show _ < 30; omega))
      isplitl [HSP3 HST3 HRP3 HRC3 HCW3 HCT3]
      · isplitl [HSP3]; · iexact HSP3
        isplitl [HST3]; · iexact HST3
        isplitl [HRP3]; · iexact HRP3
        isplitl [HRC3]; · iexact HRC3
        isplitl [HCW3]; · iexact HCW3
        isplitl [HCT3]; · iexact HCT3
        iapply (Kept_none c 3 (i.val + 1) (by show _ < 31; omega))
      iexists _
      iexact HO
    · simp only [dif_neg (fun h => hl' ((cond4_iff i).mp h)), semSignalWord, Prog.lift, Prog.bind_op, Prog.bind_ret, Prog.pure_eq_ret, Prog.bind_assoc]
      iapply (step_swait (cont o) κ ιs 1 c (i.val + 1) (by show _ < 32; omega) (sArr_sem 1 (i.val + 1) _ _ (k0_off1_eq i))
        (slot_N 1 _ (k0_off2_inb i)) (low c (i.val + 1) (i.val + 2) (i.val + 2) (i.val + 2) (i.val + 2) (i.val + 1) (i.val + 1) (i.val + 1) (i.val + 1) 0 (by omega) (by omega))) $$ [HSP1 Hc1 Ha1 HO]
      · isplitr; · iexact HR
        isplitr; · iexact Hlev
        isplitl [HSP1]; · iexact HSP1
        isplitl [Hc1]; · iexact Hc1
        isplitl [Ha1]; · iexact Ha1
        iexact HO
      iintro ⟨HSP1, Ha1, HO⟩
      ihave Ha1 := (heldAt_any c 1 (i.val + 1) _) $$ Ha1
      iapply (step_swait (cont o) κ ιs 3 c (i.val + 1) (by show _ < 32; omega) (sArr_sem 3 (i.val + 1) _ _ (k0_off1_eq i))
        (slot_N 3 _ (k0_off2_inb i)) (low c (i.val + 1) (i.val + 2) (i.val + 2) (i.val + 2) (i.val + 2) (i.val + 1) (i.val + 1) (i.val + 1) (i.val + 1) 0 (by omega) (by omega))) $$ [HSP3 Hc3 Ha3 HO]
      · isplitr; · iexact HR
        isplitr; · iexact Hlev
        isplitl [HSP3]; · iexact HSP3
        isplitl [Hc3]; · iexact Hc3
        isplitl [Ha3]; · iexact Ha3
        iexact HO
      iintro ⟨HSP3, Ha3, HO⟩
      ihave Ha3 := (heldAt_any c 3 (i.val + 1) _) $$ Ha3
      iapply (step_credit (cont o) κ ιs 1 c (i.val + 1) (by show _ < 31; omega) (cArr_sem 1) (dev_left' 1 (by decide) c _ _ (k0_dev17_eq c)) rfl
        (OO (i.val + 2) (i.val + 2) (i.val + 2) (i.val + 2) (i.val + 1) (i.val + 2) (i.val + 1) (i.val + 1) c) (OO_credit1 c _ _ _ _ _ _ _ _ (by show _ < 31; omega))) $$ [HRP1 HCT1 Ha1 HO]
      · isplitr; · iexact HR
        isplitr; · iapply (Env_src o κ ιs c 1); iexact HE
        isplitl [HRP1]; · iexact HRP1
        isplitl [HCT1]; · iexact HCT1
        isplitl [Ha1]; · iexact Ha1
        iexact HO
      iintro ⟨HRP1, HCT1, HO⟩
      iapply (step_credit (cont o) κ ιs 3 c (i.val + 1) (by show _ < 31; omega) (cArr_sem 3) (dev_right' 3 (by decide) c _ _ (k0_dev18_eq c)) rfl
        (OO (i.val + 2) (i.val + 2) (i.val + 2) (i.val + 2) (i.val + 1) (i.val + 2) (i.val + 1) (i.val + 2) c) (OO_credit3 c _ _ _ _ _ _ _ _ (by show _ < 31; omega))) $$ [HRP3 HCT3 Ha3 HO]
      · isplitr; · iexact HR
        isplitr; · iapply (Env_src o κ ιs c 3); iexact HE
        isplitl [HRP3]; · iexact HRP3
        isplitl [HCT3]; · iexact HCT3
        isplitl [Ha3]; · iexact Ha3
        iexact HO
      iintro ⟨HRP3, HCT3, HO⟩
      have eO : OO (i.val + 2) (i.val + 2) (i.val + 2) (i.val + 2) (i.val + 1) (i.val + 2) (i.val + 1) (i.val + 2) c
          = OO (i.val + 2) (i.val + 2) (i.val + 2) (i.val + 2) (i.val + 2) (i.val + 2) (i.val + 2) (i.val + 2) c := by
        unfold OO
        rw [OC_end (ch := 0) (k := i.val + 1) (by show 30 ≤ _; omega), OC_end (ch := 0) (k := i.val + 2) (by show 30 ≤ _; omega),
          OC_end (ch := 2) (k := i.val + 1) (by show 30 ≤ _; omega), OC_end (ch := 2) (k := i.val + 2) (by show 30 ≤ _; omega)]
      rw [eO]
      rw [wp_ret]
      imodintro
      iapply Hk
      rw [show min (i.val + 1 + 1) (nS 0) = i.val + 1 + 1 by show min _ 31 = _; omega, show min (i.val + 1 + 1) (nS 1) = i.val + 1 + 1 by show min _ 32 = _; omega, show min (i.val + 1 + 1) (nS 2) = i.val + 1 + 1 by show min _ 31 = _; omega, show min (i.val + 1 + 1) (nS 3) = i.val + 1 + 1 by show min _ 32 = _; omega, show min (i.val + 1 + 1) (nC 0) = i.val + 1 by show min _ 30 = _; omega, show min (i.val + 1 + 1) (nC 1) = i.val + 1 + 1 by show min _ 31 = _; omega, show min (i.val + 1 + 1) (nC 2) = i.val + 1 by show min _ 30 = _; omega, show min (i.val + 1 + 1) (nC 3) = i.val + 1 + 1 by show min _ 31 = _; omega]
      isplitl [HSP0 HST0 HRP0 HRC0 HCW0 HCT0 Ha0]
      · isplitl [HSP0]; · iexact HSP0
        isplitl [HST0]; · iexact HST0
        isplitl [HRP0]; · iexact HRP0
        isplitl [HRC0]; · iexact HRC0
        isplitl [HCW0]; · iexact HCW0
        isplitl [HCT0]; · iexact HCT0
        iapply (Kept_one c 0 (i.val + 1) (by show _ = 30; omega)) $$ Ha0
      isplitl [HSP1 HST1 HRP1 HRC1 HCW1 HCT1]
      · isplitl [HSP1]; · iexact HSP1
        isplitl [HST1]; · iexact HST1
        isplitl [HRP1]; · iexact HRP1
        isplitl [HRC1]; · iexact HRC1
        isplitl [HCW1]; · iexact HCW1
        isplitl [HCT1]; · iexact HCT1
        iapply (Kept_none c 1 (i.val + 1) (by show _ < 31; omega))
      isplitl [HSP2 HST2 HRP2 HRC2 HCW2 HCT2 Ha2]
      · isplitl [HSP2]; · iexact HSP2
        isplitl [HST2]; · iexact HST2
        isplitl [HRP2]; · iexact HRP2
        isplitl [HRC2]; · iexact HRC2
        isplitl [HCW2]; · iexact HCW2
        isplitl [HCT2]; · iexact HCT2
        iapply (Kept_one c 2 (i.val + 1) (by show _ = 30; omega)) $$ Ha2
      isplitl [HSP3 HST3 HRP3 HRC3 HCW3 HCT3]
      · isplitl [HSP3]; · iexact HSP3
        isplitl [HST3]; · iexact HST3
        isplitl [HRP3]; · iexact HRP3
        isplitl [HRC3]; · iexact HRC3
        isplitl [HCW3]; · iexact HCW3
        isplitl [HCT3]; · iexact HCT3
        iapply (Kept_none c 3 (i.val + 1) (by show _ < 31; omega))
      iexists _
      iexact HO
  · simp only [dif_neg (fun h => hl ((cond3_iff i).mp h)), dif_neg (fun h => hl ((cond5_iff i).mp h)), dif_neg (fun h => hl (Nat.lt_succ_of_lt ((cond4_iff i).mp h))),
      if_neg hl, semSignalWord, Prog.lift, Prog.bind_op, Prog.bind_ret, Prog.pure_eq_ret, Prog.bind_assoc]
    icases HM0 with ⟨HRP0, HRC0, HCW0, HSP0, HST0, Ha0⟩
    icases HM2 with ⟨HRP2, HRC2, HCW2, HSP2, HST2, Ha2⟩
    ihave Ha0 := (heldAt_any c 0 (i.val + 1) _) $$ Ha0
    ihave Ha2 := (heldAt_any c 2 (i.val + 1) _) $$ Ha2
    iapply (step_swait (cont o) κ ιs 1 c (i.val + 1) (by show _ < 32; omega) (sArr_sem 1 (i.val + 1) _ _ (k0_off1_eq i))
      (slot_N 1 _ (k0_off2_inb i)) (low c (i.val + 1) (i.val + 2) (i.val + 2) (i.val + 2) (i.val + 2) (i.val + 1) (i.val + 1) (i.val + 1) (i.val + 1) 0 (by omega) (by omega))) $$ [HSP1 Hc1 Ha1 HO]
    · isplitr; · iexact HR
      isplitr; · iexact Hlev
      isplitl [HSP1]; · iexact HSP1
      isplitl [Hc1]; · iexact Hc1
      isplitl [Ha1]; · iexact Ha1
      iexact HO
    iintro ⟨HSP1, Ha1, HO⟩
    ihave Ha1 := (heldAt_any c 1 (i.val + 1) _) $$ Ha1
    iapply (step_swait (cont o) κ ιs 3 c (i.val + 1) (by show _ < 32; omega) (sArr_sem 3 (i.val + 1) _ _ (k0_off1_eq i))
      (slot_N 3 _ (k0_off2_inb i)) (low c (i.val + 1) (i.val + 2) (i.val + 2) (i.val + 2) (i.val + 2) (i.val + 1) (i.val + 1) (i.val + 1) (i.val + 1) 0 (by omega) (by omega))) $$ [HSP3 Hc3 Ha3 HO]
    · isplitr; · iexact HR
      isplitr; · iexact Hlev
      isplitl [HSP3]; · iexact HSP3
      isplitl [Hc3]; · iexact Hc3
      isplitl [Ha3]; · iexact Ha3
      iexact HO
    iintro ⟨HSP3, Ha3, HO⟩
    ihave Ha3 := (heldAt_any c 3 (i.val + 1) _) $$ Ha3
    have eO : OO (i.val + 2) (i.val + 2) (i.val + 2) (i.val + 2) (i.val + 1) (i.val + 1) (i.val + 1) (i.val + 1) c
        = OO (i.val + 2) (i.val + 2) (i.val + 2) (i.val + 2) (i.val + 2) (i.val + 2) (i.val + 2) (i.val + 2) c := by
      unfold OO
      rw [OC_end (ch := 0) (k := i.val + 1) (by show 30 ≤ _; omega), OC_end (ch := 0) (k := i.val + 2) (by show 30 ≤ _; omega),
        OC_end (ch := 2) (k := i.val + 1) (by show 30 ≤ _; omega), OC_end (ch := 2) (k := i.val + 2) (by show 30 ≤ _; omega),
        OC_end (ch := 1) (k := i.val + 1) (by show 31 ≤ _; omega), OC_end (ch := 1) (k := i.val + 2) (by show 31 ≤ _; omega),
        OC_end (ch := 3) (k := i.val + 1) (by show 31 ≤ _; omega), OC_end (ch := 3) (k := i.val + 2) (by show 31 ≤ _; omega)]
    rw [eO]
    rw [wp_ret]
    imodintro
    iapply Hk
    rw [show min (i.val + 1 + 1) (nS 0) = i.val + 1 by show min _ 31 = _; omega, show min (i.val + 1 + 1) (nS 1) = i.val + 1 + 1 by show min _ 32 = _; omega, show min (i.val + 1 + 1) (nS 2) = i.val + 1 by show min _ 31 = _; omega, show min (i.val + 1 + 1) (nS 3) = i.val + 1 + 1 by show min _ 32 = _; omega, show min (i.val + 1 + 1) (nC 0) = min (i.val + 1) (nC 0) by show min _ 30 = min _ 30; omega, show min (i.val + 1 + 1) (nC 1) = min (i.val + 1) (nC 1) by show min _ 31 = min _ 31; omega, show min (i.val + 1 + 1) (nC 2) = min (i.val + 1) (nC 2) by show min _ 30 = min _ 30; omega, show min (i.val + 1 + 1) (nC 3) = min (i.val + 1) (nC 3) by show min _ 31 = min _ 31; omega]
    isplitl [HSP0 HST0 HRP0 HRC0 HCW0 HCT0 HK0 Ha0]
    · isplitl [HSP0]; · iexact HSP0
      isplitl [HST0]; · iexact HST0
      isplitl [HRP0]; · iexact HRP0
      isplitl [HRC0]; · iexact HRC0
      isplitl [HCW0]; · iexact HCW0
      isplitl [HCT0]; · iexact HCT0
      iapply (Kept_two c 0 i.val (by show _ = 30; omega)) $$ [HK0 Ha0]
      isplitl [HK0] <;> iassumption
    isplitl [HSP1 HST1 HRP1 HRC1 HCW1 HCT1 Ha1]
    · isplitl [HSP1]; · iexact HSP1
      isplitl [HST1]; · iexact HST1
      isplitl [HRP1]; · iexact HRP1
      isplitl [HRC1]; · iexact HRC1
      isplitl [HCW1]; · iexact HCW1
      isplitl [HCT1]; · iexact HCT1
      iapply (Kept_one c 1 (i.val + 1) (by show _ = 31; omega)) $$ Ha1
    isplitl [HSP2 HST2 HRP2 HRC2 HCW2 HCT2 HK2 Ha2]
    · isplitl [HSP2]; · iexact HSP2
      isplitl [HST2]; · iexact HST2
      isplitl [HRP2]; · iexact HRP2
      isplitl [HRC2]; · iexact HRC2
      isplitl [HCW2]; · iexact HCW2
      isplitl [HCT2]; · iexact HCT2
      iapply (Kept_two c 2 i.val (by show _ = 30; omega)) $$ [HK2 Ha2]
      isplitl [HK2] <;> iassumption
    isplitl [HSP3 HST3 HRP3 HRC3 HCW3 HCT3 Ha3]
    · isplitl [HSP3]; · iexact HSP3
      isplitl [HST3]; · iexact HST3
      isplitl [HRP3]; · iexact HRP3
      isplitl [HRC3]; · iexact HRC3
      isplitl [HCW3]; · iexact HCW3
      isplitl [HCT3]; · iexact HCT3
      iapply (Kept_one c 3 (i.val + 1) (by show _ = 31; omega)) $$ Ha3
    iexists _
    iexact HO

end Trip

end Cert.Ring
-- ==== Proof.Start.lean ====
/-
  What a device holds of each channel when the kernel's body starts, and how the semaphores and buffers come back when it ends.
-/
module

public import proofs.«01_k».proof.Proof.Trip

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig ℕ (Elt F) ℕ UU ℕ

variable (X : Fin 4 → ℕ → Dev nD → Vec F S128x512 .bf16) (κ : GSem nD τ sig → ℕ) (ιs : Key → ℕ) (c : Dev nD)

/-! ## The buffers -/

/-- A channel's buffer of two slots, at contents not chosen. -/
def bufAny (ch : Fin 4) : sProp 𝕄 := Release.slot ((bufM ch).view.loc (c : Thread nD τ)) (bufM ch).view.set

omit [FloatOps F] [∀ e, Nonempty (Elt F e)] in
/-- A buffer is its two slots, -/
theorem buf_split (ch : Fin 4) : bufAny (F := F) c ch ⊢ iprop(slotAny c ch 0 ∗ slotAny c ch 1) := by
  unfold bufAny slotAny Release.slot
  rw [slotM_set, slotM_set, ← slot_cover ch 0]
  iintro ⟨%f, H⟩
  ihave H' := (pointsTo_union (slot_disjoint ch 0)).1 $$ H
  icases H' with ⟨H0, H1⟩
  isplitl [H0]
  · iexists f; iexact H0
  · iexists f; iexact H1

omit [FloatOps F] [∀ e, Nonempty (Elt F e)] in
/-- and two slots that follow each other are the buffer. -/
theorem buf_join (ch : Fin 4) (t : ℕ) : iprop(slotAny (F := F) c ch t ∗ slotAny c ch (t + 1)) ⊢ bufAny c ch := by
  unfold bufAny slotAny Release.slot
  rw [slotM_set, slotM_set, ← slot_cover ch t]
  iintro ⟨⟨%f, H0⟩, ⟨%g, H1⟩⟩
  iexists _
  iapply (pointsTo_join (slot_disjoint ch t))
  isplitl [H0] <;> iassumption

/-! ## The start -/

/-- What a device holds of a channel besides its buffer when the body starts. -/
def Start (ch : Fin 4) : sProp 𝕄 :=
  iprop(SP (F := F) ch 0 c ∗ ST ch 0 c ∗ RP ch 0 c ∗ RC ch 0 c ∗ CW ch 0 c
    ∗ (bigSep (Finset.Ico 0 (nC ch)) fun i => dutyTok (ER (F := F)) (cCell ch (src ch c)) 0 i)
    ∗ (Release.readerAt (ES (F := F)) (c, ch, 0) 0 ∗ Release.readerAt (ES (F := F)) (c, ch, 1) 0)
    ∗ reached (ER (F := F)) (cCell ch c) 0)

/-- A channel whose other slot is given up to its source, before the first step. -/
def Ready (ch : Fin 4) : sProp 𝕄 :=
  iprop(SP (F := F) ch 0 c ∗ ST ch 0 c ∗ RP ch 0 c ∗ RC ch 0 c ∗ CW ch 0 c ∗ CT ch 0 c)

/-- Giving up the second slot of a channel: what the greeting says of the channel holds. -/
theorem start_ready (ch : Fin 4) :
    iprop(Recs X κ ιs ∗ Start c ch ∗ bufAny c ch) ⊢ iprop(|={Set.univ}=> (Hello1 c ch ∗ Ready c ch ∗ slotAny c ch 0)) := by
  unfold Start Ready CT Hello1
  iintro ⟨#HR, ⟨HSP, HST, HRP, HRC, HCW, HT, ⟨Hr0, Hr1⟩, #Hc⟩, HB⟩
  ihave HB' := (buf_split c ch) $$ HB
  icases HB' with ⟨HS0, HS1⟩
  ihave #HI := (Recs_slot X κ ιs c ch 1) $$ HR
  imod (Release.slot_release (ES (F := F)) (Set.mem_univ _) (S := Sl (c, ch, 1 % 2)) (Release.slot_slot_false (slotM_nonempty ch _)) 0) $$ [Hr1 HS1] with ⟨Hr1, #Hrel⟩
  · isplitr; · iexact HI
    isplitl [Hr1]; · iexact Hr1
    rw [Sl_at]; iexact HS1
  unfold RP
  icases HRP with ⟨⟨Ha, #Hrd⟩, HRP2⟩
  ihave #HRel : Rel (F := F) c ch 0 $$ []
  · unfold Rel
    isplitr; · iexact Hrel
    iexact Hrd
  imodintro
  isplitr
  · isplitr; · iexact HRel
    iexact Hc
  isplitr [HS0]
  · isplitl [HSP]; · iexact HSP
    isplitl [HST]; · iexact HST
    isplitl [Ha HRP2]
    · isplitl [Ha]
      · isplitl [Ha]; · iexact Ha
        iexact Hrd
      iexact HRP2
    isplitl [HRC]; · iexact HRC
    isplitl [HCW]; · iexact HCW
    isplitl [HT]; · iexact HT
    isplitl [Hr0 Hr1]
    · isplitl [Hr0]; · iexact Hr0
      iexact Hr1
    iexact HRel
  iexact HS0

/-! ## The end -/

/-- The five semaphores of a channel at zero. -/
def Closed (ch : Fin 4) : sProp 𝕄 :=
  iprop(semVal (sCell ch 0 c) 0 ∗ semVal (sCell ch 1 c) 0 ∗ semVal (rCell ch 0 c) 0 ∗ semVal (rCell ch 1 c) 0 ∗ semVal (cCell ch c) 0)

/-- When all transfers and credits of a channel are over its semaphores come back at zero. -/
theorem chan_close (ch : Fin 4) (t j : ℕ) (ht : nS ch ≤ t) (hj : nC ch ≤ j) :
    iprop(Recs X κ ιs ∗ SP ch t c ∗ RP ch t c ∗ CW ch j c) ⊢ iprop(|={Set.univ}=> Closed c ch) := by
  unfold SP RP CW
  rw [if_neg (by omega)]
  iintro ⟨#HR, ⟨⟨Hs0, -⟩, ⟨Hs1, -⟩⟩, ⟨⟨Hr0, -⟩, ⟨Hr1, -⟩⟩, -, Hc⟩
  imod (cell_close ER (Rd X) (Set.mem_univ (κ (sCell ch t c))) id (later_s X ch t c ht)) $$ [Hs0] with Hs0
  · isplitr; · iapply (Recs_cell X κ ιs (mem_s ch t c)); iexact HR
    iexact Hs0
  imod (cell_close ER (Rd X) (Set.mem_univ (κ (sCell ch (t + 1) c))) id (later_s X ch (t + 1) c (by omega))) $$ [Hs1] with Hs1
  · isplitr; · iapply (Recs_cell X κ ιs (mem_s ch (t + 1) c)); iexact HR
    iexact Hs1
  imod (cell_close ER (Rd X) (Set.mem_univ (κ (rCell ch (t + 1) c))) id (later_r X ch t c ht)) $$ [Hr0] with Hr0
  · isplitr; · iapply (Recs_cell X κ ιs (mem_r ch (t + 1) c)); iexact HR
    iexact Hr0
  imod (cell_close ER (Rd X) (Set.mem_univ (κ (rCell ch (t + 2) c))) id (later_r X ch (t + 1) c (by omega))) $$ [Hr1] with Hr1
  · isplitr; · iapply (Recs_cell X κ ιs (mem_r ch (t + 2) c)); iexact HR
    iexact Hr1
  imod (cell_close ER (Rd X) (Set.mem_univ (κ (cCell ch c))) id (later_c X ch c)) $$ [Hc] with Hc
  · isplitr; · iapply (Recs_cell X κ ιs (mem_c ch c)); iexact HR
    iexact Hc
  imodintro
  unfold Closed
  rcases Nat.mod_two_eq_zero_or_one t with h | h
  · rw [sCell_congr ch c (show t % 2 = 0 % 2 by omega), sCell_congr ch c (show (t + 1) % 2 = 1 % 2 by omega),
      rCell_congr ch c (show (t + 1) % 2 = 1 % 2 by omega), rCell_congr ch c (show (t + 1 + 1) % 2 = 0 % 2 by omega)]
    isplitl [Hs0]; · iexact Hs0
    isplitl [Hs1]; · iexact Hs1
    isplitl [Hr1]; · iexact Hr1
    isplitl [Hr0]; · iexact Hr0
    iexact Hc
  · rw [sCell_congr ch c (show t % 2 = 1 % 2 by omega), sCell_congr ch c (show (t + 1) % 2 = 0 % 2 by omega),
      rCell_congr ch c (show (t + 1) % 2 = 0 % 2 by omega), rCell_congr ch c (show (t + 1 + 1) % 2 = 1 % 2 by omega)]
    isplitl [Hs1]; · iexact Hs1
    isplitl [Hs0]; · iexact Hs0
    isplitl [Hr0]; · iexact Hr0
    isplitl [Hr1]; · iexact Hr1
    iexact Hc

/-! ## The barrier -/

/-- What a device holds for the barrier: its own cell's position and credit, and the right to greet each neighbour. -/
def Bar : sProp 𝕄 :=
  iprop(atPos (ER (F := F)) (bCell c) 0 ∅ 0 ∗ cred (tallyAt (bCell c) 1 2)
    ∗ dutyTok (ER (F := F)) (bCell (left c)) 0 0 ∗ dutyTok (ER (F := F)) (bCell (right c)) 0 1)

section Steps

variable {α : Type}

/-- Greeting a neighbour: the greeting says the device's slots are ready. -/
theorem step_hello {e : Dev nD} {d : ℕ} (hd : d ∈ ({0, 1} : Finset ℕ)) (hp : (Rd X).payload (bCell e) 0 d = Hello c)
    {cs : Sem sig} (hcs : cs = bS) {dev : Dev nD} (hdev : dev = e) {z : ℤ} (hz : z = ((1 : ℕ) : ℤ))
    {k : PUnit → Prog (TpuEff nD τ sig (Elt F) Λ₀ .tc) α} {Kt : α → sProp 𝕄}
    {O₀ : CellTallies nD τ sig ℕ} (O : CellTallies nD τ sig ℕ) (hO : O₀ = O + tallyAt (bCell e) 1 1) {W : Waits sig ℕ} :
    iprop(Recs X κ ιs ∗ Hello c ∗ dutyTok ER (bCell e) 0 d ∗ owes (c : Thread nD τ) O₀ W)
      ⊢ iprop((owes (c : Thread nD τ) O W -∗ wp frame (wpE (defs₀ (F := F)) 𝒱₀ c none) Set.univ (k ⟨⟩) Kt)
          -∗ wp frame (wpE (defs₀ (F := F)) 𝒱₀ c none) Set.univ (.op (.semSignal (dev : Thread nD τ) cs z) k) Kt) := by
  subst hcs hdev hz
  iintro ⟨#HR, #Hh, Htok, HO⟩ Hk
  iapply (Rounds.wp_signal 𝒱₀ ER (Rd X) (c : Thread nD τ) none (dst := (dev : Thread nD τ)) (sem := bS) (r := 0) (d := d) (k' := 1)
      (κ := κ (bCell dev)) (by rw [duties_b]; exact hd) (amount_b X _ _ _) 1 O hO) $$ [HO Htok]
  · isplitr; · iapply (Recs_cell X κ ιs (mem_b dev)); iexact HR
    isplitl [HO]; · iexact HO
    isplitl [Htok]; · iexact Htok
    isplitr; · rw [hp]; iexact Hh
    iapply (Recs_bar X κ ιs dev); iexact HR
  iexact Hk

/-- Waiting at the barrier: both neighbours have greeted. -/
theorem step_bwait {cs : Sem sig} (hcs : cs = bS) {z : ℤ} (hz : z = ((2 : ℕ) : ℤ))
    {k : PUnit → Prog (TpuEff nD τ sig (Elt F) Λ₀ .tc) α} {Kt : α → sProp 𝕄} {O : CellTallies nD τ sig ℕ} (hO : ∀ g u, 0 < O g u → u ∈ L g ∧ 1 < u) {W : Waits sig ℕ} :
    iprop(Recs X κ ιs ∗ levAts L lv ∗ atPos ER (bCell c) 0 ∅ 0 ∗ cred (tallyAt (bCell c) 1 2) ∗ owes (c : Thread nD τ) O W)
      ⊢ iprop(((atPos ER (bCell c) 1 ∅ 0 ∗ (Hello (right c) ∗ Hello (left c)) ∗ owes (c : Thread nD τ) O (insert (.reg bS, 1) W))
            -∗ wp frame (wpE (defs₀ (F := F)) 𝒱₀ c none) Set.univ (k ⟨⟩) Kt)
          -∗ wp frame (wpE (defs₀ (F := F)) 𝒱₀ c none) Set.univ (.op (.semWait cs z) k) Kt) := by
  subst hcs hz
  iintro ⟨#HR, #Hlev, Ha, Hc, HO⟩ Hk
  iapply (Rounds.wp_wait_rest_token 𝒱₀ ER (Rd X) (c : Thread nD τ) none (κ := κ (bCell c)) (sm := .reg bS) (k' := 2)
      (wpE_semWait_eq 𝒱₀ (c : Thread nD τ) none Set.univ) (Set.mem_univ _) 1 (O := O) (W := W) (R := 0) (m := 0) (T := ∅)
      (by rw [expect_b])) $$ [Hc HO Ha]
  · isplitr; · iapply (Recs_cell X κ ιs (mem_b c)); iexact HR
    isplitl [Hc]; · iexact Hc
    isplitl [HO]; · iexact HO
    isplitr; · iapply (mayWait_of c _ 1 (by decide) O hO); iexact Hlev
    iexact Ha
  rw [rest_b]
  iintro ⟨HO, Ha, -, #HH⟩
  iapply Hk
  isplitl [Ha]; · iexact Ha
  isplitr; · iexact HH
  iexact HO

/-! ## The staged operands and the result -/

/-- Reading a rectangle of a staged operand. -/
theorem step_own_load {cs : CoreSpace} {s : Shape} {e : EltTy} {m : Memref sig .tc cs s e} {r : Rect s} {hl : m.view.LoadsAt r.toLoadRect} {Y : s.Idx → Elt F e}
    {k : (r.shape.Idx → Elt F e) → Prog (TpuEff nD τ sig (Elt F) Λ₀ .tc) α} {Kt : α → sProp 𝕄} :
    owns (c : Thread nD τ) m fullShare Y
      ⊢ iprop((owns (c : Thread nD τ) m fullShare Y -∗ wp frame (wpE (defs₀ (F := F)) 𝒱₀ c none) Set.univ (k (View.ld Y r)) Kt)
          -∗ wp frame (wpE (defs₀ (F := F)) 𝒱₀ c none) Set.univ (.op (.load m r.toLoadRect hl) k) Kt) := by
  unfold owns
  iintro ⟨%f, %hf, H⟩ Hk
  subst hf
  have ee := wp_load_rect (defs := defs₀ (F := F)) (Γ := .empty) 𝒱₀ (c : Thread nD τ) none Set.univ (m := m) (r := r) (hl := hl) (k := k) (Q := Kt)
    (S := m.view.set) (q := fullShare) (f := f) (View.set_slice_subset _ _)
  iapply ee $$ H
  iintro H
  iapply Hk
  iexists f
  isplitr; · ipureintro; rfl
  iexact H

/-- Reading the whole of one. -/
theorem step_own_full {cs : CoreSpace} {s : Shape} {e : EltTy} {m : Memref sig .tc cs s e} {off : Fin s.rank → ℕ} (h : off = fun _ => 0)
    {inb : ∀ a, off a + s.size a ≤ s.size a} {hl : m.view.LoadsAt (Rect.unit (s := s) off s.size inb).toLoadRect} {Y : s.Idx → Elt F e}
    {k : (s.Idx → Elt F e) → Prog (TpuEff nD τ sig (Elt F) Λ₀ .tc) α} {Kt : α → sProp 𝕄} :
    owns (c : Thread nD τ) m fullShare Y
      ⊢ iprop((owns (c : Thread nD τ) m fullShare Y -∗ wp frame (wpE (defs₀ (F := F)) 𝒱₀ c none) Set.univ (k Y) Kt)
          -∗ wp frame (wpE (defs₀ (F := F)) 𝒱₀ c none) Set.univ (.op (.load m (Rect.unit (s := s) off s.size inb).toLoadRect hl) k) Kt) := by
  have ee := step_own_load (F := F) c (m := m) (r := Rect.unit (s := s) off s.size inb) (hl := hl) (Y := Y) (k := k) (Kt := Kt)
  rw [View.ld_unit_zero h inb Y] at ee
  exact ee

/-- Writing a rectangle of the staged result. -/
theorem step_own_store {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1} {Y : s.Idx → Elt F e}
    {k : PUnit → Prog (TpuEff nD τ sig (Elt F) Λ₀ .tc) α} {Kt : α → sProp 𝕄} :
    owns (c : Thread nD τ) m fullShare Y
      ⊢ iprop((∀ Y' : s.Idx → Elt F e, ⌜(∀ j, Y' (r.emb j) = w j) ∧ ∀ i, i ∉ r.set → Y' i = Y i⌝ -∗ owns (c : Thread nD τ) m fullShare Y'
            -∗ wp frame (wpE (defs₀ (F := F)) 𝒱₀ c none) Set.univ (k ⟨⟩) Kt)
          -∗ wp frame (wpE (defs₀ (F := F)) 𝒱₀ c none) Set.univ (.op (.store m r w Finset.univ hx hm) k) Kt) := by
  unfold owns
  iintro ⟨%f, %hf, H⟩ Hk
  subst hf
  have ee := wp_store (defs := defs₀ (F := F)) (Γ := .empty) 𝒱₀ (c : Thread nD τ) none Set.univ (m := m) (r := r) (w := w) (Mk := Finset.univ) (hx := hx) (hm := hm) (k := k) (Q := Kt)
    (S := m.view.set) (f := f) (View.set_slice_subset _ _)
  iapply ee $$ H
  iintro H
  iapply Hk $$ %(m.view.read (Elt F) ((m.access r).write (Elt F) f w Finset.univ)) []
  · ipureintro
    exact ⟨fun j => View.read_slice_write_emb r f w (Finset.mem_univ j), fun i hi => View.read_slice_write_of_not_mem r f w _ (by rw [Rect.map_emb_univ]; exact hi)⟩
  iexists _
  isplitr; · ipureintro; rfl
  iexact H

/-- Reading a slot whose contents are not known. -/
theorem step_load_any (ch : Fin 4) (t : ℕ) {off : Fin 3 → ℕ} {inb : ∀ a, off a + S1x128x512.size a ≤ S2x128x512.size a} (h : off = slotOff t)
    {hl : (bufM ch).view.LoadsAt (Rect.unit (s := S2x128x512) off S1x128x512.size inb).toLoadRect}
    {k : Vec F S1x128x512 .bf16 → Prog (TpuEff nD τ sig (Elt F) Λ₀ .tc) α} {Kt : α → sProp 𝕄} :
    slotAny c ch t
      ⊢ iprop((∀ v, slotAny c ch t -∗ wp frame (wpE (defs₀ (F := F)) 𝒱₀ c none) Set.univ (k v) Kt)
          -∗ wp frame (wpE (defs₀ (F := F)) 𝒱₀ c none) Set.univ
            (.op (.load (bufM ch) (Rect.unit (s := S2x128x512) off S1x128x512.size inb).toLoadRect hl) k) Kt) := by
  unfold slotAny Release.slot
  iintro ⟨%f, H⟩ Hk
  ihave H' := (Entails.of_eq (heldAt_of_read c (slotM ch t) fullShare _ f rfl)) $$ H
  iapply (step_load ch c t h) $$ H'
  iintro H'
  iapply Hk $$ %_ [H']
  unfold heldAt
  iexists _; iexact H'

end Steps

end Cert.Ring

end
-- ==== Proof.Body.lean ====
/-
  The kernel's body on one device: the barrier, the first step of the ring, the loop, the last arrivals, and the result.
-/
module

public import proofs.«01_k».proof.Proof.Start

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig ℕ (Elt F) ℕ UU ℕ

/-! ## What the windows hold -/

/-- The contents of the eight staged operands. -/
structure Win (F : FTy → Type) where
  x : Vec F S2x128x512 .f32
  wq : Vec F S512x256 .f32
  wk : Vec F S512x256 .f32
  wv : Vec F S512x256 .f32
  wo : Vec F S256x512 .f32
  cs : Vec F S128x64 .f32
  sn : Vec F S128x64 .f32
  rt : Vec F S64x64 .f32

/-- What the body computes with: the weights and the tables as read, and the device's two rows. -/
def opsOf (w : Win F) : Ops F where
  wq := k0_pay36 w.wq
  wk := k0_pay37 w.wk
  wv := k0_pay38 w.wv
  wo := k0_pay39 w.wo
  cs := w.cs
  sn := w.sn
  rt := w.rt
  xa := View.ld w.x (Rect.unit (s := S2x128x512) ![0, 0, 0] S1x128x512.size inb_S2x128x512_S1x128x512_0_0_0)
  xb := View.ld w.x (Rect.unit (s := S2x128x512) ![1, 0, 0] S1x128x512.size inb_S2x128x512_S1x128x512_1_0_0)

/-- Where an index of the result lies within its row. -/
def lower (i : S2x128x512.Idx) : S1x128x512.Idx := fun a => ⟨if a.val = 0 then 0 else (i a).val, by
  match a with
  | 0 => exact Nat.zero_lt_one
  | 1 => exact (i 1).isLt
  | 2 => exact (i 2).isLt⟩
/-- The two rows of the result. -/
def outOf (w₀ w₁ : Vec F S1x128x512 .f32) : Vec F S2x128x512 .f32 := fun i => if (i 0).val = 0 then w₀ (lower i) else w₁ (lower i)

omit [FloatOps F] [∀ e, Nonempty (Elt F e)] in
/-- Two stores, one of each row, leave the two rows. -/
theorem out_eq {w₀ w₁ : Vec F S1x128x512 .f32} {Y Y' : Vec F S2x128x512 .f32}
    (h₀ : ∀ j, Y ((Rect.unit (s := S2x128x512) ![0, 0, 0] S1x128x512.size inb_S2x128x512_S1x128x512_0_0_0).emb j) = w₀ j)
    (h₁ : ∀ j, Y' ((Rect.unit (s := S2x128x512) ![1, 0, 0] S1x128x512.size inb_S2x128x512_S1x128x512_1_0_0).emb j) = w₁ j)
    (h : ∀ i, i ∉ (Rect.unit (s := S2x128x512) ![1, 0, 0] S1x128x512.size inb_S2x128x512_S1x128x512_1_0_0).set → Y' i = Y i) :
    Y' = outOf w₀ w₁ := by
  funext i
  unfold outOf
  by_cases hi : (i 0).val = 0
  · rw [if_pos hi]
    have e : i = (Rect.unit (s := S2x128x512) ![0, 0, 0] S1x128x512.size inb_S2x128x512_S1x128x512_0_0_0).emb (lower i) := by
      funext a
      refine Fin.ext ?_
      rw [Rect.emb_apply]
      match a with
      | 0 => show (i 0).val = 0 + 1 * 0; omega
      | 1 => show (i 1).val = 0 + 1 * (i 1).val; omega
      | 2 => show (i 2).val = 0 + 1 * (i 2).val; omega
    rw [h i (Finset.disjoint_left.mp (slotRect_disjoint 0) (by rw [e, ← Rect.map_emb_univ]; exact Finset.mem_map_of_mem _ (Finset.mem_univ _)))]
    conv_lhs => rw [e]
    exact h₀ _
  · rw [if_neg hi]
    have e : i = (Rect.unit (s := S2x128x512) ![1, 0, 0] S1x128x512.size inb_S2x128x512_S1x128x512_1_0_0).emb (lower i) := by
      funext a
      refine Fin.ext ?_
      rw [Rect.emb_apply]
      match a with
      | 0 => have : (i 0).val < 2 := (i 0).isLt
             show (i 0).val = 1 + 1 * 0; omega
      | 1 => show (i 1).val = 0 + 1 * (i 1).val; omega
      | 2 => show (i 2).val = 0 + 1 * (i 2).val; omega
    conv_lhs => rw [e]
    exact h₁ _

variable (o : Dev nD → Ops F) (κ : GSem nD τ sig → ℕ) (ιs : Key → ℕ) (c : Dev nD) (w : Win F)

/-- What device `c` leaves as its block of the result. -/
def res : Vec F S2x128x512 .f32 := outOf (k0_pay71 (row (cont o 1 31 (src 1 c)))) (k0_pay1 (row (cont o 3 31 (src 3 c))))

/-- The staged operands. -/
def Wins : sProp 𝕄 :=
  iprop(owns (c : Thread nD τ) (stage0_0 0) fullShare w.x ∗ owns (c : Thread nD τ) (stage0_1 0) fullShare w.wq ∗ owns (c : Thread nD τ) (stage0_2 0) fullShare w.wk
    ∗ owns (c : Thread nD τ) (stage0_3 0) fullShare w.wv ∗ owns (c : Thread nD τ) (stage0_4 0) fullShare w.wo ∗ owns (c : Thread nD τ) (stage0_5 0) fullShare w.cs
    ∗ owns (c : Thread nD τ) (stage0_6 0) fullShare w.sn ∗ owns (c : Thread nD τ) (stage0_7 0) fullShare w.rt)

/-- The zero offset of a matrix, as it is printed. -/
theorem off2_zero : (![0, 0] : Fin 2 → ℕ) = fun _ => 0 := by decide

/-- All that a device owes when the body starts. -/
def O₀ : CellTallies nD τ sig ℕ := OO 0 0 0 0 0 0 0 0 c + tallyAt (bCell (right c)) 1 1 + tallyAt (bCell (left c)) 1 1

/-- A channel after its first transfer has started. -/
def Sent (ch : Fin 4) : sProp 𝕄 :=
  iprop(SP (F := F) ch 0 c ∗ ST ch 1 c ∗ heldAt c (slotM ch 0) fullShare.right (cont o ch 0 c) ∗ cred (tallyAt (sCell ch 0 c) 0 N))

/-- What a device has of a channel after its first transfer and its first credit is the channel before the first trip. -/
theorem Chan_zero (ch : Fin 4) : iprop(SP (F := F) ch 1 c ∗ ST ch 1 c ∗ RP ch 0 c ∗ RC ch 0 c ∗ CW ch 0 c ∗ CT ch 1 c) ⊢ Chan c ch 0 := by
  unfold Chan
  rw [show min (0 + 1) (nS ch) = 1 by revert ch; decide, show min (0 + 1) (nC ch) = 1 by revert ch; decide]
  iintro ⟨H1, H2, H3, H4, H5, H6⟩
  isplitl [H1]; · iexact H1
  isplitl [H2]; · iexact H2
  isplitl [H3]; · iexact H3
  isplitl [H4]; · iexact H4
  isplitl [H5]; · iexact H5
  isplitl [H6]; · iexact H6
  iapply (Kept_none c ch 0 (by clear * -; revert ch; decide))

/-! ## The parts of the body -/

/-- Every channel makes a transfer. -/
theorem nS_pos : ∀ ch, 0 < nS ch := by decide
/-- Every channel gives a credit. -/
theorem nC_pos : ∀ ch, 0 < nC ch := by decide

section Steps

variable {α : Type}

/-- The first transfer of a channel. -/
theorem first_send (ch : Fin 4) {srcM dstM : Memref sig .tc .vmem S128x512 .bf16} (hs : srcM = slotM ch 0) (hd : dstM = slotM ch (0 + 1))
    {ss rs : DmaSem sig} (hss : ss = sS ch 0) (hrs : rs = rS ch (0 + 1)) {dev : Dev nD} (hdev : dev = tgt ch c)
    {hsc : dstM.view.ref.isScScratch = false} {hsrc : srcM.view.WordExact} {hdst : dstM.view.WordExact}
    {hsem : DmaTarget.Typed .vmem (.dma rs) (.remote (dev : Thread nD τ) dstM (.dma ss) hsc)}
    {k : PUnit → Prog (TpuEff nD τ sig (Elt F) Λ₀ .tc) α} {Kt : α → sProp 𝕄}
    {O₀ : CellTallies nD τ sig ℕ} (O : CellTallies nD τ sig ℕ) (hO : O₀ = O + tallyAt (rCell ch (0 + 1) (tgt ch c)) (0 + 2) N) {W : Waits sig ℕ} :
    iprop(Env o κ ιs c ∗ SP ch 0 c ∗ ST ch 0 c ∗ heldAt c (slotM ch 0) fullShare (cont o ch 0 c) ∗ owes (c : Thread nD τ) O₀ W)
      ⊢ iprop(((Sent o c ch ∗ owes (c : Thread nD τ) O W) -∗ wp frame (wpE (defs₀ (F := F)) 𝒱₀ c none) Set.univ (k ⟨⟩) Kt)
          -∗ wp frame (wpE (defs₀ (F := F)) 𝒱₀ c none) Set.univ (.op (.enqueueDma srcM (.remote (dev : Thread nD τ) dstM (.dma ss) hsc) (.dma rs) hsrc hdst hsem) k) Kt) := by
  iintro ⟨#HE, HSP, HST, Hx, HO⟩ Hk
  ihave #HR := (Env_recs o κ ιs c) $$ HE
  ihave #Hh := (Env_tgt o κ ιs c ch) $$ HE
  unfold Hello1 Sent
  icases Hh with ⟨#Hrel, -⟩
  iapply (step_send (cont o) κ ιs ch c 0 (nS_pos ch) hs hd hss hrs hdev O hO) $$ [HSP HST Hx HO]
  · isplitr; · iexact HR
    isplitr; · iexact Hrel
    isplitl [HSP]; · iexact HSP
    isplitl [HST]; · iexact HST
    isplitl [Hx]; · iexact Hx
    iexact HO
  iintro ⟨HSP, HST, Hx, Hc, HO⟩
  iapply Hk
  isplitr [HO]
  · isplitl [HSP]; · iexact HSP
    isplitl [HST]; · iexact HST
    isplitl [Hx] <;> iassumption
  iexact HO

end Steps

set_option maxRecDepth 65536 in
/-- The barrier, and reading the weights and tables. -/
theorem part10_run {W : Waits sig ℕ} {Kt : (Σ' (d0 : Dev nD) (v5 : BitVec 32) (v7 : BitVec 32) (v15 : FVec F S512x256 .bf16) (v18 : FVec F S512x256 .bf16) (v21 : FVec F S512x256 .bf16) (v24 : FVec F S256x512 .bf16) (v25 : Vec F S128x64 .f32), Vec F S128x64 .f32) → sProp 𝕄} :
    iprop(Recs (cont o) κ ιs ∗ levAts L lv ∗ Hello c ∗ Bar c ∗ Wins c w ∗ owes (c : Thread nD τ) (O₀ c) W)
      ⊢ iprop((∀ v5 v7, (Env o κ ιs c ∗ atPos ER (bCell c) 1 ∅ 0 ∗ Wins c w ∗ ∃ W', owes (c : Thread nD τ) (OO 0 0 0 0 0 0 0 0 c) W')
          -∗ Kt ⟨c, v5, v7, (opsOf w).wq, (opsOf w).wk, (opsOf w).wv, (opsOf w).wo, (opsOf w).cs, (opsOf w).sn⟩)
        -∗ wp frame (wpE (defs₀ (F := F)) 𝒱₀ (c : Thread nD τ) none) Set.univ
            (k0_part10 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3)) Kt) := by
  rw [k0_part10_eq_skeleton]
  unfold k0_part10_skel Wins Bar opsOf
  simp only [semSignalWord, semWaitWord, Prog.lift, Prog.bind_op, Prog.bind_ret, Prog.pure_eq_ret, Prog.bind_assoc]
  simp only [wp_deviceId]
  iintro ⟨#HR, #Hlev, #Hh, ⟨Ha, Hc, Ht0, Ht1⟩, ⟨H0, H1, H2, H3, H4, H5, H6, H7⟩, HO⟩ Hk
  iapply (step_hello (cont o) κ ιs c (e := left c) (d := 0) (by decide) (by rw [payload_b0, right_left]) rfl (Fin.ext (k0_dev1_eq c)) rfl
    (OO 0 0 0 0 0 0 0 0 c + tallyAt (bCell (right c)) 1 1) rfl) $$ [Ht0 HO]
  · isplitr; · iexact HR
    isplitr; · iexact Hh
    isplitl [Ht0]; · iexact Ht0
    iexact HO
  iintro HO
  iapply (step_hello (cont o) κ ιs c (e := right c) (d := 1) (by decide) (by rw [payload_b1, left_right]) rfl (Fin.ext (k0_dev2_eq c)) rfl
    (OO 0 0 0 0 0 0 0 0 c) rfl) $$ [Ht1 HO]
  · isplitr; · iexact HR
    isplitr; · iexact Hh
    isplitl [Ht1]; · iexact Ht1
    iexact HO
  iintro HO
  iapply (step_bwait (cont o) κ ιs c rfl rfl (low c 0 0 0 0 0 0 0 0 0 1 (by omega) (by omega))) $$ [Ha Hc HO]
  · isplitr; · iexact HR
    isplitr; · iexact Hlev
    isplitl [Ha]; · iexact Ha
    isplitl [Hc]; · iexact Hc
    iexact HO
  iintro ⟨Ha, ⟨#HhR, #HhL⟩, HO⟩
  iapply (step_own_full c off2_zero) $$ H1
  iintro H1
  iapply (step_own_full c off2_zero) $$ H2
  iintro H2
  iapply (step_own_full c off2_zero) $$ H3
  iintro H3
  iapply (step_own_full c off2_zero) $$ H4
  iintro H4
  iapply (step_own_full c off2_zero) $$ H5
  iintro H5
  iapply (step_own_full c off2_zero) $$ H6
  iintro H6
  rw [wp_ret]
  imodintro
  iapply Hk
  isplitr
  · unfold Env
    isplitr; · iexact HR
    isplitr; · iexact Hlev
    isplitr; · iexact HhR
    iexact HhL
  isplitl [Ha]; · iexact Ha
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexists _; iexact HO

set_option maxRecDepth 65536 in
/-- Reading the device's own two rows and starting the first on its way to the right. -/
theorem part11_run (ho : o c = opsOf w) (W : Waits sig ℕ) (v5 v7 : BitVec 32) {Kt : Vec F S64x64 .f32 → sProp 𝕄} :
    iprop(Env o κ ιs c ∗ Wins c w ∗ slotAny c 0 0 ∗ slotAny c 2 0 ∗ SP 0 0 c ∗ ST 0 0 c ∗ owes (c : Thread nD τ) (OO 0 0 0 0 0 0 0 0 c) W)
      ⊢ iprop(((Wins c w ∗ Sent o c 0 ∗ heldAt c (slotM 2 0) fullShare (cont o 2 0 c) ∗ owes (c : Thread nD τ) (OO 1 0 0 0 0 0 0 0 c) W)
          -∗ Kt (opsOf w).rt)
        -∗ wp frame (wpE (defs₀ (F := F)) 𝒱₀ (c : Thread nD τ) none) Set.univ
            (k0_part11 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c v5 v7) Kt) := by
  rw [show (opsOf w).rt = w.rt from rfl, k0_part11_eq_skeleton]
  unfold k0_part11_skel Wins
  simp only [semSignalWord, semWaitWord, Prog.lift, Prog.bind_op, Prog.bind_ret, Prog.pure_eq_ret, Prog.bind_assoc]
  iintro ⟨#HE, ⟨H0, H1, H2, H3, H4, H5, H6, H7⟩, HS0, HS2, HSP, HST, HO⟩ Hk
  iapply (step_own_full c off2_zero) $$ H7
  iintro H7
  iapply (step_own_load c) $$ H0
  iintro H0
  iapply (step_load_any c 0 0 rfl) $$ HS0
  iintro %v31 HS0
  iapply (step_store 0 c 0 rfl) $$ HS0
  iintro HS0
  iapply (first_send o κ ιs c 0 (slotM_of_off 0 0 _ _ rfl) (slotM_of_off 0 (0 + 1) _ _ rfl) (sArr_sem 0 0 _ _ rfl) (rArr_sem 0 (0 + 1) _ _ rfl)
    (dev_right 0 (by decide) c _ _ (k0_dev3_eq c)) (OO 1 0 0 0 0 0 0 0 c) (OO_send0 c _ _ _ _ _ _ _ _ (by decide))) $$ [HSP HST HS0 HO]
  · isplitr; · iexact HE
    isplitl [HSP]; · iexact HSP
    isplitl [HST]; · iexact HST
    isplitl [HS0]
    · rw [show cont o 0 0 c = unrow (k0_pay40 (o c).xa) from rfl, ho]; iexact HS0
    iexact HO
  iintro ⟨HX0, HO⟩
  iapply (step_own_load c) $$ H0
  iintro H0
  iapply (step_load_any c 2 0 rfl) $$ HS2
  iintro %v47 HS2
  iapply (step_store 2 c 0 rfl) $$ HS2
  iintro HS2
  rw [wp_ret]
  imodintro
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HX0]; · iexact HX0
  isplitl [HS2]
  · rw [show cont o 2 0 c = unrow (k0_pay41 (o c).xb) from rfl, ho]; iexact HS2
  iexact HO

set_option maxRecDepth 65536 in
/-- Starting the second row on its way to the left, and the first of the right accumulator's computation. -/
theorem part12_run (W : Waits sig ℕ) (wq wk wv : FVec F S512x256 .bf16) (wo : FVec F S256x512 .bf16) (cs sn : Vec F S128x64 .f32) (rt : Vec F S64x64 .f32)
    {Kt : (Σ' (v62 : FVec F S128x256 .f32) (v63 : FVec F S128x256 .f32) (v64 : FVec F S128x256 .f32) (v65 : FVec F S128x512 .f32) (v94 : FVec F S128x64 .bf16) (v95 : FVec F S64x512 .bf16), FVec F S128x512 .f32) → sProp 𝕄} :
    iprop(Env o κ ιs c ∗ Sent o c 0 ∗ heldAt c (slotM 2 0) fullShare (cont o 2 0 c) ∗ SP 2 0 c ∗ ST 2 0 c ∗ owes (c : Thread nD τ) (OO 1 0 0 0 0 0 0 0 c) W)
      ⊢ iprop(((Sent o c 0 ∗ Sent o c 2 ∗ owes (c : Thread nD τ) (OO 1 0 1 0 0 0 0 0 c) W)
          -∗ Kt ⟨k0_pay43 wq (row (cont o 0 0 c)), k0_pay44 wk (row (cont o 0 0 c)), k0_pay45 wv (row (cont o 0 0 c)), k0_pay46 (F := F),
              k0_pay47 wq wk wv cs sn rt (row (cont o 0 0 c)), k0_pay48 wo, constant S128x512 .f32 0x00000000#32⟩)
        -∗ wp frame (wpE (defs₀ (F := F)) 𝒱₀ (c : Thread nD τ) none) Set.univ
            (k0_part12 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c wq wk wv wo cs sn rt) Kt) := by
  rw [k0_part12_eq_skeleton]
  unfold k0_part12_skel
  simp only [semSignalWord, semWaitWord, Prog.lift, Prog.bind_op, Prog.bind_ret, Prog.pure_eq_ret, Prog.bind_assoc]
  iintro ⟨#HE, HX0, HS2, HSP, HST, HO⟩ Hk
  iapply (first_send o κ ιs c 2 (slotM_of_off 2 0 _ _ rfl) (slotM_of_off 2 (0 + 1) _ _ rfl) (sArr_sem 2 0 _ _ rfl) (rArr_sem 2 (0 + 1) _ _ rfl)
    (dev_left 2 (by decide) c _ _ (k0_dev4_eq c)) (OO 1 0 1 0 0 0 0 0 c) (OO_send2 c _ _ _ _ _ _ _ _ (by decide))) $$ [HSP HST HS2 HO]
  · isplitr; · iexact HE
    isplitl [HSP]; · iexact HSP
    isplitl [HST]; · iexact HST
    isplitl [HS2]; · iexact HS2
    iexact HO
  iintro ⟨HX2, HO⟩
  ihave HX0 := (Entails.of_eq (show Sent o c 0 = _ from by unfold Sent; rfl)) $$ HX0
  icases HX0 with ⟨HSP0, HST0, Hx0, Hc0⟩
  iapply (step_load 0 c 0 rfl) $$ Hx0
  iintro Hx0
  rw [wp_ret]
  imodintro
  iapply Hk
  isplitl [HSP0 HST0 Hx0 Hc0]
  · unfold Sent
    isplitl [HSP0]; · iexact HSP0
    isplitl [HST0]; · iexact HST0
    isplitl [Hx0] <;> iassumption
  isplitl [HX2]; · iexact HX2
  iexact HO

set_option maxRecDepth 65536 in
/-- Starting the right accumulator on its way, and the first of the left accumulator's computation. -/
theorem part15_run (W : Waits sig ℕ) (v7 : BitVec 32) (wq wk wv : FVec F S512x256 .bf16) (cs sn : Vec F S128x64 .f32) (rt : Vec F S64x64 .f32)
    (v161 : FVec F S128x512 .f32) (v190 : FVec F S128x64 .bf16) (v191 : FVec F S64x512 .bf16) (cst : FVec F S128x512 .f32)
    (ha : cont o 1 0 c = unrow (k0_pay55 v161 v190 v191 cst))
    {Kt : (Σ' (v210 : FVec F S128x256 .f32) (v211 : FVec F S128x256 .f32) (v212 : FVec F S128x256 .f32) (v213 : FVec F S128x512 .f32) (v217 : FVec F S128x64 .bf16) (v222 : FVec F S128x64 .bf16), FVec F S128x64 .bf16) → sProp 𝕄} :
    iprop(Env o κ ιs c ∗ Sent o c 2 ∗ slotAny c 1 0 ∗ SP 1 0 c ∗ ST 1 0 c ∗ owes (c : Thread nD τ) (OO 1 0 1 0 0 0 0 0 c) W)
      ⊢ iprop(((Sent o c 2 ∗ Sent o c 1 ∗ owes (c : Thread nD τ) (OO 1 1 1 0 0 0 0 0 c) W)
          -∗ Kt ⟨k0_pay57 wq (row (cont o 2 0 c)), k0_pay58 wk (row (cont o 2 0 c)), k0_pay59 wv (row (cont o 2 0 c)), k0_pay60 (F := F),
              k0_pay61 wv (row (cont o 2 0 c)), k0_pay62 wq cs sn rt (row (cont o 2 0 c)), k0_pay63 wk cs sn rt (row (cont o 2 0 c))⟩)
        -∗ wp frame (wpE (defs₀ (F := F)) 𝒱₀ (c : Thread nD τ) none) Set.univ
            (k0_part15 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c v7 wq wk wv cs sn rt v161 v190 v191 cst) Kt) := by
  rw [k0_part15_eq_skeleton]
  unfold k0_part15_skel
  simp only [semSignalWord, semWaitWord, Prog.lift, Prog.bind_op, Prog.bind_ret, Prog.pure_eq_ret, Prog.bind_assoc]
  iintro ⟨#HE, HX2, HS1, HSP, HST, HO⟩ Hk
  iapply (step_load_any c 1 0 rfl) $$ HS1
  iintro %v195 HS1
  iapply (step_store 1 c 0 rfl) $$ HS1
  iintro HS1
  iapply (first_send o κ ιs c 1 (slotM_of_off 1 0 _ _ rfl) (slotM_of_off 1 (0 + 1) _ _ rfl) (sArr_sem 1 0 _ _ rfl) (rArr_sem 1 (0 + 1) _ _ rfl)
    (dev_right 1 (by decide) c _ _ (k0_dev5_eq c)) (OO 1 1 1 0 0 0 0 0 c) (OO_send1 c _ _ _ _ _ _ _ _ (by decide))) $$ [HSP HST HS1 HO]
  · isplitr; · iexact HE
    isplitl [HSP]; · iexact HSP
    isplitl [HST]; · iexact HST
    isplitl [HS1]; · rw [ha]; iexact HS1
    iexact HO
  iintro ⟨HX1, HO⟩
  ihave HX2 := (Entails.of_eq (show Sent o c 2 = _ from by unfold Sent; rfl)) $$ HX2
  icases HX2 with ⟨HSP2, HST2, Hx2, Hc2⟩
  iapply (step_load 2 c 0 rfl) $$ Hx2
  iintro Hx2
  rw [wp_ret]
  imodintro
  iapply Hk
  isplitl [HSP2 HST2 Hx2 Hc2]
  · unfold Sent
    isplitl [HSP2]; · iexact HSP2
    isplitl [HST2]; · iexact HST2
    isplitl [Hx2] <;> iassumption
  isplitl [HX1]; · iexact HX1
  iexact HO

set_option maxRecDepth 65536 in
/-- Starting the left accumulator on its way. -/
theorem part18_run (W : Waits sig ℕ) (v5 : BitVec 32) (wo : FVec F S256x512 .bf16) (v309 : FVec F S128x512 .f32) (v313 v318 v323 : FVec F S128x64 .bf16)
    (ha : cont o 3 0 c = unrow (k0_pay70 wo v309 v313 v318 v323)) {Kt : PUnit → sProp 𝕄} :
    iprop(Env o κ ιs c ∗ slotAny c 3 0 ∗ SP 3 0 c ∗ ST 3 0 c ∗ owes (c : Thread nD τ) (OO 1 1 1 0 0 0 0 0 c) W)
      ⊢ iprop(((Sent o c 3 ∗ owes (c : Thread nD τ) (OO 1 1 1 1 0 0 0 0 c) W) -∗ Kt ⟨⟩)
        -∗ wp frame (wpE (defs₀ (F := F)) 𝒱₀ (c : Thread nD τ) none) Set.univ
            (k0_part18 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c v5 wo v309 v313 v318 v323) Kt) := by
  rw [k0_part18_eq_skeleton]
  unfold k0_part18_skel
  simp only [semSignalWord, semWaitWord, Prog.lift, Prog.bind_op, Prog.bind_ret, Prog.pure_eq_ret, Prog.bind_assoc]
  iintro ⟨#HE, HS, HSP, HST, HO⟩ Hk
  iapply (step_load_any c 3 0 rfl) $$ HS
  iintro %v343 HS
  iapply (step_store 3 c 0 rfl) $$ HS
  iintro HS
  iapply (first_send o κ ιs c 3 (slotM_of_off 3 0 _ _ rfl) (slotM_of_off 3 (0 + 1) _ _ rfl) (sArr_sem 3 0 _ _ rfl) (rArr_sem 3 (0 + 1) _ _ rfl)
    (dev_left 3 (by decide) c _ _ (k0_dev6_eq c)) (OO 1 1 1 1 0 0 0 0 c) (OO_send3 c _ _ _ _ _ _ _ _ (by decide))) $$ [HSP HST HS HO]
  · isplitr; · iexact HE
    isplitl [HSP]; · iexact HSP
    isplitl [HST]; · iexact HST
    isplitl [HS]; · rw [ha]; iexact HS
    iexact HO
  iintro ⟨HX, HO⟩
  rw [wp_ret]
  imodintro
  iapply Hk
  isplitl [HX] <;> iassumption

/-- A channel's rights other than to send, before the first step is over. -/
def Rest (ch : Fin 4) : sProp 𝕄 := iprop(RP (F := F) ch 0 c ∗ RC ch 0 c ∗ CW ch 0 c ∗ CT ch 0 c)

set_option maxRecDepth 65536 in
/-- The end of the first step on a channel: the transfer has left, and the slot goes back to the channel's source. -/
theorem first_done {α : Type} (ch : Fin 4) {ss : DmaSem sig} (hss : ss = sS ch 0)
    {srcM dstM : Memref sig .tc .vmem S128x512 .bf16} (hN : dstM.view.dmaCredit = N)
    {hsrc : srcM.view.WordExact} {hdst : dstM.view.WordExact} {cs : Sem sig} (hcs : cs = cS ch) {dev : Dev nD} (hdev : dev = src ch c) {z : ℤ} (hz : z = ((1 : ℕ) : ℤ))
    {k : PUnit → Prog (TpuEff nD τ sig (Elt F) Λ₀ .tc) α} {Kt : α → sProp 𝕄} {O₀ : CellTallies nD τ sig ℕ} (O : CellTallies nD τ sig ℕ)
    (hO : O₀ = O + tallyAt (cCell ch (src ch c)) (0 + 2) 1) (hl : ∀ g u, 0 < O₀ g u → u ∈ L g ∧ 0 < u) {W : Waits sig ℕ} :
    iprop(Env o κ ιs c ∗ Sent o c ch ∗ Rest c ch ∗ owes (c : Thread nD τ) O₀ W)
      ⊢ iprop(((Chan c ch 0 ∗ ∃ W', owes (c : Thread nD τ) O W') -∗ wp frame (wpE (defs₀ (F := F)) 𝒱₀ c none) Set.univ (k ⟨⟩) Kt)
          -∗ wp frame (wpE (defs₀ (F := F)) 𝒱₀ c none) Set.univ (.op (.waitDma2 ss srcM dstM hsrc hdst) fun _ => .op (.semSignal (dev : Thread nD τ) cs z) k) Kt) := by
  unfold Sent Rest
  iintro ⟨#HE, ⟨HSP, HST, Hx, Hc⟩, ⟨HRP, HRC, HCW, HCT⟩, HO⟩ Hk
  ihave #HR := (Env_recs o κ ιs c) $$ HE
  ihave #Hlev := (Env_lev o κ ιs c) $$ HE
  iapply (step_swait (cont o) κ ιs ch c 0 (nS_pos ch) hss hN hl) $$ [HSP Hc Hx HO]
  · isplitr; · iexact HR
    isplitr; · iexact Hlev
    isplitl [HSP]; · iexact HSP
    isplitl [Hc]; · iexact Hc
    isplitl [Hx]; · iexact Hx
    iexact HO
  iintro ⟨HSP, Hx, HO⟩
  ihave Hx := (heldAt_any c ch 0 _) $$ Hx
  iapply (step_credit (cont o) κ ιs ch c 0 (nC_pos ch) hcs hdev hz O hO) $$ [HRP HCT Hx HO]
  · isplitr; · iexact HR
    isplitr; · iapply (Env_src o κ ιs c ch); iexact HE
    isplitl [HRP]; · iexact HRP
    isplitl [HCT]; · iexact HCT
    isplitl [Hx]; · iexact Hx
    iexact HO
  iintro ⟨HRP, HCT, HO⟩
  iapply Hk
  isplitr [HO]
  · iapply (Chan_zero c ch)
    isplitl [HSP]; · iexact HSP
    isplitl [HST]; · iexact HST
    isplitl [HRP]; · iexact HRP
    isplitl [HRC]; · iexact HRC
    isplitl [HCW]; · iexact HCW
    iexact HCT
  iexists _; iexact HO

set_option maxRecDepth 65536 in
/-- The end of the first step on three channels. -/
theorem part19_run (W : Waits sig ℕ) (v5 v7 : BitVec 32) {Kt : PUnit → sProp 𝕄} :
    iprop(Env o κ ιs c ∗ (Sent o c 0 ∗ Rest c 0) ∗ (Sent o c 1 ∗ Rest c 1) ∗ (Sent o c 2 ∗ Rest c 2) ∗ owes (c : Thread nD τ) (OO 1 1 1 1 0 0 0 0 c) W)
      ⊢ iprop(((Chan c 0 0 ∗ Chan c 1 0 ∗ Chan c 2 0 ∗ ∃ W', owes (c : Thread nD τ) (OO 1 1 1 1 1 1 1 0 c) W') -∗ Kt ⟨⟩)
        -∗ wp frame (wpE (defs₀ (F := F)) 𝒱₀ (c : Thread nD τ) none) Set.univ
            (k0_part19 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c v5 v7) Kt) := by
  rw [k0_part19_eq_skeleton]
  unfold k0_part19_skel
  simp only [semSignalWord, semWaitWord, Prog.lift, Prog.bind_op, Prog.bind_ret, Prog.pure_eq_ret, Prog.bind_assoc]
  iintro ⟨#HE, ⟨HX0, HR0⟩, ⟨HX1, HR1⟩, ⟨HX2, HR2⟩, HO⟩ Hk
  iapply (first_done o κ ιs c 0 (sArr_sem 0 0 _ _ rfl) (slot_N 0 _ _) (cArr_sem 0) (dev_left' 0 (by decide) c _ _ (k0_dev7_eq c)) rfl
    (OO 1 1 1 1 1 0 0 0 c) (OO_credit0 c _ _ _ _ _ _ _ _ (by decide)) (low c 0 1 1 1 1 0 0 0 0 0 (by omega) (by omega))) $$ [HX0 HR0 HO]
  · isplitr; · iexact HE
    isplitl [HX0]; · iexact HX0
    isplitl [HR0]; · iexact HR0
    iexact HO
  iintro ⟨HC0, ⟨%W0, HO⟩⟩
  iapply (first_done o κ ιs c 2 (sArr_sem 2 0 _ _ rfl) (slot_N 2 _ _) (cArr_sem 2) (dev_right' 2 (by decide) c _ _ (k0_dev8_eq c)) rfl
    (OO 1 1 1 1 1 0 1 0 c) (OO_credit2 c _ _ _ _ _ _ _ _ (by decide)) (low c 0 1 1 1 1 1 0 0 0 0 (by omega) (by omega))) $$ [HX2 HR2 HO]
  · isplitr; · iexact HE
    isplitl [HX2]; · iexact HX2
    isplitl [HR2]; · iexact HR2
    iexact HO
  iintro ⟨HC2, ⟨%W2, HO⟩⟩
  iapply (first_done o κ ιs c 1 (sArr_sem 1 0 _ _ rfl) (slot_N 1 _ _) (cArr_sem 1) (dev_left' 1 (by decide) c _ _ (k0_dev9_eq c)) rfl
    (OO 1 1 1 1 1 1 1 0 c) (OO_credit1 c _ _ _ _ _ _ _ _ (by decide)) (low c 0 1 1 1 1 1 0 1 0 0 (by omega) (by omega))) $$ [HX1 HR1 HO]
  · isplitr; · iexact HE
    isplitl [HX1]; · iexact HX1
    isplitl [HR1]; · iexact HR1
    iexact HO
  iintro ⟨HC1, ⟨%W1, HO⟩⟩
  rw [wp_ret]
  imodintro
  iapply Hk
  isplitl [HC0]; · iexact HC0
  isplitl [HC1]; · iexact HC1
  isplitl [HC2]; · iexact HC2
  iexists _; iexact HO

set_option maxRecDepth 65536 in
/-- The end of the first step on the last channel, the loop, and the right accumulator's last arrival, which is the first row of the result. -/
theorem part20_run (W : Waits sig ℕ) (v5 v7 : BitVec 32) (Y : Vec F S2x128x512 .f32) {Kt : PUnit → sProp 𝕄} :
    iprop(Env o κ ιs c ∗ (Sent o c 3 ∗ Rest c 3) ∗ Chan c 0 0 ∗ Chan c 1 0 ∗ Chan c 2 0 ∗ owns (c : Thread nD τ) (stage0_8 0) fullShare Y
        ∗ owes (c : Thread nD τ) (OO 1 1 1 1 1 1 1 0 c) W)
      ⊢ iprop(((Chan c 0 31 ∗ (SP 1 32 c ∗ RP 1 32 c ∗ CW 1 31 c ∗ bufAny c 1) ∗ Chan c 2 31 ∗ Chan c 3 31
            ∗ (∃ Y' : Vec F S2x128x512 .f32, ⌜∀ j, Y' ((Rect.unit (s := S2x128x512) ![0, 0, 0] S1x128x512.size inb_S2x128x512_S1x128x512_0_0_0).emb j)
                = k0_pay71 (row (cont o 1 31 (src 1 c))) j⌝ ∗ owns (c : Thread nD τ) (stage0_8 0) fullShare Y')
            ∗ ∃ W', owes (c : Thread nD τ) (OO 32 32 32 32 32 32 32 32 c) W') -∗ Kt ⟨⟩)
        -∗ wp frame (wpE (defs₀ (F := F)) 𝒱₀ (c : Thread nD τ) none) Set.univ
            (k0_part20 (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3) c v5 v7 (o c).wq (o c).wk (o c).wv (o c).wo (o c).cs (o c).sn (o c).rt) Kt) := by
  rw [k0_part20_eq_skeleton]
  unfold k0_part20_skel
  simp only [semSignalWord, semWaitWord, Prog.lift, Prog.bind_op, Prog.bind_ret, Prog.pure_eq_ret, Prog.bind_assoc]
  iintro ⟨#HE, ⟨HX3, HR3⟩, HC0, HC1, HC2, HY, HO⟩ Hk
  ihave #HR := (Env_recs o κ ιs c) $$ HE
  ihave #Hlev := (Env_lev o κ ιs c) $$ HE
  iapply (first_done o κ ιs c 3 (sArr_sem 3 0 _ _ rfl) (slot_N 3 _ _) (cArr_sem 3) (dev_right' 3 (by decide) c _ _ (k0_dev10_eq c)) rfl
    (OO 1 1 1 1 1 1 1 1 c) (OO_credit3 c _ _ _ _ _ _ _ _ (by decide)) (low c 0 1 1 1 1 1 1 1 0 0 (by omega) (by omega))) $$ [HX3 HR3 HO]
  · isplitr; · iexact HE
    isplitl [HX3]; · iexact HX3
    isplitl [HR3]; · iexact HR3
    iexact HO
  iintro ⟨HC3, HO⟩
  iapply (Scf.wp_for_bind frame (wpE (defs₀ (F := F)) 𝒱₀ (c : Thread nD τ) none) Set.univ k0_t1_loop.lb k0_t1_loop.ub k0_t1_loop.st k0_t1_ok () _
    (fun i _ => iprop(Env o κ ιs c ∗ Chan c 0 i ∗ Chan c 1 i ∗ Chan c 2 i ∗ Chan c 3 i
      ∗ ∃ W', owes (c : Thread nD τ) (OO (i + 1) (i + 1) (i + 1) (i + 1) (i + 1) (i + 1) (i + 1) (i + 1) c) W'))
    (fun i _ => by
      iintro ⟨#HE, H0, H1, H2, H3, ⟨%W', HO⟩⟩
      iapply (trip_run o κ ιs c i v5 v7) $$ [H0 H1 H2 H3 HO]
      · isplitr; · iexact HE
        isplitl [H0]; · iexact H0
        isplitl [H1]; · iexact H1
        isplitl [H2]; · iexact H2
        isplitl [H3]; · iexact H3
        iexact HO
      iintro H
      isplitr; · iexact HE
      iexact H)) $$ [HC0 HC1 HC2 HC3 HO]
  · isplitr; · iexact HE
    isplitl [HC0]; · iexact HC0
    isplitl [HC1]; · iexact HC1
    isplitl [HC2]; · iexact HC2
    isplitl [HC3]; · iexact HC3
    iexact HO
  iintro %_ ⟨-, HC0, HC1, HC2, HC3, ⟨%W1, HO⟩⟩
  rw [show Scf.trips k0_t1_loop.lb k0_t1_loop.ub k0_t1_loop.st = 31 from trips_31]
  ihave HC1 := (Entails.of_eq (show Chan (F := F) c 1 31 = _ from by unfold Chan Kept; rfl)) $$ HC1
  icases HC1 with ⟨HSP, -, HRP, HRC, HCW, -, ⟨HK, -⟩⟩
  iapply (step_rwait (cont o) κ ιs 1 c 31 (by decide) (rArr_sem 1 (31 + 1) _ _ rfl)
    (slot_N 1 _ _) (low c 32 32 32 32 32 32 32 32 32 33 (by omega) (by omega))) $$ [HRP HRC HO]
  · isplitr; · iexact HR
    isplitr; · iexact Hlev
    isplitl [HRP]; · iexact HRP
    isplitl [HRC]; · iexact HRC
    iexact HO
  iintro ⟨HRP, -, Hx, HO⟩
  iapply (step_load 1 c (31 + 1) rfl) $$ Hx
  iintro Hx
  iapply (step_own_load c) $$ HY
  iintro HY
  iapply (step_own_store c) $$ HY
  iintro %Y' %hY HY
  rw [wp_ret]
  imodintro
  iapply Hk
  isplitl [HC0]; · iexact HC0
  isplitl [HSP HRP HCW HK Hx]
  · isplitl [HSP]; · iexact HSP
    isplitl [HRP]; · iexact HRP
    isplitl [HCW]; · iexact HCW
    ihave Hx := (heldAt_any c 1 (31 + 1) _) $$ Hx
    ihave HK := (Entails.of_eq (if_pos (show nC 1 ≤ 31 by decide))) $$ HK
    iapply (buf_join c 1 31)
    isplitl [HK] <;> iassumption
  isplitl [HC2]; · iexact HC2
  isplitl [HC3]; · iexact HC3
  isplitl [HY]
  · iexists Y'
    isplitr; · ipureintro; exact hY.1
    iexact HY
  iexists _; iexact HO

/-- At the end nothing is owed. -/
theorem OO_last : OO 32 32 32 32 32 32 32 32 c = 0 := by
  unfold OO
  rw [OS_end (ch := 0) (by decide), OS_end (ch := 1) (by decide), OS_end (ch := 2) (by decide), OS_end (ch := 3) (by decide),
    OC_end (ch := 0) (by decide), OC_end (ch := 1) (by decide), OC_end (ch := 2) (by decide), OC_end (ch := 3) (by decide)]
  simp only [add_zero]

/-- What the body leaves: the operands as they were, the result, every semaphore at zero, the buffers, and nothing owed. -/
def Done : sProp 𝕄 :=
  iprop(Wins c w ∗ owns (c : Thread nD τ) (stage0_8 0) fullShare (res o c) ∗ (Closed c 0 ∗ Closed c 1 ∗ Closed c 2 ∗ Closed c 3) ∗ semVal (bCell c) 0
    ∗ (bufAny c 0 ∗ bufAny c 1 ∗ bufAny c 2 ∗ bufAny c 3) ∗ ∃ W', owes (c : Thread nD τ) 0 W')

/-- An activation channel at the end. -/
theorem x_close (ch : Fin 4) (hs : nS ch = 31) (hc : nC ch = 30) :
    iprop(Recs (cont o) κ ιs ∗ Chan c ch 31) ⊢ iprop(|={Set.univ}=> (Closed c ch ∗ bufAny c ch)) := by
  unfold Chan Kept
  rw [hs, hc, if_pos (by decide), if_pos (by decide)]
  iintro ⟨#HR, HSP, -, HRP, -, HCW, -, HK⟩
  imod (chan_close (cont o) κ ιs c ch 31 31 (by omega) (by omega)) $$ [HSP HRP HCW] with H
  · isplitr; · iexact HR
    isplitl [HSP]; · iexact HSP
    isplitl [HRP] <;> iassumption
  imodintro
  isplitl [H]; · iexact H
  iapply (buf_join c ch 31); iexact HK

set_option maxRecDepth 65536 in
set_option maxHeartbeats 1600000 in
/-- The body on device `c`. -/
theorem body_run (ho : o c = opsOf w) (Y : Vec F S2x128x512 .f32) {W : Waits sig ℕ} {Kt : PUnit → sProp 𝕄} :
    iprop(Recs (cont o) κ ιs ∗ levAts L lv ∗ (Start c 0 ∗ Start c 1 ∗ Start c 2 ∗ Start c 3) ∗ (bufAny c 0 ∗ bufAny c 1 ∗ bufAny c 2 ∗ bufAny c 3)
        ∗ Bar c ∗ Wins c w ∗ owns (c : Thread nD τ) (stage0_8 0) fullShare Y ∗ owes (c : Thread nD τ) (O₀ c) W)
      ⊢ iprop((Done o c w -∗ Kt ⟨⟩)
        -∗ wp frame (wpE (defs₀ (F := F)) 𝒱₀ (c : Thread nD τ) none) Set.univ
            (cc0_body (F := F) (stage0_0 0) (hstage0_0 0) (stage0_1 0) (hstage0_1 0) (stage0_2 0) (hstage0_2 0) (stage0_3 0) (hstage0_3 0)
              (stage0_4 0) (hstage0_4 0) (stage0_5 0) (hstage0_5 0) (stage0_6 0) (hstage0_6 0) (stage0_7 0) (hstage0_7 0) (stage0_8 0) (hstage0_8 0)
              (bufM 0) (hbuf 0) (bufM 1) (hbuf 1) (bufM 2) (hbuf 2) (bufM 3) (hbuf 3)
              (sArr 0) (rArr 0) (sArr 1) (rArr 1) (sArr 2) (rArr 2) (sArr 3) (rArr 3) (cArr 0) (cArr 1) (cArr 2) (cArr 3)) Kt) := by
  rw [cc0_body_eq_skeleton]
  unfold cc0_body_skel
  simp only [Prog.lift, Prog.bind_op, Prog.bind_ret, Prog.pure_eq_ret, Prog.bind_assoc]
  iintro ⟨#HR, #Hlev, ⟨HB0, HB1, HB2, HB3⟩, ⟨HF0, HF1, HF2, HF3⟩, HBar, HW, HY, HO⟩ Hk
  imod (start_ready (cont o) κ ιs c 0) $$ [HB0 HF0] with ⟨#Hh0, HB0, HF0⟩
  · isplitr; · iexact HR
    isplitl [HB0] <;> iassumption
  imod (start_ready (cont o) κ ιs c 1) $$ [HB1 HF1] with ⟨#Hh1, HB1, HF1⟩
  · isplitr; · iexact HR
    isplitl [HB1] <;> iassumption
  imod (start_ready (cont o) κ ιs c 2) $$ [HB2 HF2] with ⟨#Hh2, HB2, HF2⟩
  · isplitr; · iexact HR
    isplitl [HB2] <;> iassumption
  imod (start_ready (cont o) κ ιs c 3) $$ [HB3 HF3] with ⟨#Hh3, HB3, HF3⟩
  · isplitr; · iexact HR
    isplitl [HB3] <;> iassumption
  unfold Ready
  icases HB0 with ⟨HSP0, HST0, HR0⟩
  icases HB1 with ⟨HSP1, HST1, HR1⟩
  icases HB2 with ⟨HSP2, HST2, HR2⟩
  icases HB3 with ⟨HSP3, HST3, HR3⟩
  rw [wp_bind]
  iapply (part10_run o κ ιs c w) $$ [HBar HW HO]
  · isplitr; · iexact HR
    isplitr; · iexact Hlev
    isplitr
    · unfold Hello
      isplitr; · iexact Hh0
      isplitr; · iexact Hh1
      isplitr; · iexact Hh2
      iexact Hh3
    isplitl [HBar]; · iexact HBar
    isplitl [HW]; · iexact HW
    iexact HO
  iintro %v5 %v7 ⟨#HE, Hbar, HW, ⟨%W1, HO⟩⟩
  rw [wp_bind]
  iapply (part11_run o κ ιs c w ho W1 v5 v7) $$ [HW HF0 HF2 HSP0 HST0 HO]
  · isplitr; · iexact HE
    isplitl [HW]; · iexact HW
    isplitl [HF0]; · iexact HF0
    isplitl [HF2]; · iexact HF2
    isplitl [HSP0]; · iexact HSP0
    isplitl [HST0]; · iexact HST0
    iexact HO
  iintro ⟨HW, HX0, HF2, HO⟩
  rw [← ho, wp_bind]
  iapply (part12_run o κ ιs c W1 (o c).wq (o c).wk (o c).wv (o c).wo (o c).cs (o c).sn (o c).rt) $$ [HX0 HF2 HSP2 HST2 HO]
  · isplitr; · iexact HE
    isplitl [HX0]; · iexact HX0
    isplitl [HF2]; · iexact HF2
    isplitl [HSP2]; · iexact HSP2
    isplitl [HST2]; · iexact HST2
    iexact HO
  iintro ⟨HX0, HX2, HO⟩
  rw [k0_part13_eq_skeleton, k0_part14_eq_skeleton]
  unfold k0_part13_skel k0_part14_skel
  simp only [Prog.lift, Prog.bind_op, Prog.bind_ret, Prog.pure_eq_ret, Prog.bind_assoc]
  rw [wp_bind]
  iapply (part15_run o κ ιs c W1 v7 (o c).wq (o c).wk (o c).wv (o c).cs (o c).sn (o c).rt _ _ _ _ rfl) $$ [HX2 HF1 HSP1 HST1 HO]
  · isplitr; · iexact HE
    isplitl [HX2]; · iexact HX2
    isplitl [HF1]; · iexact HF1
    isplitl [HSP1]; · iexact HSP1
    isplitl [HST1]; · iexact HST1
    iexact HO
  iintro ⟨HX2, HX1, HO⟩
  rw [k0_part16_eq_skeleton, k0_part17_eq_skeleton]
  unfold k0_part16_skel k0_part17_skel
  simp only [Prog.lift, Prog.bind_op, Prog.bind_ret, Prog.pure_eq_ret, Prog.bind_assoc]
  rw [wp_bind]
  iapply (part18_run o κ ιs c W1 v5 (o c).wo _ _ _ _ rfl) $$ [HF3 HSP3 HST3 HO]
  · isplitr; · iexact HE
    isplitl [HF3]; · iexact HF3
    isplitl [HSP3]; · iexact HSP3
    isplitl [HST3]; · iexact HST3
    iexact HO
  iintro ⟨HX3, HO⟩
  rw [wp_bind]
  iapply (part19_run o κ ιs c W1 v5 v7) $$ [HX0 HR0 HX1 HR1 HX2 HR2 HO]
  · isplitr; · iexact HE
    unfold Rest
    isplitl [HX0 HR0]; · isplitl [HX0] <;> iassumption
    isplitl [HX1 HR1]; · isplitl [HX1] <;> iassumption
    isplitl [HX2 HR2]; · isplitl [HX2] <;> iassumption
    iexact HO
  iintro ⟨HC0, HC1, HC2, ⟨%W2, HO⟩⟩
  rw [wp_bind]
  iapply (part20_run o κ ιs c W2 v5 v7 Y) $$ [HX3 HR3 HC0 HC1 HC2 HY HO]
  · isplitr; · iexact HE
    unfold Rest
    isplitl [HX3 HR3]; · isplitl [HX3] <;> iassumption
    isplitl [HC0]; · iexact HC0
    isplitl [HC1]; · iexact HC1
    isplitl [HC2]; · iexact HC2
    isplitl [HY]; · iexact HY
    iexact HO
  iintro ⟨HC0, ⟨HSP1, HRP1, HCW1, HF1⟩, HC2, HC3, ⟨%Y1, %hY1, HY⟩, ⟨%W3, HO⟩⟩
  ihave HC3 := (Entails.of_eq (show Chan (F := F) c 3 31 = _ from by unfold Chan Kept; rfl)) $$ HC3
  icases HC3 with ⟨HSP3, -, HRP3, HRC3, HCW3, -, ⟨HK3, -⟩⟩
  iapply (step_rwait (cont o) κ ιs 3 c 31 (by decide) (rArr_sem 3 (31 + 1) _ _ rfl)
    (slot_N 3 _ _) (low c 32 32 32 32 32 32 32 32 32 33 (by omega) (by omega))) $$ [HRP3 HRC3 HO]
  · isplitr; · iexact HR
    isplitr; · iexact Hlev
    isplitl [HRP3]; · iexact HRP3
    isplitl [HRC3]; · iexact HRC3
    iexact HO
  iintro ⟨HRP3, -, Hx, HO⟩
  iapply (step_load 3 c (31 + 1) rfl) $$ Hx
  iintro Hx
  iapply (step_own_load c) $$ HY
  iintro HY
  iapply (step_own_store c) $$ HY
  iintro %Y2 %hY2 HY
  have hY : Y2 = res o c := out_eq hY1 hY2.1 hY2.2
  subst hY
  ihave Hx := (heldAt_any c 3 (31 + 1) _) $$ Hx
  rw [wp_ret]
  imod (x_close o κ ιs c 0 rfl rfl) $$ [HC0] with ⟨HQ0, HF0⟩
  · isplitr; · iexact HR
    iexact HC0
  imod (x_close o κ ιs c 2 rfl rfl) $$ [HC2] with ⟨HQ2, HF2⟩
  · isplitr; · iexact HR
    iexact HC2
  imod (chan_close (cont o) κ ιs c 1 32 31 (by decide) (by decide)) $$ [HSP1 HRP1 HCW1] with HQ1
  · isplitr; · iexact HR
    isplitl [HSP1]; · iexact HSP1
    isplitl [HRP1] <;> iassumption
  imod (chan_close (cont o) κ ιs c 3 32 31 (by decide) (by decide)) $$ [HSP3 HRP3 HCW3] with HQ3
  · isplitr; · iexact HR
    isplitl [HSP3]; · iexact HSP3
    isplitl [HRP3] <;> iassumption
  imod (cell_close ER (Rd (cont o)) (Set.mem_univ (κ (bCell c))) id (later_b (cont o) c)) $$ [Hbar] with Hbar
  · isplitr; · iapply (Recs_cell (cont o) κ ιs (mem_b c)); iexact HR
    iexact Hbar
  imodintro
  iapply Hk
  unfold Done
  isplitl [HW]; · iexact HW
  isplitl [HY]; · iexact HY
  isplitl [HQ0 HQ1 HQ2 HQ3]
  · isplitl [HQ0]; · iexact HQ0
    isplitl [HQ1]; · iexact HQ1
    isplitl [HQ2] <;> iassumption
  isplitl [Hbar]; · iexact Hbar
  isplitl [HF0 HF1 HF2 HK3 Hx]
  · isplitl [HF0]; · iexact HF0
    isplitl [HF1]; · iexact HF1
    isplitl [HF2]; · iexact HF2
    ihave HK3 := (Entails.of_eq (if_pos (show nC 3 ≤ 31 by decide))) $$ HK3
    iapply (buf_join c 3 31)
    isplitl [HK3] <;> iassumption
  iexists _
  rw [OO_last]
  iexact HO

end Cert.Ring

end
-- ==== Proof.Deal.lean ====
/-
  What the launch hands out: every right to signal or copy goes to the device that uses it, and what the devices owe becomes what they may wait for.
-/
module

public import proofs.«01_k».proof.Proof.Body

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig ℕ (Elt F) ℕ UU ℕ

/-! ## Sums over channels and devices -/

section Sums

omit [FloatOps F] [∀ e, Nonempty (Elt F e)]

/-- A resource of each channel, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A resource of each of five semaphores, one by one. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What each device has for its channel, handed to the channel's source. -/
theorem bigSep_route (Φ : Fin 4 → Dev nD → sProp 𝕄) :
    (bigSep Finset.univ fun ch => bigSep Finset.univ fun c => Φ ch c) = bigSep Finset.univ fun ch => bigSep Finset.univ fun c => Φ ch (tgt ch c) :=
  bigSep_congr fun ch _ => bigSep_univ_equiv (ringEquiv ch) (Φ ch)
/-- What each device has for its channel, handed to the channel's target. -/
theorem bigSep_back (Φ : Fin 4 → Dev nD → sProp 𝕄) :
    (bigSep Finset.univ fun ch => bigSep Finset.univ fun c => Φ ch c) = bigSep Finset.univ fun ch => bigSep Finset.univ fun c => Φ ch (src ch c) :=
  bigSep_congr fun ch _ => bigSep_univ_equiv (ringEquiv ch).symm (Φ ch)

/-- The first `n` of thirty-two. -/
theorem bigSep_first {n : ℕ} (h : n ≤ 32) (Φ : ℕ → sProp 𝕄) : (bigSep Finset.univ fun j : Fin 32 => Φ j.val) ⊢ bigSep (Finset.Ico 0 n) Φ := by
  have e : (bigSep Finset.univ fun j : Fin 32 => Φ j.val) = bigSep (Finset.univ.map Fin.valEmbedding) Φ := (bigSep_map Fin.valEmbedding).symm
  rw [e]
  refine bigSep_subset fun i hi => ?_
  have := Finset.mem_Ico.mp hi
  exact Finset.mem_map.mpr ⟨⟨i, by omega⟩, Finset.mem_univ _, rfl⟩

/-- The twenty scoped semaphores, channel by channel. -/
def semIdx (p : Fin 4 × Fin 5) : Fin 20 := if h : p.2.val < 4 then ⟨4 * p.1.val + p.2.val + 4, by omega⟩ else ⟨p.1.val, by omega⟩
/-- The numbering of the scoped semaphores by channel counts each of them once. -/
theorem semIdx_bij : Function.Bijective semIdx := by decide +kernel
/-- A resource of each scoped semaphore, sorted by channel. -/
theorem bigSep_sems (Ψ : SemLoc sig → sProp 𝕄) :
    (bigSep Finset.univ fun k : Fin 20 => Ψ (osem0 k))
      = bigSep Finset.univ fun ch : Fin 4 => iprop(Ψ (.dma (sS ch 0)) ∗ Ψ (.dma (sS ch 1)) ∗ Ψ (.dma (rS ch 0)) ∗ Ψ (.dma (rS ch 1)) ∗ Ψ (.reg (cS ch))) := by
  rw [bigSep_univ_equiv (Equiv.ofBijective semIdx semIdx_bij), bigSep_univ_prod]
  refine bigSep_congr fun ch _ => ?_
  rw [bigSep_five]
  fin_cases ch <;> rfl

end Sums

/-! ## The rights to signal -/

/-- The rights a launch makes, by kind, channel, device and number: to signal a source semaphore, an arrival semaphore, a credit
semaphore, the barrier. -/
def tokAt (k ch : Fin 4) (c : Dev nD) (j : Fin 32) : GSem nD τ sig × ℕ × ℕ :=
  match k with
  | 0 => (sCell ch j.val c, j.val / 2, 0)
  | 1 => (rCell ch (j.val + 1) c, j.val / 2, 0)
  | 2 => (cCell ch c, 0, j.val)
  | 3 => (bCell c, ch.val, j.val)

/-- A right with its device left out, and back. -/
def tokLoc (p : Fin 4 × Fin 4 × Fin 32) : SemLoc sig × ℕ × ℕ := ((tokAt p.1 p.2.1 0 p.2.2).1.2, (tokAt p.1 p.2.1 0 p.2.2).2)
def tokCode : SemLoc sig × ℕ × ℕ → ℕ
  | (.dma s, r, _) => if (s.val - 9) % 4 < 2 then 32 * ((s.val - 9) / 4) + (2 * r + (s.val - 9) % 2) else 128 + 32 * ((s.val - 9) / 4) + (2 * r + (1 - (s.val - 9) % 2))
  | (.reg s, r, d) => if s.val < 4 then 256 + 32 * s.val + d else 384 + 32 * r + d
/-- The code of a right is its kind, its channel and its number. -/
theorem tokCode_loc : ∀ p, tokCode (tokLoc p) = 128 * p.1.val + 32 * p.2.1.val + p.2.2.val := by decide +kernel
/-- Different rights of a device differ in their semaphore, their round or their duty. -/
theorem tokLoc_inj : Function.Injective tokLoc := fun p q h => by
  have e := congrArg tokCode h
  rw [tokCode_loc, tokCode_loc] at e
  obtain ⟨a, b, d⟩ := p
  obtain ⟨a', b', d'⟩ := q
  dsimp only at e
  refine Prod.ext (Fin.ext ?_) (Prod.ext (Fin.ext ?_) (Fin.ext ?_)) <;> dsimp only <;> omega
/-- A right to signal is a right on its own device's cell. -/
theorem tokAt_dev (k ch : Fin 4) (c : Dev nD) (j : Fin 32) : (tokAt k ch c j).1.1.1 = c := by fin_cases k <;> rfl
/-- What a right names beside the device does not depend on the device. -/
theorem tokAt_loc (k ch : Fin 4) (c : Dev nD) (j : Fin 32) : ((tokAt k ch c j).1.2, (tokAt k ch c j).2) = tokLoc (k, ch, j) := by fin_cases k <;> rfl

def tokEmb : Fin 4 × Fin 4 × Dev nD × Fin 32 ↪ GSem nD τ sig × ℕ × ℕ := ⟨fun p => tokAt p.1 p.2.1 p.2.2.1 p.2.2.2, by
  rintro ⟨k, ch, c, j⟩ ⟨k', ch', c', j'⟩ h
  have hc : c = c' := by rw [← tokAt_dev k ch c j, ← tokAt_dev k' ch' c' j']; exact congrArg (fun x : GSem nD τ sig × ℕ × ℕ => x.1.1.1) h
  have hl := tokLoc_inj ((tokAt_loc k ch c j).symm.trans ((congrArg (fun x : GSem nD τ sig × ℕ × ℕ => (x.1.2, x.2)) h).trans (tokAt_loc k' ch' c' j')))
  injection hl with h1 h2
  injection h2 with h2 h3
  subst h1 h2 h3 hc
  rfl⟩
def toks : Finset (GSem nD τ sig × ℕ × ℕ) := Finset.univ.map tokEmb

/-- What device `c` gets of a channel's rights. -/
def TS (ch : Fin 4) (c : Dev nD) : sProp 𝕄 :=
  iprop((bigSep (Finset.Ico 0 (nS ch)) fun j => dutyTok (ER (F := F)) (sCell ch j c) (j / 2) 0)
    ∗ (bigSep (Finset.Ico 0 (nS ch)) fun j => dutyTok (ER (F := F)) (rCell ch (j + 1) (tgt ch c)) (j / 2) 0)
    ∗ (bigSep (Finset.Ico 0 (nC ch)) fun i => dutyTok (ER (F := F)) (cCell ch (src ch c)) 0 i))
/-- What device `c` gets of the barrier's. -/
def TB (c : Dev nD) : sProp 𝕄 := iprop(dutyTok (ER (F := F)) (bCell (left c)) 0 0 ∗ dutyTok (ER (F := F)) (bCell (right c)) 0 1)

omit [FloatOps F] [∀ e, Nonempty (Elt F e)] in
/-- Every right where it is used. -/
theorem deal_toks :
    (bigSep toks fun x => (dutyTok (ER (F := F)) x.1 x.2.1 x.2.2 : sProp 𝕄))
      ⊢ iprop((bigSep Finset.univ fun ch => bigSep Finset.univ fun c => TS (F := F) ch c) ∗ bigSep Finset.univ fun c => TB (F := F) c) := by
  have h0 : (bigSep Finset.univ fun ch : Fin 4 => bigSep Finset.univ fun c : Dev nD => bigSep Finset.univ fun j : Fin 32 =>
        (dutyTok (ER (F := F)) (sCell ch j.val c) (j.val / 2) 0 : sProp 𝕄))
      ⊢ bigSep Finset.univ fun ch : Fin 4 => bigSep Finset.univ fun c : Dev nD => bigSep (Finset.Ico 0 (nS ch)) fun j => dutyTok (ER (F := F)) (sCell ch j c) (j / 2) 0 :=
    bigSep_mono fun ch _ => bigSep_mono fun c _ => bigSep_first (nS_le ch) (fun j => dutyTok (ER (F := F)) (sCell ch j c) (j / 2) 0)
  have h1 : (bigSep Finset.univ fun ch : Fin 4 => bigSep Finset.univ fun c : Dev nD => bigSep Finset.univ fun j : Fin 32 =>
        (dutyTok (ER (F := F)) (rCell ch (j.val + 1) c) (j.val / 2) 0 : sProp 𝕄))
      ⊢ bigSep Finset.univ fun ch : Fin 4 => bigSep Finset.univ fun c : Dev nD => bigSep (Finset.Ico 0 (nS ch)) fun j => dutyTok (ER (F := F)) (rCell ch (j + 1) (tgt ch c)) (j / 2) 0 := by
    rw [bigSep_route]
    exact bigSep_mono fun ch _ => bigSep_mono fun c _ => bigSep_first (nS_le ch) (fun j => dutyTok (ER (F := F)) (rCell ch (j + 1) (tgt ch c)) (j / 2) 0)
  have h2 : (bigSep Finset.univ fun ch : Fin 4 => bigSep Finset.univ fun c : Dev nD => bigSep Finset.univ fun j : Fin 32 =>
        (dutyTok (ER (F := F)) (cCell ch c) 0 j.val : sProp 𝕄))
      ⊢ bigSep Finset.univ fun ch : Fin 4 => bigSep Finset.univ fun c : Dev nD => bigSep (Finset.Ico 0 (nC ch)) fun j => dutyTok (ER (F := F)) (cCell ch (src ch c)) 0 j := by
    rw [bigSep_back]
    exact bigSep_mono fun ch _ => bigSep_mono fun c _ => bigSep_first (nC_le ch) (fun j => dutyTok (ER (F := F)) (cCell ch (src ch c)) 0 j)
  have hp (c : Dev nD) : (bigSep Finset.univ fun j : Fin 32 => (dutyTok (ER (F := F)) (bCell c) 0 j.val : sProp 𝕄))
      ⊢ iprop(dutyTok (ER (F := F)) (bCell c) 0 0 ∗ dutyTok (ER (F := F)) (bCell c) 0 1) := by
    refine (bigSep_first (n := 2) (by decide) (fun j => dutyTok (ER (F := F)) (bCell c) 0 j)).trans ?_
    rw [bigSep_peel (by decide), bigSep_peel (by decide)]
    iintro ⟨H1, H2, -⟩
    isplitl [H1] <;> iassumption
  have h3 : (bigSep Finset.univ fun ch : Fin 4 => bigSep Finset.univ fun c : Dev nD => bigSep Finset.univ fun j : Fin 32 =>
        (dutyTok (ER (F := F)) (bCell c) ch.val j.val : sProp 𝕄)) ⊢ bigSep Finset.univ fun c => TB (F := F) c := by
    refine (bigSep_elim (Finset.mem_univ (0 : Fin 4))).trans ((bigSep_mono fun c _ => hp c).trans ?_)
    unfold TB
    rw [bigSep_sep', bigSep_sep', bigSep_univ_equiv (ringEquiv 2) (fun c : Dev nD => (dutyTok (ER (F := F)) (bCell c) 0 0 : sProp 𝕄)),
      bigSep_univ_equiv (ringEquiv 0) (fun c : Dev nD => (dutyTok (ER (F := F)) (bCell c) 0 1 : sProp 𝕄))]
    exact BI.Entails.refl _
  have e : (bigSep toks fun x => (dutyTok (ER (F := F)) x.1 x.2.1 x.2.2 : sProp 𝕄)) = bigSep Finset.univ fun k : Fin 4 => bigSep Finset.univ fun ch : Fin 4 =>
      bigSep Finset.univ fun c : Dev nD => bigSep Finset.univ fun j : Fin 32 => dutyTok (ER (F := F)) (tokAt k ch c j).1 (tokAt k ch c j).2.1 (tokAt k ch c j).2.2 := by
    unfold toks
    rw [bigSep_map]
    simp only [bigSep_univ_prod]
    rfl
  rw [e, bigSep_four]
  dsimp only [tokAt]
  iintro ⟨H0, H1, H2, H3⟩
  ihave H0 := h0 $$ H0
  ihave H1 := h1 $$ H1
  ihave H2 := h2 $$ H2
  ihave H3 := h3 $$ H3
  isplitr [H3]
  · unfold TS
    simp only [bigSep_sep']
    isplitl [H0]; · iexact H0
    isplitl [H1] <;> iassumption
  iexact H3

/-! ## The slots' releases -/

def writeEmb : Fin 4 × Dev nD × Fin 32 ↪ Key × ℕ := ⟨fun p => ((p.2.1, p.1, (p.2.2.val + 1) % 2), p.2.2.val / 2), by
  rintro ⟨ch, c, j⟩ ⟨ch', c', j'⟩ h
  injection h with h1 h2
  injection h1 with h1 h3
  injection h3 with h3 h4
  subst h1 h3
  have : j = j' := Fin.ext (by dsimp only at h2 h4; omega)
  subst this
  rfl⟩
def readEmb : Fin 4 × Dev nD × Fin 2 ↪ Key := ⟨fun p => (p.2.1, p.1, p.2.2.val), by
  rintro ⟨ch, c, j⟩ ⟨ch', c', j'⟩ h
  injection h with h1 h2
  injection h2 with h2 h3
  have : j = j' := Fin.ext h3
  subst h1 h2 this
  rfl⟩

omit [FloatOps F] [∀ e, Nonempty (Elt F e)] in
/-- The rights to write into a slot go to the slot's writer. -/
theorem deal_writes :
    (bigSep (keys ×ˢ Finset.range 16) fun x => (Release.writeTok (ES (F := F)) x.1 (x.2 + 1) : sProp 𝕄))
      ⊢ bigSep Finset.univ fun ch : Fin 4 => bigSep Finset.univ fun c : Dev nD => bigSep (Finset.Ico 0 (nS ch)) fun j =>
          Release.writeTok (ES (F := F)) (tgt ch c, ch, (j + 1) % 2) (j / 2 + 1) := by
  refine (bigSep_subset (t := Finset.univ.map writeEmb) fun x hx => ?_).trans ?_
  · obtain ⟨⟨ch, c, j⟩, -, rfl⟩ := Finset.mem_map.mp hx
    show ((c, ch, (j.val + 1) % 2), j.val / 2) ∈ _
    unfold keys
    simp only [Finset.mem_product, Finset.mem_univ, Finset.mem_range, true_and]
    omega
  rw [bigSep_map, bigSep_univ_prod]
  simp only [bigSep_univ_prod]
  rw [bigSep_route]
  exact bigSep_mono fun ch _ => bigSep_mono fun c _ => bigSep_first (nS_le ch) (fun j => Release.writeTok (ES (F := F)) (tgt ch c, ch, (j + 1) % 2) (j / 2 + 1))

omit [FloatOps F] [∀ e, Nonempty (Elt F e)] in
/-- Each slot's release count stays with the slot's device. -/
theorem deal_reads :
    (bigSep keys fun k => (Release.readerAt (ES (F := F)) k 0 : sProp 𝕄))
      ⊢ bigSep Finset.univ fun ch : Fin 4 => bigSep Finset.univ fun c : Dev nD =>
          iprop(Release.readerAt (ES (F := F)) (c, ch, 0) 0 ∗ Release.readerAt (ES (F := F)) (c, ch, 1) 0) := by
  refine (bigSep_subset (t := Finset.univ.map readEmb) fun x hx => ?_).trans ?_
  · obtain ⟨⟨ch, c, j⟩, -, rfl⟩ := Finset.mem_map.mp hx
    show (c, ch, j.val) ∈ _
    unfold keys
    simp only [Finset.mem_product, Finset.mem_univ, Finset.mem_range, true_and]
    omega
  rw [bigSep_map, bigSep_univ_prod]
  simp only [bigSep_univ_prod, BI.bigSep_fin_two]
  exact BI.Entails.refl _

/-! ## The launch credit -/

/-- What device `c` may wait for on a channel. -/
def CR (ch : Fin 4) (c : Dev nD) : sProp 𝕄 :=
  iprop(RC (F := F) ch 0 c ∗ bigSep (Finset.Ico 0 (nC ch)) fun i => cred (tallyAt (cCell ch c) (i + 2) 1))

omit [FloatOps F] [∀ e, Nonempty (Elt F e)] in
/-- What all devices owe a channel's arrival cells is what device `c` may wait for as arrivals. -/
theorem cred_S (ch : Fin 4) (c : Dev nD) : (Pipeline.launchCred (OS ch 0) c : sProp 𝕄) ⊢ RC ch 0 c := by
  rw [show OS ch 0 = fun d => ∑ j ∈ Finset.Ico 0 (nS ch), (fun j d => tallyAt (rCell ch (j + 1) (tgt ch d)) (j + 2) N) j d from rfl, Pipeline.launchCred_sum]
  exact bigSep_mono fun j _ => Pipeline.launchCred_tallyAt _ (tgt ch) (src ch) (tgt_src ch) (src_tgt ch) _ _ c
omit [FloatOps F] [∀ e, Nonempty (Elt F e)] in
/-- What all devices owe a channel's credit cells is what device `c` may wait for as credits. -/
theorem cred_C (ch : Fin 4) (c : Dev nD) : (Pipeline.launchCred (OC ch 0) c : sProp 𝕄) ⊢ bigSep (Finset.Ico 0 (nC ch)) fun i => cred (tallyAt (cCell ch c) (i + 2) 1) := by
  rw [show OC ch 0 = fun d => ∑ j ∈ Finset.Ico 0 (nC ch), (fun j d => tallyAt (cCell ch (src ch d)) (j + 2) 1) j d from rfl, Pipeline.launchCred_sum]
  exact bigSep_mono fun j _ => Pipeline.launchCred_tallyAt _ (src ch) (tgt ch) (src_tgt ch) (tgt_src ch) _ _ c

omit [FloatOps F] [∀ e, Nonempty (Elt F e)] in
/-- What all devices owe, as what device `c` may wait for. -/
theorem creds (c : Dev nD) :
    (Pipeline.launchCred O₀ c : sProp 𝕄) ⊢ iprop((bigSep Finset.univ fun ch => CR (F := F) ch c) ∗ cred (tallyAt (bCell c) 1 2)) := by
  rw [show (O₀ : Dev nD → CellTallies nD τ sig ℕ) = fun d => (fun d => (fun d => (fun d => (fun d => (fun d => OS 0 0 d + OS 1 0 d) d + OS 2 0 d) d + OS 3 0 d) d
        + (fun d => (fun d => (fun d => OC 0 0 d + OC 1 0 d) d + OC 2 0 d) d + OC 3 0 d) d) d
      + (fun d => tallyAt (bCell (right d)) 1 1) d) d + (fun d => tallyAt (bCell (left d)) 1 1) d from rfl]
  rw [Pipeline.launchCred_add, Pipeline.launchCred_add, Pipeline.launchCred_add, Pipeline.launchCred_add, Pipeline.launchCred_add, Pipeline.launchCred_add,
    Pipeline.launchCred_add, Pipeline.launchCred_add, Pipeline.launchCred_add, bigSep_four]
  unfold CR
  have hr := Pipeline.launchCred_tallyAt (τ := τ) (Val := Elt F) (Name := ℕ) (U := UU) (Lvl := ℕ) (SemLoc.reg bS) right left right_left left_right 1 1 c
  have hl := Pipeline.launchCred_tallyAt (τ := τ) (Val := Elt F) (Name := ℕ) (U := UU) (Lvl := ℕ) (SemLoc.reg bS) left right left_right right_left 1 1 c
  have hb : iprop(cred (tallyAt (bCell c) 1 1) ∗ cred (tallyAt (bCell c) 1 1)) ⊢ (cred (tallyAt (bCell c) 1 2) : sProp 𝕄) := by
    rw [show (2 : ℕ) = 1 + 1 from rfl, ← tallyAt_add]; exact (cred_add _ _).2
  iintro ⟨⟨⟨⟨⟨⟨S0, S1⟩, S2⟩, S3⟩, ⟨⟨⟨C0, C1⟩, C2⟩, C3⟩⟩, R⟩, L⟩
  ihave S0 := (cred_S (F := F) 0 c) $$ S0
  ihave S1 := (cred_S (F := F) 1 c) $$ S1
  ihave S2 := (cred_S (F := F) 2 c) $$ S2
  ihave S3 := (cred_S (F := F) 3 c) $$ S3
  ihave C0 := (cred_C (F := F) 0 c) $$ C0
  ihave C1 := (cred_C (F := F) 1 c) $$ C1
  ihave C2 := (cred_C (F := F) 2 c) $$ C2
  ihave C3 := (cred_C (F := F) 3 c) $$ C3
  ihave R := hr $$ R
  ihave L := hl $$ L
  isplitr [R L]
  · isplitl [S0 C0]; · isplitl [S0] <;> iassumption
    isplitl [S1 C1]; · isplitl [S1] <;> iassumption
    isplitl [S2 C2]; · isplitl [S2] <;> iassumption
    isplitl [S3] <;> iassumption
  iapply hb
  isplitl [R] <;> iassumption

/-! ## What the launch leaves each device -/

/-- What a device has of a channel before its semaphores are opened. -/
def Pre (ch : Fin 4) (c : Dev nD) : sProp 𝕄 :=
  iprop((openTok (ER (F := F)) (sCell ch 0 c) ∗ openTok (ER (F := F)) (sCell ch 1 c) ∗ openTok (ER (F := F)) (rCell ch 0 c) ∗ openTok (ER (F := F)) (rCell ch 1 c)
      ∗ openTok (ER (F := F)) (cCell ch c))
    ∗ TS (F := F) ch c
    ∗ (bigSep (Finset.Ico 0 (nS ch)) fun j => Release.writeTok (ES (F := F)) (tgt ch c, ch, (j + 1) % 2) (j / 2 + 1))
    ∗ (Release.readerAt (ES (F := F)) (c, ch, 0) 0 ∗ Release.readerAt (ES (F := F)) (c, ch, 1) 0)
    ∗ CR (F := F) ch c)

variable (X : Fin 4 → ℕ → Dev nD → Vec F S128x512 .bf16) (κ : GSem nD τ sig → ℕ) (ιs : Key → ℕ)

/-- A cell whose semaphore is at zero is opened: its device stands before the first round. -/
theorem open_one {g : GSem nD τ sig} (h : g ∈ bCells ∪ oCells) :
    iprop(Recs X κ ιs ∗ openTok (ER (F := F)) g ∗ semVal g 0) ⊢ iprop(|={Set.univ}=> (atPos (ER (F := F)) g 0 ∅ 0 ∗ reached (ER (F := F)) g 0)) := by
  iintro ⟨#HR, HO, HV⟩
  ihave #HI := (Recs_cell X κ ιs h) $$ HR
  imod (cell_open ER (Rd X) (g := g) (Set.mem_univ (κ g))) $$ [HO HV] with H
  · isplitr; · iexact HI
    isplitl [HO] <;> iassumption
  imodintro
  iexact H

/-- Opening a channel's semaphores. -/
theorem open_chan (ch : Fin 4) (c : Dev nD) : iprop(Recs X κ ιs ∗ Pre ch c ∗ Closed c ch) ⊢ iprop(|={Set.univ}=> Start c ch) := by
  unfold Pre Closed Start TS CR SP RP ST CW
  simp only [bigSep_sep']
  iintro ⟨#HR, ⟨⟨O1, O2, O3, O4, O5⟩, ⟨T1, T2, T3⟩, HW, HRd, HRC, HC⟩, V1, V2, V3, V4, V5⟩
  imod (open_one X κ ιs (mem_s ch 0 c)) $$ [O1 V1] with ⟨A1, R1⟩
  · isplitr; · iexact HR
    isplitl [O1] <;> iassumption
  imod (open_one X κ ιs (mem_s ch 1 c)) $$ [O2 V2] with ⟨A2, R2⟩
  · isplitr; · iexact HR
    isplitl [O2] <;> iassumption
  imod (open_one X κ ιs (mem_r ch 0 c)) $$ [O3 V3] with ⟨A3, R3⟩
  · isplitr; · iexact HR
    isplitl [O3] <;> iassumption
  imod (open_one X κ ιs (mem_r ch 1 c)) $$ [O4 V4] with ⟨A4, R4⟩
  · isplitr; · iexact HR
    isplitl [O4] <;> iassumption
  imod (open_one X κ ιs (mem_c ch c)) $$ [O5 V5] with ⟨A5, R5⟩
  · isplitr; · iexact HR
    isplitl [O5] <;> iassumption
  imodintro
  isplitl [A1 R1 A2 R2]
  · isplitl [A1 R1]; · isplitl [A1] <;> iassumption
    isplitl [A2] <;> iassumption
  isplitl [T1 T2 HW]
  · isplitl [T1]; · iexact T1
    isplitl [T2] <;> iassumption
  isplitl [A3 R3 A4 R4]
  · isplitl [A4 R4]; · isplitl [A4] <;> iassumption
    rw [rCell_congr ch c (show (0 + 2) % 2 = 0 % 2 from rfl)]
    isplitl [A3] <;> iassumption
  isplitl [HRC]; · iexact HRC
  isplitl [HC A5]
  · isplitl [HC]; · iexact HC
    rw [if_pos (nC_pos ch)]
    iexists ∅
    isplitr; · ipureintro; exact Finset.empty_subset _
    isplitl [A5]; · iexact A5
    rw [bigSep_empty]
    iempintro
  isplitl [T3]; · iexact T3
  isplitl [HRd] <;> iassumption

/-- The scoped semaphores at zero. -/
theorem ownSems_eq (c : Dev nD) : (Pipeline.ownSems0 osem0 c : sProp 𝕄) = bigSep Finset.univ fun ch => Closed (F := F) c ch :=
  bigSep_sems (fun sm => (semVal ((c : Thread nD τ), sm) 0 : sProp 𝕄))

/-- No barrier cell is a scoped cell. -/
theorem disjoint_cells : Disjoint bCells oCells := by
  rw [Finset.disjoint_left]
  rintro g h₁ h₂
  obtain ⟨c, -, rfl⟩ := Finset.mem_map.mp h₁
  obtain ⟨ck, -, h⟩ := Finset.mem_map.mp h₂
  exact (by decide : ∀ k : Fin 20, osem0 k ≠ .reg bS) ck.2 (congrArg Prod.snd h)

/-- The launch: from the barrier counters at zero, the protocol's first state and the launch credit, the records and what each device has. -/
theorem deal :
    iprop((bigSep Finset.univ fun c : Dev nD => (semVal (bCell c) 0 : sProp 𝕄))
        ∗ (BI.own ((ER (F := F)) (launchOf bCells oCells toks)) ∗ BI.own ((ES (F := F)) (Release.initSlots keys 16)))
        ∗ bigSep Finset.univ fun c : Dev nD => (Pipeline.launchCred O₀ c : sProp 𝕄))
      ⊢ iprop(|={Set.univ}=> ∃ (κ : GSem nD τ sig → ℕ) (ιs : Key → ℕ), Recs X κ ιs
          ∗ bigSep Finset.univ fun c : Dev nD => iprop((bigSep Finset.univ fun ch => Pre (F := F) ch c) ∗ Bar c)) := by
  have hv : (bigSep Finset.univ fun c : Dev nD => (semVal (bCell c) 0 : sProp 𝕄)) ⊢ bigSep bCells (fun g => (semVal g 0 : sProp 𝕄)) :=
    Entails.of_eq (bigSep_map (s := Finset.univ) bEmb (Φ := fun g : GSem nD τ sig => (semVal g 0 : sProp 𝕄))).symm
  have hat : bigSep bCells (fun g => (atPos (ER (F := F)) g 0 ∅ 0 : sProp 𝕄)) ⊢ bigSep Finset.univ (fun c : Dev nD => (atPos (ER (F := F)) (bCell c) 0 ∅ 0 : sProp 𝕄)) :=
    Entails.of_eq (bigSep_map (s := Finset.univ) bEmb (Φ := fun g : GSem nD τ sig => (atPos (ER (F := F)) g 0 ∅ 0 : sProp 𝕄)))
  have ho : bigSep oCells (fun g => (openTok (ER (F := F)) g : sProp 𝕄))
      ⊢ bigSep Finset.univ fun c : Dev nD => bigSep Finset.univ fun ch : Fin 4 => iprop(openTok (ER (F := F)) (sCell ch 0 c) ∗ openTok (ER (F := F)) (sCell ch 1 c)
        ∗ openTok (ER (F := F)) (rCell ch 0 c) ∗ openTok (ER (F := F)) (rCell ch 1 c) ∗ openTok (ER (F := F)) (cCell ch c)) :=
    Entails.of_eq (by
      unfold oCells
      rw [bigSep_map, bigSep_univ_prod]
      exact bigSep_congr fun c _ => bigSep_sems (fun sm => (openTok (ER (F := F)) ((c : Thread nD τ), sm) : sProp 𝕄)))
  have hc : (bigSep Finset.univ fun c : Dev nD => (Pipeline.launchCred O₀ c : sProp 𝕄))
      ⊢ bigSep Finset.univ fun c : Dev nD => iprop((bigSep Finset.univ fun ch => CR (F := F) ch c) ∗ cred (tallyAt (bCell c) 1 2)) :=
    bigSep_mono fun c _ => creds c
  have hf : iprop((bigSep Finset.univ fun c : Dev nD => (atPos (ER (F := F)) (bCell c) 0 ∅ 0 : sProp 𝕄))
      ∗ (bigSep Finset.univ fun c : Dev nD => bigSep Finset.univ fun ch : Fin 4 => iprop(openTok (ER (F := F)) (sCell ch 0 c) ∗ openTok (ER (F := F)) (sCell ch 1 c)
        ∗ openTok (ER (F := F)) (rCell ch 0 c) ∗ openTok (ER (F := F)) (rCell ch 1 c) ∗ openTok (ER (F := F)) (cCell ch c)))
      ∗ ((bigSep Finset.univ fun ch => bigSep Finset.univ fun c => TS (F := F) ch c) ∗ bigSep Finset.univ fun c => TB (F := F) c)
      ∗ (bigSep Finset.univ fun ch : Fin 4 => bigSep Finset.univ fun c : Dev nD => bigSep (Finset.Ico 0 (nS ch)) fun j =>
          Release.writeTok (ES (F := F)) (tgt ch c, ch, (j + 1) % 2) (j / 2 + 1))
      ∗ (bigSep Finset.univ fun ch : Fin 4 => bigSep Finset.univ fun c : Dev nD =>
          iprop(Release.readerAt (ES (F := F)) (c, ch, 0) 0 ∗ Release.readerAt (ES (F := F)) (c, ch, 1) 0))
      ∗ bigSep Finset.univ fun c : Dev nD => iprop((bigSep Finset.univ fun ch => CR (F := F) ch c) ∗ cred (tallyAt (bCell c) 1 2)))
      ⊢ (bigSep Finset.univ fun c : Dev nD => iprop((bigSep Finset.univ fun ch => Pre (F := F) ch c) ∗ Bar c) : sProp 𝕄) := by
    rw [bigSep_univ_comm (fun ch c => TS (F := F) ch c), bigSep_univ_comm (fun (ch : Fin 4) (c : Dev nD) =>
      bigSep (Finset.Ico 0 (nS ch)) fun j => (Release.writeTok (ES (F := F)) (tgt ch c, ch, (j + 1) % 2) (j / 2 + 1) : sProp 𝕄)),
      bigSep_univ_comm (fun (ch : Fin 4) (c : Dev nD) =>
        (iprop(Release.readerAt (ES (F := F)) (c, ch, 0) 0 ∗ Release.readerAt (ES (F := F)) (c, ch, 1) 0) : sProp 𝕄))]
    unfold Pre Bar TB
    simp only [bigSep_sep']
    iintro ⟨Hat, ⟨O1, O2, O3, O4, O5⟩, ⟨HTS, ⟨HB1, HB2⟩⟩, Hwrite, ⟨Rd0, Rd1⟩, ⟨HCR, Hcb⟩⟩
    isplitr [Hat Hcb HB1 HB2]
    · isplitl [O1 O2 O3 O4 O5]
      · isplitl [O1]; · iexact O1
        isplitl [O2]; · iexact O2
        isplitl [O3]; · iexact O3
        isplitl [O4] <;> iassumption
      isplitl [HTS]; · iexact HTS
      isplitl [Hwrite]; · iexact Hwrite
      isplitl [Rd0 Rd1]; · isplitl [Rd0] <;> iassumption
      iexact HCR
    isplitl [Hat]; · iexact Hat
    isplitl [Hcb]; · iexact Hcb
    isplitl [HB1] <;> iassumption
  iintro ⟨Hv, ⟨Hu, Hs⟩, Hc⟩
  ihave Hv := hv $$ Hv
  imod (Rounds.fund_launch ER (Rd X) disjoint_cells (fun g _ h => h) toks) $$ [Hv Hu] with ⟨%κ, -, #Hinv, #Hr, Hat, Hopen, Htok⟩
  · isplitl [Hv] <;> iassumption
  imod (Release.slots_init (ES (F := F)) keys 16 (Sl (F := F))) $$ Hs with ⟨%ιs, -, #Hsl, Hread, Hwrite⟩
  imodintro
  iexists κ
  iexists ιs
  isplitr
  · unfold Recs
    isplitr; · iexact Hinv
    isplitr; · iexact Hsl
    iexact Hr
  ihave Hat := hat $$ Hat
  ihave Hopen := ho $$ Hopen
  ihave Htok := deal_toks $$ Htok
  ihave Hwrite := deal_writes $$ Hwrite
  ihave Hread := deal_reads $$ Hread
  ihave Hc := hc $$ Hc
  iapply hf
  isplitl [Hat]; · iexact Hat
  isplitl [Hopen]; · iexact Hopen
  isplitl [Htok]; · iexact Htok
  isplitl [Hwrite]; · iexact Hwrite
  isplitl [Hread]; · iexact Hread
  iexact Hc

end Cert.Ring

end
-- ==== Proof.Entry.lean ====
/-
  The kernel's body as the pipeline calls it: what the windows hold before and after, and what the body is given and gives back.
-/
module

public import proofs.«01_k».proof.Proof.Deal
public import proofs.«01_k».proof.Proof.Gen.KernelIdeal.Frame

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [∀ e, Nonempty (Elt F e)]

local notation "𝕄" => MT nD τ sig ℕ (Elt F) ℕ UU ℕ

variable (m : (ℓ : Loc nD τ sig) → Buf (Elt F) ℓ)

/-- What device `c`'s input windows hold. -/
def winOf (c : Dev nD) : Win F where
  x := iblk m c 0 t0_0
  wq := iblk m c 1 t0_0
  wk := iblk m c 2 t0_0
  wv := iblk m c 3 t0_0
  wo := iblk m c 4 t0_0
  cs := iblk m c 5 t0_0
  sn := iblk m c 6 t0_0
  rt := iblk m c 7 t0_0

/-- The operands of every device's body. -/
def opsAt (c : Dev nD) : Ops F := opsOf (winOf m c)

/-- What device `c` leaves as its result. -/
def resAt (c : Dev nD) : Vec F S2x128x512 .f32 := res (opsAt m) c

/-- The device's four scratch buffers, at some contents. -/
def Bufs (c : Dev nD) : sProp 𝕄 := iprop(bufAny c 0 ∗ bufAny c 1 ∗ bufAny c 2 ∗ bufAny c 3)
/-- The device's four channels closed. -/
def Closeds (c : Dev nD) : sProp 𝕄 := iprop(Closed c 0 ∗ Closed c 1 ∗ Closed c 2 ∗ Closed c 3)

/-- What the program's launch keeps for device `c`. -/
def Tk (c : Dev nD) : sProp 𝕄 :=
  iprop(∃ κ ιs, Recs (cont (opsAt m)) κ ιs ∗ (bigSep Finset.univ fun ch => Pre ch c) ∗ Bar c)
/-- The same, with the device's own semaphores taken in. -/
def Xk (c : Dev nD) : sProp 𝕄 :=
  iprop(∃ κ ιs, Recs (cont (opsAt m)) κ ιs ∗ levAts L lv ∗ (Start c 0 ∗ Start c 1 ∗ Start c 2 ∗ Start c 3) ∗ Bar c)
/-- What is left for after the kernel: the barrier semaphore at zero. -/
def Yk (c : Dev nD) : sProp 𝕄 := semVal (bCell c) 0

/-- What each window's staging buffer holds after the body. -/
def aft (c : Dev nD) : (w : Fin 9) → Fin cfg0.N → (cfg0.win w).block.Idx → Elt F (cfg0.win w).elt
  | 0 => fun t => iblk m c 0 t | 1 => fun t => iblk m c 1 t | 2 => fun t => iblk m c 2 t | 3 => fun t => iblk m c 3 t
  | 4 => fun t => iblk m c 4 t | 5 => fun t => iblk m c 5 t | 6 => fun t => iblk m c 6 t | 7 => fun t => iblk m c 7 t
  | 8 => fun _ => resAt m c

/-- The invariant before the body and after it. -/
def inv (c : Dev nD) (b : Bool) : sProp 𝕄 :=
  if b then iprop(Xk m c ∗ Bufs c ∗ ∃ r, prngReg c r) else iprop(Yk c ∗ Closeds c ∗ Bufs c ∗ ∃ r, prngReg c r)

/-- The proof data of device `c`'s one region. -/
def dat (c : Dev nD) : Dat τ (Elt F) ℕ ℕ UU ℕ cfg0 c where
  A w := V m c (Pipeline.arrRef spec0 w)
  after w t := aft m c w t
  Φ t := inv m c (t.val = 0)
  q w := fullShare
  owed t := if t.val = 0 then O₀ c else 0

/-- Before the kernel's one grid point a device owes all its signals and transfers. -/
theorem owed_zero (c : Dev nD) : (dat m c).owed 0 = O₀ c := by
  show (if ((0 : Fin (cfg0.N + 1)).val = 0) then O₀ c else 0) = O₀ c; exact if_pos rfl
/-- The same, with the point named as the grid's first. -/
theorem owed_first (c : Dev nD) : (dat m c).owed t0_0.castSucc = O₀ c := by
  show (if (t0_0.castSucc : Fin (cfg0.N + 1)).val = 0 then O₀ c else 0) = O₀ c; exact if_pos rfl
/-- After the last grid point a device owes nothing. -/
theorem owed_last (c : Dev nD) : (dat m c).owed (Fin.last _) = 0 := by
  show (if (Fin.last cfg0.N).val = 0 then O₀ c else 0) = 0
  rw [Fin.val_last, if_neg (by rw [show cfg0.N = 1 from N_0]; decide)]
/-- What a device has before the grid point. -/
theorem inv_first (c : Dev nD) : (dat m c).Φ 0 = iprop(Xk m c ∗ Bufs c ∗ ∃ r, prngReg c r) := rfl
/-- What a device has after the grid point. -/
theorem inv_last (c : Dev nD) : (dat m c).Φ (Fin.last _) = iprop(Yk c ∗ Closeds c ∗ Bufs c ∗ ∃ r, prngReg c r) := by
  show inv m c ((Fin.last cfg0.N).val = 0) = _
  rw [show decide ((Fin.last cfg0.N).val = 0) = false from by rw [Fin.val_last, show cfg0.N = 1 from N_0]; rfl]
  rfl

/-- What the core owes at a point, from what it owes. -/
theorem owesAt_intro (c : Dev nD) (t : Fin (cfg0.N + 1)) (O : CellTallies nD τ sig ℕ) (h0 : (dat m c).owed t = O) (W : Waits sig ℕ) :
    (owes (c : Thread nD τ) O W : sProp 𝕄) ⊢ ((dat m c).owesAt 0 t : sProp 𝕄) := by
  have hr : (dat m c).recorded t = Set.univ := rfl
  unfold Dat.owesAt Pipeline.owesWithin Dat.bound; rw [h0, hr]
  iintro HO; iexists W; isplitr; · ipureintro; exact fun _ _ => Or.inl trivial
  iexact HO
/-- What the core owes, from what it owes at a point. -/
theorem owesAt_elim (c : Dev nD) (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-- The activations' window holds its block when the body starts. -/
theorem bef0 (c : Dev nD) (t d) : (dat m c).before 0 t d = iblk m c 0 t :=
  ((dat m c).before_in_eq_fetched 0 rfl (fun _ => rfl) (fun _ _ _ => rfl) (fun _ => rfl) t d).trans rfl
/-- The query weights' window holds its block when the body starts. -/
theorem bef1 (c : Dev nD) (t d) : (dat m c).before 1 t d = iblk m c 1 t :=
  ((dat m c).before_in_eq_fetched 1 rfl (fun _ => rfl) (fun _ _ _ => rfl) (fun _ => rfl) t d).trans rfl
/-- The key weights' window holds its block when the body starts. -/
theorem bef2 (c : Dev nD) (t d) : (dat m c).before 2 t d = iblk m c 2 t :=
  ((dat m c).before_in_eq_fetched 2 rfl (fun _ => rfl) (fun _ _ _ => rfl) (fun _ => rfl) t d).trans rfl
/-- The value weights' window holds its block when the body starts. -/
theorem bef3 (c : Dev nD) (t d) : (dat m c).before 3 t d = iblk m c 3 t :=
  ((dat m c).before_in_eq_fetched 3 rfl (fun _ => rfl) (fun _ _ _ => rfl) (fun _ => rfl) t d).trans rfl
/-- The output weights' window holds its block when the body starts. -/
theorem bef4 (c : Dev nD) (t d) : (dat m c).before 4 t d = iblk m c 4 t :=
  ((dat m c).before_in_eq_fetched 4 rfl (fun _ => rfl) (fun _ _ _ => rfl) (fun _ => rfl) t d).trans rfl
/-- The cosines' window holds its block when the body starts. -/
theorem bef5 (c : Dev nD) (t d) : (dat m c).before 5 t d = iblk m c 5 t :=
  ((dat m c).before_in_eq_fetched 5 rfl (fun _ => rfl) (fun _ _ _ => rfl) (fun _ => rfl) t d).trans rfl
/-- The sines' window holds its block when the body starts. -/
theorem bef6 (c : Dev nD) (t d) : (dat m c).before 6 t d = iblk m c 6 t :=
  ((dat m c).before_in_eq_fetched 6 rfl (fun _ => rfl) (fun _ _ _ => rfl) (fun _ => rfl) t d).trans rfl
/-- The rotation matrix's window holds its block when the body starts. -/
theorem bef7 (c : Dev nD) (t d) : (dat m c).before 7 t d = iblk m c 7 t :=
  ((dat m c).before_in_eq_fetched 7 rfl (fun _ => rfl) (fun _ _ _ => rfl) (fun _ => rfl) t d).trans rfl

set_option maxRecDepth 65536 in
/-- The body at its one point. -/
theorem body (c : Dev nD) : BodyObligation (dat m c) (defs₀ (F := F)) 𝒱₀ 0 Set.univ := fun t => by
  obtain rfl := fin_N0 t
  refine Entails.trans (Entails.of_eq (congrArg _ (congrArg _ (bigSep_W0 _)))) ?_
  rw [bigSep_W0]
  rw [show (dat m c).Φ t0_0.castSucc = iprop(Xk m c ∗ Bufs c ∗ ∃ r, prngReg c r) from rfl, show (dat m c).Φ t0_0.succ = (dat m c).Φ (Fin.last _) from rfl, inv_last]
  simp only [bef0, bef1, bef2, bef3, bef4, bef5, bef6, bef7]
  unfold Xk Bufs Closeds Yk
  iintro ⟨⟨⟨%κ, %ιs, HR, HL, HS, HB⟩, HM, Hp⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO' := (owesAt_elim m c _ (O₀ c) (owed_first m c)) $$ HO
  icases HO' with ⟨%W, HO⟩
  iapply (body_run (opsAt m) κ ιs c (winOf m c) rfl ((dat m c).before 8 t0_0 d8)) $$ [HR HL HS HB HM HO H0 H1 H2 H3 H4 H5 H6 H7 H8]
  · isplitl [HR]; · iexact HR
    isplitl [HL]; · iexact HL
    isplitl [HS]; · iexact HS
    isplitl [HM]; · iexact HM
    isplitl [HB]; · iexact HB
    isplitl [H0 H1 H2 H3 H4 H5 H6 H7]
    · unfold Wins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    iexact HO
  unfold Done Wins
  iintro ⟨⟨H0, H1, H2, H3, H4, H5, H6, H7⟩, H8, HC, Hb, HM, ⟨%W', HO⟩⟩
  isplitl [Hb HC HM Hp]
  · isplitl [Hb]; · iexact Hb
    isplitl [HC]; · iexact HC
    isplitl [HM]; · iexact HM
    iexact Hp
  isplitl [HO]; · iapply (owesAt_intro m c t0_0.succ 0 (owed_last m c) W'); iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Ring

end
-- ==== Proof.Run.lean ====
/-
  The whole program: the host's literals, the kernel, and what every device's buffers hold at the end.
-/
module

public import proofs.«01_k».proof.Proof.Entry

@[expose] public section

set_option backward.isDefEq.respectTransparency.types false

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [∀ e, Nonempty (Elt F e)]

local notation "𝕄" => MT nD τ sig ℕ (Elt F) ℕ UU ℕ

variable (m : (ℓ : Loc nD τ sig) → Buf (Elt F) ℓ) (ρ : Dev nD → PrngReg)

/-! ## The unscoped buffers -/

/-- Device `c`'s buffers at the launch, -/
abbrev V₀ (c : Dev nD) : Valuation τ sig (Elt F) := fun b => m ((c : Dev nD), b)
/-- after the host's operations, -/
abbrev V₁ (c : Dev nD) : Valuation τ sig (Elt F) := StableHlo.after hostOps0 (V₀ m c)
/-- and after the kernel. -/
abbrev V₂ (c : Dev nD) : Valuation τ sig (Elt F) :=
  Function.update (V₁ m c) (Proc.devRef .tc main_v1) ((dat m c).arrAt (8 : Fin 9) cfg0.N)

/-- The unscoped buffers: every window's array. -/
def bufs : Finset (DevRef τ sig) := (StableHlo.tcRefs τ sig).filter fun b => ¬ b.isScoped

/-- The windows' arrays are the unscoped buffers. -/
theorem bufs_arr : Pipeline.arrRefs (τ := τ) spec0 = bufs := by decide +kernel

omit [FloatOps F] [∀ e, Nonempty (Elt F e)] in
/-- A device's unscoped buffers, as its buffers held at a valuation. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A whole buffer of device `c`. -/
abbrev pt (c : Dev nD) (b : Ref sig .tc) (f : b.ty.Contents (Elt F)) : sProp 𝕄 := (Memref.whole b).view.loc (c : Thread nD τ) ↦{fullShare} f

omit [FloatOps F] [∀ e, Nonempty (Elt F e)] in
/-- The unscoped buffers, one by one. -/
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_cst (W main_cst) ∗ pt c main_cst_0 (W main_cst_0) ∗ pt c main_cst_1 (W main_cst_1) ∗ pt c main_v1 (W main_v1)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_cst, Proc.devRef .tc main_cst_0, Proc.devRef .tc main_cst_1, Proc.devRef .tc main_v1] (by decide +kernel) (by decide +kernel)]
  rfl

omit [FloatOps F] [∀ e, Nonempty (Elt F e)] in
/-- The only unscoped semaphore is the barrier's. -/
theorem unscopedSems0_eq (c : Dev nD) : (unscopedSems0 c : sProp 𝕄) = semVal (bCell c) 0 := by
  unfold unscopedSems0
  rw [show (Finset.univ.filter fun sm : SemLoc sig => ¬ sm.isScoped .tc) = {SemLoc.reg bS} from by decide, BI.bigSep_singleton]

/-- A semaphore that is not scoped is the barrier's. -/
theorem unscoped_eq : ∀ sm : SemLoc sig, sm.isScoped .tc = false → sm = .reg bS := by decide

/-- No wait is registered at a cell of a thread of another kind. -/
theorem L_of_ne (g : GSem nD τ sig) (h : g.1.2 ≠ .tc) : L g = ∅ := if_neg h

/-! ## The region -/

abbrev adm : (p : Fin 1) → (pcfgs (F := F) p).Adm := fun p => (cfgs p).toPCfg_adm
/-- The proof data of the program's one region. -/
def pdats : (p : Fin 1) → (c : Dev nD) → Dat τ (Elt F) ℕ ℕ UU ℕ (Pipeline.pin (pcfgs (F := F)) adm p) c
  | 0 => dat m

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

omit [FloatOps F] [∀ e, Nonempty (Elt F e)] in
/-- A scratch buffer at contents not chosen, as a whole buffer. -/
theorem bufAny_eq (c : Dev nD) (ch : Fin 4) : bufAny (F := F) c ch = iprop(∃ f : Buf (Elt F) ((bufM ch).view.loc (c : Thread nD τ)), (bufM ch).view.loc (c : Thread nD τ) ↦{fullShare} f) := by
  unfold bufAny Release.slot
  rw [show (bufM ch).view.set = Finset.univ from by revert ch; intro ch; fin_cases ch <;> exact View.set_whole _]

/-- The scoped buffers that no window stages are the four scratch buffers. -/
theorem rest_eq (c : Dev nD) :
    (Pipeline.scopedRest (Ix := ℕ) (Name := ℕ) (U := UU) (Lvl := ℕ) (Val := Elt F) (Pipeline.pin (pcfgs (F := F)) adm 0).spec c : sProp 𝕄) = Bufs c := by
  refine (scopedRest0_eq c).trans ?_
  unfold Bufs
  rw [bufAny_eq, bufAny_eq, bufAny_eq, bufAny_eq]
  rfl

/-- Taking in the device's own semaphores opens its four channels. -/
theorem hopen (c : Dev nD) : iprop(Tk m c ∗ Pipeline.ownSems0 osem0 c ∗ levAts L lv) ⊢ (|={Set.univ}=> Xk m c : sProp 𝕄) := by
  rw [ownSems_eq, bigSep_four]
  unfold Tk Xk
  rw [bigSep_four]
  iintro ⟨⟨%κ, %ιs, #HR, ⟨P0, P1, P2, P3⟩, HB⟩, ⟨C0, C1, C2, C3⟩, HL⟩
  imod (open_chan (cont (opsAt m)) κ ιs 0 c) $$ [P0 C0] with S0
  · isplitr; · iexact HR
    isplitl [P0]; · iexact P0
    iexact C0
  imod (open_chan (cont (opsAt m)) κ ιs 1 c) $$ [P1 C1] with S1
  · isplitr; · iexact HR
    isplitl [P1]; · iexact P1
    iexact C1
  imod (open_chan (cont (opsAt m)) κ ιs 2 c) $$ [P2 C2] with S2
  · isplitr; · iexact HR
    isplitl [P2]; · iexact P2
    iexact C2
  imod (open_chan (cont (opsAt m)) κ ιs 3 c) $$ [P3 C3] with S3
  · isplitr; · iexact HR
    isplitl [P3]; · iexact P3
    iexact C3
  imodintro
  iexists κ
  iexists ιs
  isplitr; · iexact HR
  isplitl [HL]; · iexact HL
  isplitl [S0 S1 S2 S3]
  · isplitl [S0]; · iexact S0
    isplitl [S1]; · iexact S1
    isplitl [S2]; · iexact S2
    iexact S3
  iexact HB

/-- What a device has when the kernel is entered is its state before the grid point. -/
theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ Bufs c ∗ ∃ r, prngReg c r) from rfl, rest_eq]
  iintro ⟨Hs, Hp, -, HX⟩
  isplitl [HX]; · iexact HX
  isplitl [Hs]; · iexact Hs
  iexact Hp

/-- A device's state after the grid point gives back its scratch buffers and its semaphores, all at zero. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem0 c ∗ Yk c) := by
  rw [show (pdats m 0 c).Φ (Fin.last (Pipeline.pin (pcfgs (F := F)) adm 0).N) = iprop(Yk c ∗ Closeds c ∗ Bufs c ∗ ∃ r, prngReg c r) from inv_last m c,
    rest_eq, ownSems_eq, bigSep_four, show (StableHlo.held (c.tc : Thread nD τ) ∅ (V₂ m c) : sProp 𝕄) = BI.emp from by unfold StableHlo.held; exact BI.bigSep_empty]
  unfold Closeds
  iintro ⟨HY, HC, Hs, Hp⟩
  isplitl [Hs]; · iexact Hs
  isplitl [Hp]; · iexact Hp
  isplitr; · iempintro
  isplitl [HC]; · iexact HC
  iexact HY

/-- The facts of a launch about the windows and their staging buffers. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that a device owes at the start has a level of at least one. -/
theorem O₀_pos {c : Dev nD} {g : GSem nD τ sig} {u : ℕ} (h : 0 < O₀ c g u) : u ∈ L g ∧ 1 ≤ u := by
  have bar : ∀ d : Dev nD, 0 < tallyAt (bCell d) 1 1 g u → u ∈ L g ∧ 1 ≤ u := fun d h => by
    rw [tallyAt_apply] at h
    split at h
    · next hg => rw [hg.1, hg.2, L_tc]; exact ⟨by decide, le_rfl⟩
    · exact absurd h (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · have := OO_pos (b := 0) (by omega) h
      exact ⟨this.1, by omega⟩
    · exact bar _ h
  · exact bar _ h

/-- Whatever a device owes at a grid point is above the level of the staging copies. -/
theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

/-- After the kernel the result's array holds what the window wrote. -/
theorem V₂_v1 (c : Dev nD) : V₂ m c main_v1 = (dat m c).arrAt (8 : Fin 9) cfg0.N := Function.update_self ..
/-- The kernel changes no other array. -/
theorem V₂_of_ne (c : Dev nD) (b : Ref sig .tc) (h : Proc.devRef (τ := τ) .tc b ≠ Proc.devRef .tc main_v1) : V₂ m c b = V₁ m c b := Function.update_of_ne h ..

/-- What each window's array holds after the kernel. -/
theorem arr_last (c : Dev nD) : (w : Fin 9) → (dat m c).arrAt w cfg0.N = V₂ m c (Proc.devRef .tc (Pipeline.arrRef spec0 w))
  | 0 => ((dat m c).arrAt_in 0 rfl _).trans (V₂_of_ne m c main_arg0 (by decide)).symm
  | 1 => ((dat m c).arrAt_in 1 rfl _).trans (V₂_of_ne m c main_arg1 (by decide)).symm
  | 2 => ((dat m c).arrAt_in 2 rfl _).trans (V₂_of_ne m c main_arg2 (by decide)).symm
  | 3 => ((dat m c).arrAt_in 3 rfl _).trans (V₂_of_ne m c main_arg3 (by decide)).symm
  | 4 => ((dat m c).arrAt_in 4 rfl _).trans (V₂_of_ne m c main_arg4 (by decide)).symm
  | 5 => ((dat m c).arrAt_in 5 rfl _).trans (V₂_of_ne m c main_cst (by decide)).symm
  | 6 => ((dat m c).arrAt_in 6 rfl _).trans (V₂_of_ne m c main_cst_0 (by decide)).symm
  | 7 => ((dat m c).arrAt_in 7 rfl _).trans (V₂_of_ne m c main_cst_1 (by decide)).symm
  | 8 => (V₂_v1 m c).symm

/-- The kernel. -/
def reg : ℝ𝕊 0 :=
  Pipeline.RegionSeg.ofTalk (pcfgs (F := F)) adm (pdats m) 0 defs₀ 𝒱₀ L lv 0 osem0 (by decide : Pipeline.OwnSemFacts spec0 osem0)
    ∅ ∅ (Finset.Subset.refl _) kitP rfl (fun c => (body m c).loose)
    (fun _ => 0) O₀ (fun c => (owed_zero m c).trans (zero_add _).symm) (owed_last m) (fun _ => rfl)
    (fun c w => by unfold Dat.share; split <;> rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ w s => by rw [L_tc]; exact (by decide : 0 ∈ Finset.range 40), fun _ w s => le_rfl, fun c t g i h => cutD m c t g i h⟩
    (fun _ => iprop(emp))
    (fun c w => rfl) (fun c w => arr_last m c w)

/-! ## The program -/

/-- What rides beside the buffers up to the kernel. -/
def R (c : Dev nD) : sProp 𝕄 := iprop((Tk m c ∗ ∃ r, prngReg c r) ∗ ∃ W, owes (c : Thread nD τ) (O₀ c) W)

/-- The host's operations touch unscoped buffers alone. -/
theorem host_sub : ∀ op ∈ (hostOps0 : List (HloOp τ sig (Elt F))), op.bufs ⊆ bufs := fun op h => by
  simp only [hostOps0, List.mem_cons, List.mem_nil_iff, or_false] at h
  rcases h with rfl | rfl | rfl
  · show ({Proc.devRef .tc main_cst} : Finset (DevRef τ sig)) ⊆ bufs; decide
  · show ({Proc.devRef .tc main_cst_0} : Finset (DevRef τ sig)) ⊆ bufs; decide
  · show ({Proc.devRef .tc main_cst_1} : Finset (DevRef τ sig)) ⊆ bufs; decide

/-- The host's literals. -/
def seg : ℍ := Pipeline.HostSeg.ofOps _ _ _ _ _ bufs hostOps0 host_sub (List.forall_iff_forall_mem.mp hostOps0_fresh) (V₀ m) (R m)

/-- What the host leaves is what the kernel starts from. -/
theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [bufs_arr, zero_add, show (StableHlo.held (c.tc : Thread nD τ) ∅ (V₁ m c) : sProp 𝕄) = BI.emp from by unfold StableHlo.held; exact BI.bigSep_empty]
  unfold R
  iintro ⟨Hh, ⟨HT, Hp⟩, HO⟩
  isplitl [Hh]; · iexact Hh
  isplitl [Hp]; · iexact Hp
  isplitr
  · isplitr; · iempintro
    iempintro
  isplitl [HT]; · iexact HT
  iexact HO

/-- What the kernel leaves is the buffers at their last contents and the barrier at zero. -/
theorem reg_post (c : Dev nD) : (reg m).post c
    ⊢ iprop(StableHlo.held (c : Thread nD τ) bufs (V₂ m c) ∗ (semVal (bCell c) 0 ∗ ∃ W, owes (c : Thread nD τ) (0 : CellTallies nD τ sig ℕ) W)) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk c ∗ ∃ Wd, owes (c : Thread nD τ) (0 : CellTallies nD τ sig ℕ) Wd) ⊢ _
  rw [bufs_arr]
  unfold Yk
  iintro ⟨Hh, -, -, Hb, HO⟩
  isplitl [Hh]; · iexact Hh
  isplitl [Hb]; · iexact Hb
  iexact HO

def segs : List (Pipeline.Seg (pcfgs (F := F)) adm (pdats m) 0 defs₀ 𝒱₀ L lv) := [.host (seg m), .region (reg m)]

/-- The program is its host part followed by the kernel. -/
theorem main_eq (c : Dev nD) : main (F := F) c = Pipeline.Seg.run (segs m) := main_segs adm (pdats m) 0 𝒱₀ L lv (seg m) (reg m) rfl c

/-! ## The launch -/

omit [FloatOps F] [∀ e, Nonempty (Elt F e)] in
/-- Two resources of every device, paired device by device. -/
theorem dev_pair (Φ Ψ : Dev nD → sProp 𝕄) : iprop(bigSep Finset.univ Φ ∗ bigSep Finset.univ Ψ) ⊢ bigSep Finset.univ (fun c => iprop(Φ c ∗ Ψ c)) :=
  Entails.of_eq (bigSep_sep _ _ _).symm
omit [FloatOps F] [∀ e, Nonempty (Elt F e)] in
/-- Pairs of resources of every device, taken apart. -/
theorem dev_unpair (Φ Ψ : Dev nD → sProp 𝕄) : bigSep Finset.univ (fun c => iprop(Φ c ∗ Ψ c)) ⊢ iprop(bigSep Finset.univ Φ ∗ bigSep Finset.univ Ψ) :=
  Entails.of_eq (bigSep_sep _ _ _)

/-- The launch element: the pipeline's and the protocol's. -/
def u₀ : UU :=
  (initOf (Pipeline.cells (Pipeline.pin (pcfgs (F := F)) adm) cellOf_inj) (Pipeline.launchToks (Pipeline.pin (pcfgs (F := F)) adm) cellOf_inj),
    (launchOf bCells oCells toks, Release.initSlots keys 16))

/-- The protocol's launch resource, not yet dealt. -/
def Start₀ : sProp 𝕄 := iprop(BI.own ((ER (F := F)) (launchOf bCells oCells toks)) ∗ BI.own ((ES (F := F)) (Release.initSlots keys 16)))

/-- A resource as a family over the devices: all of it on the first. -/
def onDev (X : sProp 𝕄) (c : Dev nD) : sProp 𝕄 := if c = 0 then X else iprop(emp)
omit [FloatOps F] [∀ e, Nonempty (Elt F e)] in
/-- A resource given to the first device alone is that resource. -/
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The launch element splits into the staging copies' part and the protocol's. -/
theorem hu : (ownU (u₀ (F := F)) : sProp 𝕄) ⊢ iprop(|={Set.univ}=> (BI.own (EP (initOf (Pipeline.cells (Pipeline.pin (pcfgs (F := F)) adm) cellOf_inj) (Pipeline.launchToks (Pipeline.pin (pcfgs (F := F)) adm) cellOf_inj))) ∗ bigSep Finset.univ (onDev (F := F) Start₀))) := by
  have e : (BI.own (embR (nD := nD) (τ := τ) (sig := sig) (launchOf bCells oCells toks, Release.initSlots keys 16)) : sProp 𝕄) ⊢ Start₀ :=
    BI.own_op_elim (embR.op_of_mem (Prod.mk_mem_op (URA.mem_op_one _) (URA.mem_one_op _)))
  rw [bigSep_onDev]
  unfold u₀
  iintro Hu
  ihave H := (ownU_pair _ _) $$ Hu
  icases H with ⟨HP, HX⟩
  imodintro
  isplitl [HP]; · iexact HP
  iapply e; iexact HX

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bCell c) 0)

/-- What of a device's launch holdings is not the protocol's. -/
def bundle (c : Dev nD) : sProp 𝕄 :=
  iprop(StableHlo.held (c : Thread nD τ) bufs (V₀ m c) ∗ owes (c : Thread nD τ) (O₀ c) ∅ ∗ ∃ r, prngReg c r)

/-- What the launch deals to a device is what its program starts from. -/
theorem T₀_intro (κ ιs) (c : Dev nD) :
    iprop(Recs (cont (opsAt m)) κ ιs ∗ (((bigSep Finset.univ fun ch => Pre (F := F) ch c) ∗ Bar c) ∗ bundle m c)) ⊢ T₀ m c := by
  unfold bundle T₀ R Tk
  iintro ⟨#HR, ⟨HP, HB⟩, Hh, HO, Hp⟩
  isplitl [Hh]; · iexact Hh
  isplitr [HO]
  · isplitl [HP HB]
    · iexists κ
      iexists ιs
      isplitr; · iexact HR
      isplitl [HP]; · iexact HP
      iexact HB
    iexact Hp
  · iexists ∅; iexact HO

/-- From the launch's holdings every device gets what its program starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onDev (F := F) Start₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ onDev (F := F) Start₀ c)
      ⊢ (iprop(bundle m c ∗ (semVal (bCell c) 0 ∗ (onDev (F := F) Start₀ c ∗ Pipeline.launchCred O₀ c))) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    isplitl [Hh HO Hp]
    · isplitl [Hh]; · iexact Hh
      isplitl [HO]; · iexact HO
      iexists (ρ c); iexact Hp
    isplitl [Hus]; · iexact Hus
    isplitl [HG]; · iexact HG
    iexact Hcr
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ onDev (F := F) Start₀ c))
      ⊢ (bigSep Finset.univ fun c : Dev nD => iprop(bundle m c ∗ (semVal (bCell c) 0 ∗ (onDev (F := F) Start₀ c ∗ Pipeline.launchCred O₀ c))) : sProp 𝕄) :=
    bigSep_mono fun c _ => hcore c
  have hG : bigSep Finset.univ (onDev (F := F) Start₀)
      ⊢ (iprop(BI.own ((ER (F := F)) (launchOf bCells oCells toks)) ∗ BI.own ((ES (F := F)) (Release.initSlots keys 16))) : sProp 𝕄) :=
    Entails.of_eq (bigSep_onDev Start₀)
  iintro ⟨H, -⟩
  ihave H' := hall $$ H
  ihave H2 := (dev_unpair _ _) $$ H'; icases H2 with ⟨HB, H3⟩
  ihave H4 := (dev_unpair _ _) $$ H3; icases H4 with ⟨Hv, H5⟩
  ihave H6 := (dev_unpair _ _) $$ H5; icases H6 with ⟨HG, HC⟩
  ihave HG' := hG $$ HG
  imod (deal (cont (opsAt m))) $$ [Hv HG' HC] with ⟨%κ, %ιs, #HR, HP⟩
  · isplitl [Hv]; · iexact Hv
    isplitl [HG']; · iexact HG'
    iexact HC
  imodintro
  iapply (bigSep_with_persistent (R := Recs (cont (opsAt m)) κ ιs)
    (Φ := fun c => iprop(((bigSep Finset.univ fun ch => Pre (F := F) ch c) ∗ Bar c) ∗ bundle m c)) fun c _ => T₀_intro m κ ιs c)
  isplitr; · iexact HR
  iapply (dev_pair _ _)
  isplitl [HP]; · iexact HP
  iexact HB

/-! ## The run -/

/-- The result's buffer ends as what the body left. -/
theorem arr_res (c : Dev nD) : (dat m c).arrAt (8 : Fin 9) cfg0.N = resAt m c := by
  have h : (win0_8.blk t0_0).view.read (Elt F) ((dat m c).arrAt (8 : Fin 9) cfg0.N) = resAt m c := by
    rw [show cfg0.N = t0_0.val + 1 from N_0, (dat m c).arrAt_succ (8 : Fin 9) t0_0]
    rw [show (cfg0.win (8 : Fin 9)).flush t0_0 = true from flush0_8 _, if_pos rfl]
    exact View.read_write_univ _ _
  have hz : (fun a => (win0_8.index t0_0) a * main_v1.ty.shape.size a) = fun _ => 0 := funext fun a => by fin_cases a <;> decide +kernel
  exact (Memref.read_access_unit_zero (Elt F) main_v1 hz (fun a => by fin_cases a <;> decide +kernel) _).symm.trans h

/-- From any memory with the semaphores at zero, every weakly fair execution ends, with every argument unchanged, device `c`'s result at `resAt m c`, and
    every semaphore at zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v1) = resAt m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := onDev Start₀) (u₀ := u₀)
    (hu₀ := hu)
    (T₀ := T₀ m) (Tₙ := Tₙ m)
    (hch := by
      refine ⟨fun c => .rfl, fun c => reg_pre m c, fun c => (reg_post m c).trans ?_⟩
      show iprop(StableHlo.held (c : Thread nD τ) bufs (V₂ m c)
          ∗ (semVal (bCell c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_arg2).view.loc (c : Thread nD τ)) = V₂ m c main_arg2
        ∧ s.mem ((Memref.whole main_arg3).view.loc (c : Thread nD τ)) = V₂ m c main_arg3
        ∧ s.mem ((Memref.whole main_arg4).view.loc (c : Thread nD τ)) = V₂ m c main_arg4
        ∧ s.mem ((Memref.whole main_v1).view.loc (c : Thread nD τ)) = V₂ m c main_v1) ∧ s.sem (bCell c) = 0)
    (hfin := fun c s' => by
      dsimp only [Tₙ]; rw [bufs_eq]
      iintro ⟨⟨⟨H0, H1, H2, H3, H4, -, -, -, Hv⟩, Hb⟩, HSI⟩
      icombine HSI H0 gives %h0
      icombine HSI H1 gives %h1
      icombine HSI H2 gives %h2
      icombine HSI H3 gives %h3
      icombine HSI H4 gives %h4
      icombine HSI Hv gives %hv
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ hv⟩, by simpa using hb⟩
      iexact HSI)
    (hQ := fun s h hs => ⟨fun c => by
        obtain ⟨⟨h0, h1, h2, h3, h4, hv⟩, -⟩ := h c
        exact ⟨⟨h0.trans ((V₂_of_ne m c main_arg0 (by decide)).trans (V_main_arg0 m c)), h1.trans ((V₂_of_ne m c main_arg1 (by decide)).trans (V_main_arg1 m c)),
          h2.trans ((V₂_of_ne m c main_arg2 (by decide)).trans (V_main_arg2 m c)), h3.trans ((V₂_of_ne m c main_arg3 (by decide)).trans (V_main_arg3 m c)),
          h4.trans ((V₂_of_ne m c main_arg4 (by decide)).trans (V_main_arg4 m c))⟩, hv.trans ((V₂_v1 m c).trans (arr_res m c))⟩,
      sem_eq_zero hs fun c sm hsm => by
        obtain rfl := unscoped_eq sm hsm
        exact (h c).2⟩)

end Cert.Ring

end
-- ==== Proof.Share.lean ====
/-
  One block function: the share of a row, in the four places the kernel computes it, is one and the same composition of
  four attention heads.
-/
module

public import proofs.«01_k».proof.Proof.Data

@[expose] public section

set_option backward.isDefEq.respectTransparency.types false

noncomputable section

namespace Cert.Ring

open Cert.KernelIdeal Cert.KernelIdeal.Gen
open Idealize.ShloMosaic Idealize.ShloMosaic.TcCoe

variable {F : FTy → Type} [FloatOps F]

/-! ## One head -/

/-- A row of activations against one weight block. -/
def proj (x : FVec F S128x512 .bf16) (w : FVec F S512x256 .bf16) : FVec F S128x256 .f32 :=
  matmul dot_S128x512_S512x256_S128x256_1_0_0_1_n_n none x w (constant S128x256 .f32 0x00000000#32)

/-- The position-dependent turn of one head's queries or keys: the cosine table times them, plus the sine table times
    their product with the rotation matrix. -/
def turned (cs sn : Vec F S128x64 .f32) (rt : Vec F S64x64 .f32) (a : FVec F S128x64 .f32) : FVec F S128x64 .f32 :=
  addf (mulf a cs)
    (mulf (matmul dot_S128x64_S64x64_S128x64_1_0_0_1_n_n none a rt (constant S128x64 .f32 0x00000000#32)) sn)

/-- The scaled scores of the turned queries and keys. -/
def scores (a b : FVec F S128x64 .f32) : FVec F S128x128 .f32 :=
  mulf (matmul dot_S128x64_S128x64_S128x128_1_1_0_0_n_n none (truncf .bf16 a bitsLt_bf16_f32) (truncf .bf16 b bitsLt_bf16_f32)
    (constant S128x128 .f32 0x00000000#32)) (broadcast S128x128 (Scalar.ofBits .f32 0x3E000000#32))

/-- The exponentials of the scores less their row's maximum. -/
def expo (s : FVec F S128x128 .f32) : FVec F S128x128 .f32 :=
  exp (subf s (broadcastTo S128x128 (shapeCast S128x1
    (multiReduction .maximumf [1] S128 s 0xFF800000#32 reduces_S128x128_S128 (.inl rfl) rfl)
    shapeCasts_S128_S128x1) broadcasts_S128x1_S128x128))

/-- The exponentials over their row's sum. -/
def weights (e : FVec F S128x128 .f32) : FVec F S128x128 .f32 :=
  divf e (broadcastTo S128x128 (shapeCast S128x1
    (multiReduction .add [1] S128 e 0x00000000#32 reduces_S128x128_S128 (.inl rfl) rfl)
    shapeCasts_S128_S128x1) broadcasts_S128x1_S128x128)

/-- One head: the weights against the values, against the head's rows of the output weights. -/
def head (cs sn : Vec F S128x64 .f32) (rt : Vec F S64x64 .f32) (q k u : FVec F S128x64 .f32) (w : FVec F S64x512 .bf16) :
    FVec F S128x512 .f32 :=
  matmul dot_S128x64_S64x512_S128x512_1_0_0_1_n_n none
    (truncf .bf16
      (matmul dot_S128x128_S128x64_S128x64_1_0_0_1_n_n none
        (truncf .bf16 (weights (expo (scores (turned cs sn rt q) (turned cs sn rt k)))) bitsLt_bf16_f32)
        (truncf .bf16 u bitsLt_bf16_f32) (constant S128x64 .f32 0x00000000#32)) bitsLt_bf16_f32)
    w (constant S128x512 .f32 0x00000000#32)

/-- The share of a row: the sum of a device's four heads. -/
def share (o : Ops F) (x : FVec F S128x512 .bf16) : FVec F S128x512 .f32 :=
  let q := proj x o.wq
  let k := proj x o.wk
  let u := proj x o.wv
  let h0 := head o.cs o.sn o.rt (extractStridedSlice S128x64 ![0, 0] q slices_S128x256_o0_0_S128x64)
    (extractStridedSlice S128x64 ![0, 0] k slices_S128x256_o0_0_S128x64)
    (extractStridedSlice S128x64 ![0, 0] u slices_S128x256_o0_0_S128x64)
    (extractStridedSlice S64x512 ![0, 0] o.wo slices_S256x512_o0_0_S64x512)
  let h1 := head o.cs o.sn o.rt (extractStridedSlice S128x64 ![0, 64] q slices_S128x256_o0_64_S128x64)
    (extractStridedSlice S128x64 ![0, 64] k slices_S128x256_o0_64_S128x64)
    (extractStridedSlice S128x64 ![0, 64] u slices_S128x256_o0_64_S128x64)
    (extractStridedSlice S64x512 ![64, 0] o.wo slices_S256x512_o64_0_S64x512)
  let h2 := head o.cs o.sn o.rt (extractStridedSlice S128x64 ![0, 128] q slices_S128x256_o0_128_S128x64)
    (extractStridedSlice S128x64 ![0, 128] k slices_S128x256_o0_128_S128x64)
    (extractStridedSlice S128x64 ![0, 128] u slices_S128x256_o0_128_S128x64)
    (extractStridedSlice S64x512 ![128, 0] o.wo slices_S256x512_o128_0_S64x512)
  let h3 := head o.cs o.sn o.rt (extractStridedSlice S128x64 ![0, 192] q slices_S128x256_o0_192_S128x64)
    (extractStridedSlice S128x64 ![0, 192] k slices_S128x256_o0_192_S128x64)
    (extractStridedSlice S128x64 ![0, 192] u slices_S128x256_o0_192_S128x64)
    (extractStridedSlice S64x512 ![192, 0] o.wo slices_S256x512_o192_0_S64x512)
  addf (addf (addf (addf (broadcast S128x512 (Scalar.ofBits .f32 0x00000000#32)) h0) h1) h2) h3

/-! ## The kernel's four places -/

/-- The loop's share of the row that goes right. -/
theorem fwdA_eq (o : Ops F) (v : Vec F S1x128x512 .bf16) : fwdA o v = share o (unrow v) := by chain_rfl
/-- The loop's share of the row that goes left. -/
theorem fwdB_eq (o : Ops F) (v : Vec F S1x128x512 .bf16) : fwdB o v = share o (unrow v) := by chain_rfl
/-- The right accumulator starts with the share of the device's first row. -/
theorem iniA_eq (o : Ops F) (v : Vec F S1x128x512 .bf16) :
    iniA o v = row (truncf .bf16 (share o (unrow v)) bitsLt_bf16_f32) := by chain_rfl
/-- The left accumulator starts with the share of the device's second row. -/
theorem iniB_eq (o : Ops F) (v : Vec F S1x128x512 .bf16) :
    iniB o v = row (truncf .bf16 (share o (unrow v)) bitsLt_bf16_f32) := by chain_rfl

end Cert.Ring
-- ==== Proof.Block.lean ====
/-
  What one block computes, over the extended reals: the share of a row, at a row and a column of the result, is the sum
  over a device's four heads of the attended values against the output weights.
-/
module

public import proofs.«01_k».proof.Proof.Share
public import Idealize.ShloMosaic.Lib.Pointwise

@[expose] public section

set_option backward.isDefEq.respectTransparency.types false

noncomputable section

namespace Cert.Ring

open Cert.KernelIdeal Cert.KernelIdeal.Gen
open Idealize.ShloMosaic Idealize.ShloMosaic.TcCoe

/-! ## The mathematics of one head -/

/-- A table of extended reals. -/
abbrev Mat (a b : ℕ) : Type := Fin a → Fin b → EReal

/-- The quarter turn of the pairs of coordinates: an even coordinate becomes minus its odd partner, an odd one its even
    partner. -/
def quarter (f : Fin 64 → EReal) (d : Fin 64) : EReal :=
  if h : d.val % 2 = 0 then -f ⟨d.val + 1, by omega⟩ else f ⟨d.val - 1, by omega⟩

/-- The position-dependent turn: cosine times the vector plus sine times its quarter turn. -/
def roped (cs sn f : Mat 128 64) : Mat 128 64 := fun i d => f i d * cs i d + quarter (f i) d * sn i d

/-- The scaled score of query `i` and key `j`. -/
def score (a b : Mat 128 64) : Mat 128 128 := fun i j => (∑ d, a i d * b j d) * Ideal.ofBits FTy.f32 0x3E000000#32

/-- The exponential of a score less its row's maximum. -/
def expd (s : Mat 128 128) : Mat 128 128 := fun i j =>
  Ideal.exp (s i j - Finset.univ.fold max (Ideal.ofBits FTy.f32 0xFF800000#32) (fun k => s i k))

/-- The weights of the values: the exponentials over their row's sum. -/
def soft (s : Mat 128 128) : Mat 128 128 := fun i j => Ideal.div (expd s i j) (∑ k, expd s i k)

/-- The attended values of one head, from its queries, keys and values. -/
def attend (cs sn q k u : Mat 128 64) : Mat 128 64 := fun i d =>
  ∑ j, soft (score (roped cs sn q) (roped cs sn k)) i j * u j d

/-- A row of activations against a head's columns of a weight. -/
def times (x : Mat 128 512) (w : Mat 512 64) : Mat 128 64 := fun i d => ∑ c, x i c * w c d

/-- The attended values of one head, from a row of activations and the head's columns of the three weights. -/
def headOf (cs sn : Mat 128 64) (x : Mat 128 512) (wq wk wv : Mat 512 64) : Mat 128 64 :=
  attend cs sn (times x wq) (times x wk) (times x wv)

/-! ## The kernel's operations at an index -/

/-- A table as a function of its two coordinates. -/
abbrev tab {a b : ℕ} (x : (⟨2, ![a, b]⟩ : Shape).Idx → EReal) : Mat a b := fun i j => x (ix2 i j)

/-- A projection at an index: the row times the column of the weights. -/
theorem proj_apply (x : FVec Ideal S128x512 .bf16) (w : FVec Ideal S512x256 .bf16) (i : Fin 128) (n : Fin 256) :
    proj x w (ix2 i n) = ∑ c : Fin 512, (x (ix2 i c) : EReal) * w (ix2 c n) := by
  pointwise [proj]

/-- What the rotation matrix is to hold: in column `d`, minus one or one at `d`'s partner and zero elsewhere. -/
def IsQuarter (rt : Vec Ideal S64x64 .f32) : Prop :=
  ∀ x d : Fin 64, (rt (ix2 x d) : EReal) =
    if x.val = (if d.val % 2 = 0 then d.val + 1 else d.val - 1) then (if d.val % 2 = 0 then -1 else 1) else 0

/-- The product with the rotation matrix is the quarter turn. -/
theorem sum_quarter {rt : Vec Ideal S64x64 .f32} (hrt : IsQuarter rt) (f : Fin 64 → EReal) (d : Fin 64) :
    ∑ x : Fin 64, f x * (rt (ix2 x d) : EReal) = quarter f d := by
  simp only [hrt _ _]
  by_cases h : d.val % 2 = 0
  · rw [Finset.sum_eq_single (⟨d.val + 1, by omega⟩ : Fin 64)]
    · simp [quarter, h]
    · intro b _ hb
      have : ¬ b.val = d.val + 1 := fun e => hb (Fin.ext e)
      simp [h, this]
    · exact fun hb => absurd (Finset.mem_univ _) hb
  · rw [Finset.sum_eq_single (⟨d.val - 1, by omega⟩ : Fin 64)]
    · simp [quarter, h]
    · intro b _ hb
      have : ¬ b.val = d.val - 1 := fun e => hb (Fin.ext e)
      simp [h, this]
    · exact fun hb => absurd (Finset.mem_univ _) hb

/-- The kernel's turned queries or keys are the turn of the mathematics. -/
theorem turned_tab (cs sn : Vec Ideal S128x64 .f32) {rt : Vec Ideal S64x64 .f32} (hrt : IsQuarter rt)
    (a : FVec Ideal S128x64 .f32) : tab (turned cs sn rt a) = roped (tab cs) (tab sn) (tab a) := by
  funext i d
  show turned cs sn rt a (ix2 i d) = _
  pointwise [turned]
  exact congrArg (fun z : EReal => (a (ix2 i d) : EReal) * cs (ix2 i d) + z * sn (ix2 i d))
    (sum_quarter hrt (fun x => a (ix2 i x)) d)

/-- The kernel's scores are the scores of the mathematics. -/
theorem scores_tab (a b : FVec Ideal S128x64 .f32) : tab (scores a b) = score (tab a) (tab b) := by
  funext i j
  show scores a b (ix2 i j) = _
  pointwise [scores]
  rfl

/-- The kernel's exponentials are those of the mathematics. -/
theorem expo_tab (s : FVec Ideal S128x128 .f32) : tab (expo s) = expd (tab s) := by
  funext i j
  show expo s (ix2 i j) = _
  pointwise [expo]
  rfl

/-- The kernel's weights of the values are those of the mathematics. -/
theorem weights_tab (s : FVec Ideal S128x128 .f32) : tab (weights (expo s)) = soft (tab s) := by
  funext i j
  show weights (expo s) (ix2 i j) = Ideal.div (expd (tab s) i j) (∑ k, expd (tab s) i k)
  rw [← expo_tab]
  pointwise [weights]

/-- One head at an index: the attended values against the head's rows of the output weights. -/
theorem head_apply (cs sn : Vec Ideal S128x64 .f32) {rt : Vec Ideal S64x64 .f32} (hrt : IsQuarter rt)
    (q k u : FVec Ideal S128x64 .f32) (w : FVec Ideal S64x512 .bf16) (i : Fin 128) (n : Fin 512) :
    (head cs sn rt q k u w (ix2 i n) : EReal) =
      ∑ d : Fin 64, attend (tab cs) (tab sn) (tab q) (tab k) (tab u) i d * w (ix2 d n) := by
  unfold attend
  rw [← turned_tab cs sn hrt, ← turned_tab cs sn hrt, ← scores_tab, ← weights_tab]
  pointwise [head]

/-! ## The share of a row at an index -/

/-- Column `64 h + d` of a device's 256. -/
abbrev col4 (h : Fin 4) (d : Fin 64) : Fin 256 := ⟨64 * h.val + d.val, by omega⟩

/-- The columns of one head of a device's weight block. -/
abbrev cols4 (w : FVec Ideal S512x256 .bf16) (h : Fin 4) : Mat 512 64 := fun c d => w (ix2 c (col4 h d))

/-- The share of a row at an index: over the four heads and their 64 coordinates, the attended values against the output
    weights. -/
theorem share_apply (o : Ops Ideal) (hrt : IsQuarter o.rt) (x : FVec Ideal S128x512 .bf16) (i : Fin 128) (n : Fin 512) :
    (share o x (ix2 i n) : EReal) = ∑ h : Fin 4, ∑ d : Fin 64,
      headOf (tab o.cs) (tab o.sn) (tab x) (cols4 o.wq h) (cols4 o.wk h) (cols4 o.wv h) i d * o.wo (ix2 (col4 h d) n) := by
  have slice (h : Fin 4) (off : Fin 2 → ℕ) (hoff : off = ![0, 64 * h.val]) (hs) (w : FVec Ideal S512x256 .bf16) :
      tab (extractStridedSlice S128x64 off (proj x w) hs : FVec Ideal S128x64 .f32) = times (tab x) (cols4 w h) := by
    subst hoff
    funext a d
    have e : extractStridedSlice S128x64 ![0, 64 * h.val] (proj x w) hs (ix2 a d) = proj x w (ix2 a (col4 h d)) := by
      pointwise
    exact e.trans (proj_apply x w a (col4 h d))
  have sliceO (h : Fin 4) (off : Fin 2 → ℕ) (hoff : off = ![64 * h.val, 0]) (hs) (d : Fin 64) :
      extractStridedSlice S64x512 off o.wo hs (ix2 d n) = o.wo (ix2 (col4 h d) n) := by
    subst hoff
    pointwise
  unfold headOf
  rw [Fin.sum_univ_four,
    ← slice 0 _ rfl slices_S128x256_o0_0_S128x64 o.wq, ← slice 0 _ rfl slices_S128x256_o0_0_S128x64 o.wk,
    ← slice 0 _ rfl slices_S128x256_o0_0_S128x64 o.wv,
    ← slice 1 _ rfl slices_S128x256_o0_64_S128x64 o.wq, ← slice 1 _ rfl slices_S128x256_o0_64_S128x64 o.wk,
    ← slice 1 _ rfl slices_S128x256_o0_64_S128x64 o.wv,
    ← slice 2 _ rfl slices_S128x256_o0_128_S128x64 o.wq, ← slice 2 _ rfl slices_S128x256_o0_128_S128x64 o.wk,
    ← slice 2 _ rfl slices_S128x256_o0_128_S128x64 o.wv,
    ← slice 3 _ rfl slices_S128x256_o0_192_S128x64 o.wq, ← slice 3 _ rfl slices_S128x256_o0_192_S128x64 o.wk,
    ← slice 3 _ rfl slices_S128x256_o0_192_S128x64 o.wv]
  simp only [← sliceO 0 _ rfl slices_S256x512_o0_0_S64x512, ← sliceO 1 _ rfl slices_S256x512_o64_0_S64x512,
    ← sliceO 2 _ rfl slices_S256x512_o128_0_S64x512, ← sliceO 3 _ rfl slices_S256x512_o192_0_S64x512]
  simp only [← head_apply _ _ hrt]
  pointwise [share]

end Cert.Ring
-- ==== Proof.RingSum.lean ====
/-
  What the array holds: an accumulator that has gone all round the ring is, at every index, the sum over all devices of
  their shares of one row.
-/
module

public import proofs.«01_k».proof.Proof.Block
public import proofs.«01_k».proof.Proof.Body

@[expose] public section

set_option backward.isDefEq.respectTransparency.types false

noncomputable section

namespace Cert.Ring

open Cert.KernelIdeal Cert.KernelIdeal.Gen
open Idealize.ShloMosaic Idealize.ShloMosaic.TcCoe

variable (o : Dev nD → Ops Ideal)

/-! ## One step, over the extended reals -/

/-- Device `d`'s first row. -/
def rowA (d : Dev nD) : FVec Ideal S128x512 .bf16 := xA o 0 d
/-- Device `d`'s second row. -/
def rowB (d : Dev nD) : FVec Ideal S128x512 .bf16 := xB o 0 d

/-- The rows that go right have come `t` places. -/
theorem xA_eq (t : ℕ) (c : Dev nD) : xA o t c = rowA o ((src 0)^[t] c) := by
  induction t generalizing c with
  | zero => rfl
  | succ t ih => rw [Function.iterate_succ_apply]; exact ih (src 0 c)
/-- The rows that go left have come `t` places. -/
theorem xB_eq (t : ℕ) (c : Dev nD) : xB o t c = rowB o ((src 2)^[t] c) := by
  induction t generalizing c with
  | zero => rfl
  | succ t ih => rw [Function.iterate_succ_apply]; exact ih (src 2 c)

/-- The first right accumulator is the share of the device's own first row. -/
theorem aA_zero (c : Dev nD) (j : S128x512.Idx) : (aA o 0 c j : EReal) = share (o c) (rowA o c) j := by
  show unrow (iniA (o c) (row (rowA o c))) j = _
  rw [iniA_eq, unrow_row, unrow_row]; rfl
/-- The first left accumulator is the share of the device's own second row. -/
theorem aB_zero (c : Dev nD) (j : S128x512.Idx) : (aB o 0 c j : EReal) = share (o c) (rowB o c) j := by
  show unrow (iniB (o c) (row (rowB o c))) j = _
  rw [iniB_eq, unrow_row, unrow_row]; rfl

/-- What a step makes of the right accumulator. -/
theorem stepA (s : FVec Ideal S128x512 .f32) (v : Vec Ideal S128x512 .bf16) :
    unrow (k0_pay34 (k0_pay33 s (row v))) = fun j => ((v j : EReal) + s j : EReal) := by
  have h : k0_pay34 (k0_pay33 s (row v)) = row (truncf .bf16 (addf (extf .f32 (unrow (row v)) bitsLt_bf16_f32) s) bitsLt_bf16_f32) := by
    chain_rfl
  rw [h, unrow_row, unrow_row]; rfl
/-- What a step makes of the left accumulator. -/
theorem stepB (s : FVec Ideal S128x512 .f32) (v : Vec Ideal S128x512 .bf16) :
    unrow (k0_pay35 s (row v)) = fun j => ((v j : EReal) + s j : EReal) := by
  have h : k0_pay35 s (row v) = row (truncf .bf16 (addf (extf .f32 (unrow (row v)) bitsLt_bf16_f32) s) bitsLt_bf16_f32) := by
    chain_rfl
  rw [h, unrow_row, unrow_row]; rfl

/-- The right accumulator after a step: the one of the device before, and the share of the row at hand. -/
theorem aA_succ (t : ℕ) (c : Dev nD) (j : S128x512.Idx) :
    (aA o (t + 1) c j : EReal) = (aA o t (src 1 c) j : EReal) + share (o c) (rowA o ((src 0)^[t + 1] c)) j := by
  show unrow (k0_pay34 (k0_pay33 (fwdA (o c) (row (xA o (t + 1) c))) (row (aA o t (src 1 c))))) j = _
  rw [stepA, fwdA_eq, unrow_row, xA_eq]
/-- The left accumulator after a step: the one of the next device, and the share of the row at hand. -/
theorem aB_succ (t : ℕ) (c : Dev nD) (j : S128x512.Idx) :
    (aB o (t + 1) c j : EReal) = (aB o t (src 3 c) j : EReal) + share (o c) (rowB o ((src 2)^[t + 1] c)) j := by
  show unrow (k0_pay35 (fwdB (o c) (row (xB o (t + 1) c))) (row (aB o t (src 3 c)))) j = _
  rw [stepB, fwdB_eq, unrow_row, xB_eq]

/-! ## All round the ring -/

/-- A value that starts as a device's term, and gains one term at each place, is the sum of the terms of the places it has
    been. -/
theorem ring_sum {D : Type} (f : D → D) (g : D → D → EReal) (a : ℕ → D → EReal) (h0 : ∀ c, a 0 c = g c c)
    (hs : ∀ t c, a (t + 1) c = a t (f c) + g c (f^[t + 1] c)) (t : ℕ) (c : D) :
    a t c = ∑ s ∈ Finset.range (t + 1), g (f^[s] c) (f^[t] c) := by
  induction t generalizing c with
  | zero => rw [h0, Finset.sum_range_one]; rfl
  | succ t ih => rw [hs, ih, Finset.sum_range_succ' _ (t + 1)]; rfl

/-- Where `s` steps of `k` places lead. -/
theorem iterate_val (f : Dev nD → Dev nD) (k : ℕ) (hf : ∀ c, (f c).val = (c.val + k) % 32) (s : ℕ) (c : Dev nD) :
    (f^[s] c).val = (c.val + k * s) % 32 := by
  induction s generalizing c with
  | zero => have : c.val < 32 := c.isLt; simp only [Function.iterate_zero, id]; show c.val = _; omega
  | succ s ih => rw [Function.iterate_succ_apply, ih, hf, Nat.mul_succ]; omega

/-- Going round the ring of 32 devices, one device forward or one back at each step, every device is met once. -/
theorem round_sum (f : Dev nD → Dev nD) (k : ℕ) (hk : k = 1 ∨ k = 31) (hf : ∀ c, (f c).val = (c.val + k) % 32)
    (g : Dev nD → EReal) (c : Dev nD) : ∑ s ∈ Finset.range 32, g (f^[s] c) = ∑ e, g e := by
  rw [Finset.sum_range fun s => g (f^[s] c)]
  have hb : Function.Bijective fun s : Fin 32 => (f^[s.val] c : Fin 32) := by
    rw [Finite.injective_iff_bijective.symm]
    intro s t h
    have h' := congrArg Fin.val h
    have e := (iterate_val f k hf s.val c).symm.trans (h'.trans (iterate_val f k hf t.val c))
    apply Fin.ext
    have := s.isLt; have := t.isLt
    rcases hk with rfl | rfl <;> omega
  exact Function.Bijective.sum_comp hb g

/-- All round the ring is where one started. -/
theorem round_home (f : Dev nD → Dev nD) (k : ℕ) (hf : ∀ c, (f c).val = (c.val + k) % 32) (c : Dev nD) :
    f^[32] c = c := by
  have : c.val < 32 := c.isLt
  apply Fin.ext; rw [iterate_val f k hf]; show (c.val + k * 32) % 32 = c.val; omega

/-- The number of the device that the first channel receives from. -/
theorem src0_val (c : Dev nD) : (src 0 c).val = (c.val + 31) % 32 := by
  revert c; decide
/-- The number of the device that the third channel receives from. -/
theorem src2_val (c : Dev nD) : (src 2 c).val = (c.val + 1) % 32 := by
  revert c; decide

/-- The right accumulator that comes home is the sum over all devices of their shares of the device's first row. -/
theorem homeA (c : Dev nD) (j : S128x512.Idx) : (aA o 31 (src 1 c) j : EReal) = ∑ e, share (o e) (rowA o c) j := by
  have h := ring_sum (src 0) (fun e d => (share (o e) (rowA o d) j : EReal)) (fun t c => aA o t c j)
    (fun c => aA_zero o c j) (fun t c => aA_succ o t c j) 31 (src 0 c)
  rw [show (src 0)^[31] (src 0 c) = c from (Function.iterate_succ_apply (src 0) 31 c).symm.trans (round_home _ 31 src0_val c)] at h
  exact h.trans (round_sum (src 0) 31 (.inr rfl) src0_val (fun e => share (o e) (rowA o c) j) (src 0 c))
/-- The left accumulator that comes home is the sum over all devices of their shares of the device's second row. -/
theorem homeB (c : Dev nD) (j : S128x512.Idx) : (aB o 31 (src 3 c) j : EReal) = ∑ e, share (o e) (rowB o c) j := by
  have h := ring_sum (src 2) (fun e d => (share (o e) (rowB o d) j : EReal)) (fun t c => aB o t c j)
    (fun c => aB_zero o c j) (fun t c => aB_succ o t c j) 31 (src 2 c)
  rw [show (src 2)^[31] (src 2 c) = c from (Function.iterate_succ_apply (src 2) 31 c).symm.trans (round_home _ 1 src2_val c)] at h
  exact h.trans (round_sum (src 2) 1 (.inl rfl) src2_val (fun e => share (o e) (rowB o c) j) (src 2 c))

end Cert.Ring
-- ==== Proof.Tables.lean ====
/-
  The literal tables: both programs hold the same cosines and sines, and the kernel's rotation matrix is the quarter turn.
-/
module

public import proofs.«01_k».proof.KernelIdeal
public import proofs.«01_k».proof.ReferenceIdeal
public import Idealize.ShloMosaic.Lib.Pointwise

@[expose] public section

namespace Cert.Ring

open Idealize.ShloMosaic

/-- Both programs' cosine tables are the same words. -/
theorem cos_words : Cert.KernelIdeal.lit0 = Cert.ReferenceIdeal.lit0 := by
  chain_rfl
/-- Both programs' sine tables are the same words. -/
theorem sin_words : Cert.KernelIdeal.lit1 = Cert.ReferenceIdeal.lit1 := by
  chain_rfl

/-- The rotation matrix, as words. -/
theorem rot_words : ∀ x d : Fin 64, Cert.KernelIdeal.lit2 ⟨x.val * 64 + d.val, by omega⟩ =
    if x.val = (if d.val % 2 = 0 then d.val + 1 else d.val - 1) then (if d.val % 2 = 0 then 0xBF800000#32 else 0x3F800000#32)
    else 0x00000000#32 := by
  decide +kernel

end Cert.Ring
-- ==== Proof.Operands.lean ====
/-
  What every device computes with, in terms of the arrays the program is launched on.
-/
module

public import proofs.«01_k».proof.Proof.Entry
public import proofs.«01_k».proof.Proof.RingSum
public import proofs.«01_k».proof.Proof.Tables
public import Idealize.ShloMosaic.Lib.IdealHost

@[expose] public section

set_option backward.isDefEq.respectTransparency.types false

noncomputable section

namespace Cert.Ring

open Cert.KernelIdeal Cert.KernelIdeal.Gen
open Idealize.ShloMosaic Idealize.ShloMosaic.TcCoe

variable (m : (ℓ : Loc nD τ sig) → Buf (Elt Ideal) ℓ) (c : Dev nD)

/-! ## The windows -/

/-- The activations' window is the whole array. -/
theorem win_x : iblk m c 0 t0_0 = m ((c : Thread nD τ).loc main_arg0) :=
  (Memref.read_access_unit_zero (Elt Ideal) main_arg0 (funext fun a => by fin_cases a <;> decide +kernel)
    (fun a => by fin_cases a <;> decide +kernel) _).trans (V_main_arg0 m c)
/-- The query weights' window is the whole array. -/
theorem win_wq : iblk m c 1 t0_0 = m ((c : Thread nD τ).loc main_arg1) :=
  (Memref.read_access_unit_zero (Elt Ideal) main_arg1 (funext fun a => by fin_cases a <;> decide +kernel)
    (fun a => by fin_cases a <;> decide +kernel) _).trans (V_main_arg1 m c)
/-- The key weights' window is the whole array. -/
theorem win_wk : iblk m c 2 t0_0 = m ((c : Thread nD τ).loc main_arg2) :=
  (Memref.read_access_unit_zero (Elt Ideal) main_arg2 (funext fun a => by fin_cases a <;> decide +kernel)
    (fun a => by fin_cases a <;> decide +kernel) _).trans (V_main_arg2 m c)
/-- The value weights' window is the whole array. -/
theorem win_wv : iblk m c 3 t0_0 = m ((c : Thread nD τ).loc main_arg3) :=
  (Memref.read_access_unit_zero (Elt Ideal) main_arg3 (funext fun a => by fin_cases a <;> decide +kernel)
    (fun a => by fin_cases a <;> decide +kernel) _).trans (V_main_arg3 m c)
/-- The output weights' window is the whole array. -/
theorem win_wo : iblk m c 4 t0_0 = m ((c : Thread nD τ).loc main_arg4) :=
  (Memref.read_access_unit_zero (Elt Ideal) main_arg4 (funext fun a => by fin_cases a <;> decide +kernel)
    (fun a => by fin_cases a <;> decide +kernel) _).trans (V_main_arg4 m c)

/-! ## The tables -/

/-- A device's cosine table is the first literal. -/
theorem ops_cs : (opsAt m c).cs = fun i => FloatOps.ofBits (F := Ideal) .f32 (lit0 (S128x64.rowMajor i)) := by
  have h : iblk m c 5 t0_0 = V m c main_cst :=
    Memref.read_access_unit_zero (Elt Ideal) main_cst (funext fun a => by fin_cases a <;> decide +kernel)
      (fun a => by fin_cases a <;> decide +kernel) _
  show iblk m c 5 t0_0 = _
  rw [h]
  chain_rfl
/-- A device's sine table is the second literal. -/
theorem ops_sn : (opsAt m c).sn = fun i => FloatOps.ofBits (F := Ideal) .f32 (lit1 (S128x64.rowMajor i)) := by
  have h : iblk m c 6 t0_0 = V m c main_cst_0 :=
    Memref.read_access_unit_zero (Elt Ideal) main_cst_0 (funext fun a => by fin_cases a <;> decide +kernel)
      (fun a => by fin_cases a <;> decide +kernel) _
  show iblk m c 6 t0_0 = _
  rw [h]
  chain_rfl
/-- A device's rotation matrix is the third literal. -/
theorem ops_rt : (opsAt m c).rt = fun i => FloatOps.ofBits (F := Ideal) .f32 (lit2 (S64x64.rowMajor i)) := by
  have h : iblk m c 7 t0_0 = V m c main_cst_1 :=
    Memref.read_access_unit_zero (Elt Ideal) main_cst_1 (funext fun a => by fin_cases a <;> decide +kernel)
      (fun a => by fin_cases a <;> decide +kernel) _
  show iblk m c 7 t0_0 = _
  rw [h]
  chain_rfl

/-- The single-precision word of minus one is the number minus one. -/
theorem ofBits_neg_one : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The rotation matrix is the quarter turn. -/
theorem ops_quarter : IsQuarter (opsAt m c).rt := by
  intro x d
  rw [ops_rt]
  have h : S64x64.rowMajor (ix2 x d) = (⟨x.val * 64 + d.val, by show _ < 4096; omega⟩ : Fin 4096) := Fin.ext (rowMajor_val2 _ 64 rfl)
  show Ideal.ofBits .f32 (lit2 (S64x64.rowMajor (ix2 x d))) = _
  refine (congrArg (fun k : Fin 4096 => Ideal.ofBits .f32 (lit2 k)) h).trans ((congrArg (Ideal.ofBits .f32) (rot_words x d)).trans ?_)
  by_cases e : x.val = (if d.val % 2 = 0 then d.val + 1 else d.val - 1)
  · rw [if_pos e, if_pos e]
    split
    · exact ofBits_neg_one
    · exact Ideal.ofBits_one_f32
  · rw [if_neg e, if_neg e]; exact Ideal.ofBits_zero_f32

/-! ## The weights and the rows -/

/-- The query weights that the body works with are the argument's. -/
theorem ops_wq (a : Fin 512) (n : Fin 256) : ((opsAt m c).wq (ix2 a n) : EReal) = m ((c : Thread nD τ).loc main_arg1) (ix2 a n) := by
  have h : k0_pay36 (winOf m c).wq (ix2 a n) = (winOf m c).wq (ix2 a n) := by
    pointwise [k0_pay36]
  exact h.trans (congrFun (win_wq m c) _)
/-- The key weights that the body works with are the argument's. -/
theorem ops_wk (a : Fin 512) (n : Fin 256) : ((opsAt m c).wk (ix2 a n) : EReal) = m ((c : Thread nD τ).loc main_arg2) (ix2 a n) := by
  have h : k0_pay37 (winOf m c).wk (ix2 a n) = (winOf m c).wk (ix2 a n) := by
    pointwise [k0_pay37]
  exact h.trans (congrFun (win_wk m c) _)
/-- The value weights that the body works with are the argument's. -/
theorem ops_wv (a : Fin 512) (n : Fin 256) : ((opsAt m c).wv (ix2 a n) : EReal) = m ((c : Thread nD τ).loc main_arg3) (ix2 a n) := by
  have h : k0_pay38 (winOf m c).wv (ix2 a n) = (winOf m c).wv (ix2 a n) := by
    pointwise [k0_pay38]
  exact h.trans (congrFun (win_wv m c) _)
/-- The output weights that the body works with are the argument's. -/
theorem ops_wo (a : Fin 256) (n : Fin 512) : ((opsAt m c).wo (ix2 a n) : EReal) = m ((c : Thread nD τ).loc main_arg4) (ix2 a n) := by
  have h : k0_pay39 (winOf m c).wo (ix2 a n) = (winOf m c).wo (ix2 a n) := by
    pointwise [k0_pay39]
  exact h.trans (congrFun (win_wo m c) _)

/-- The row that travels to the right is the device's first batch. -/
theorem ops_rowA (i : Fin 128) (n : Fin 512) :
    (rowA (opsAt m) c (ix2 i n) : EReal) = m ((c : Thread nD τ).loc main_arg0) (ix3 0 i n) := by
  have h : unrow (k0_pay40 (View.ld (winOf m c).x
    (Rect.unit (s := S2x128x512) ![0, 0, 0] S1x128x512.size inb_S2x128x512_S1x128x512_0_0_0))) (ix2 i n) = (winOf m c).x (ix3 0 i n) := by
    pointwise [unrow, k0_pay40]
  exact h.trans (congrFun (win_x m c) _)
/-- The row that travels to the left is the device's second batch. -/
theorem ops_rowB (i : Fin 128) (n : Fin 512) :
    (rowB (opsAt m) c (ix2 i n) : EReal) = m ((c : Thread nD τ).loc main_arg0) (ix3 1 i n) := by
  have h : unrow (k0_pay41 (View.ld (winOf m c).x
    (Rect.unit (s := S2x128x512) ![1, 0, 0] S1x128x512.size inb_S2x128x512_S1x128x512_1_0_0))) (ix2 i n) = (winOf m c).x (ix3 1 i n) := by
    pointwise [unrow, k0_pay41]
  exact h.trans (congrFun (win_x m c) _)

/-! ## The result -/

/-- A device's first result row, at an index: the sum over all devices of their shares of its first row. -/
theorem res_first (i : Fin 128) (n : Fin 512) :
    (resAt m c (ix3 0 i n) : EReal) = ∑ e, share (opsAt m e) (rowA (opsAt m) c) (ix2 i n) := by
  rw [← homeA]
  show outOf (k0_pay71 (row (aA (opsAt m) 31 (src 1 c)))) (k0_pay1 (row (aB (opsAt m) 31 (src 3 c)))) (ix3 0 i n) = _
  show k0_pay71 (row (aA (opsAt m) 31 (src 1 c))) (ix3 0 i n) = _
  pointwise [row, k0_pay71]
/-- A device's second result row, at an index: the sum over all devices of their shares of its second row. -/
theorem res_second (i : Fin 128) (n : Fin 512) :
    (resAt m c (ix3 1 i n) : EReal) = ∑ e, share (opsAt m e) (rowB (opsAt m) c) (ix2 i n) := by
  rw [← homeB]
  show outOf (k0_pay71 (row (aA (opsAt m) 31 (src 1 c)))) (k0_pay1 (row (aB (opsAt m) 31 (src 3 c)))) (ix3 1 i n) = _
  show k0_pay1 (row (aB (opsAt m) 31 (src 3 c))) (ix3 0 i n) = _
  pointwise [row, k0_pay1]

end Cert.Ring
-- ==== Proof.Ref.lean ====
/-
  What the reference computes, at an index: over all 128 heads and their 64 coordinates, the attended values of the row
  against the output weights.
-/
module

public import proofs.«01_k».proof.Proof.Block
public import proofs.«01_k».proof.Proof.Gen.ReferenceIdeal.Run

@[expose] public section

set_option backward.isDefEq.respectTransparency.types false

noncomputable section

namespace Cert.Ref

open Cert.ReferenceIdeal Cert.ReferenceIdeal.Gen
open Idealize.ShloMosaic Idealize.ShloMosaic.TcCoe
open Cert.Ring (Mat quarter roped score expd soft attend times headOf)

/-! ## The reference's operations, named -/

/-- The activations against one weight, cut into heads. -/
def heads (x : FVec Ideal S64x128x512 .f32) (w : FVec Ideal S512x8192 .f32) : FVec Ideal S64x128x128x64 .f32 :=
  shapeCast S64x128x128x64 (Host.dotGeneral dot_S64x128x512_S512x8192_S64x128x8192_2_0_01_1_n_n none x w) shapeCasts_S64x128x8192_S64x128x128x64

/-- A table of positions and coordinates, repeated over batch and heads. -/
def spread (t : FVec Ideal S128x64 .f32) : FVec Ideal S64x128x128x64 .f32 :=
  broadcastInDim S64x128x128x64 ![0, 1, 2, 3] bcast_S1x128x1x64_S64x128x128x64_0_1_2_3
    (broadcastInDim S1x128x1x64 ![1, 3] bcast_S128x64_S1x128x1x64_1_3 t)

/-- The quarter turn of the pairs. -/
def paired (t : FVec Ideal S64x128x128x64 .f32) : FVec Ideal S64x128x128x64 .f32 :=
  shapeCast S64x128x128x64 (concatenate S64x128x128x32x2 4
    [⟨S64x128x128x32x1, broadcastInDim S64x128x128x32x1 ![0, 1, 2, 3] bcast_S64x128x128x32_S64x128x128x32x1_0_1_2_3
        (Host.negf (shapeCast S64x128x128x32 (extractStridedSlice S64x128x128x32x1 ![0, 0, 0, 0, 1]
          (shapeCast S64x128x128x32x2 t shapeCasts_S64x128x128x64_S64x128x128x32x2) slices_S64x128x128x32x2_S64x128x128x32x1_0_0_0_0_1)
          shapeCasts_S64x128x128x32x1_S64x128x128x32))⟩,
      ⟨S64x128x128x32x1, broadcastInDim S64x128x128x32x1 ![0, 1, 2, 3] bcast_S64x128x128x32_S64x128x128x32x1_0_1_2_3
        (shapeCast S64x128x128x32 (extractStridedSlice S64x128x128x32x1 ![0, 0, 0, 0, 0]
          (shapeCast S64x128x128x32x2 t shapeCasts_S64x128x128x64_S64x128x128x32x2) slices_S64x128x128x32x2_S64x128x128x32x1_0_0_0_0_0)
          shapeCasts_S64x128x128x32x1_S64x128x128x32)⟩]
    concatenates_S64x128x128x32x1_S64x128x128x32x1_S64x128x128x32x2_d4) shapeCasts_S64x128x128x32x2_S64x128x128x64

/-- The position-dependent turn. -/
def turn (cs sn : FVec Ideal S128x64 .f32) (t : FVec Ideal S64x128x128x64 .f32) : FVec Ideal S64x128x128x64 .f32 :=
  addf (mulf t (spread cs)) (mulf (paired t) (spread sn))

/-- The scaled scores. -/
def scores (a b : FVec Ideal S64x128x128x64 .f32) : FVec Ideal S64x128x128x128 .f32 :=
  mulf (Host.dotGeneral dot_S64x128x128x64_S64x128x128x64_S64x128x128x128_3_3_1_1_02_02 none a b)
    (broadcastInDim S64x128x128x128 ![] bcast_S_S64x128x128x128 (constant S_ .f32 0x3E000000#32))

/-- The exponentials of the scores less their row's maximum. -/
def expo (s : FVec Ideal S64x128x128x128 .f32) : FVec Ideal S64x128x128x128 .f32 :=
  Host.exp (subf s (broadcastInDim S64x128x128x128 ![0, 1, 2, 3] bcast_S64x128x128x1_S64x128x128x128_0_1_2_3
    (broadcastInDim S64x128x128x1 ![0, 1, 2] bcast_S64x128x128_S64x128x128x1_0_1_2
      (Host.reduce FloatOps.maximumf s (constant S_ .f32 0xFF800000#32) reducesTo_S64x128x128x128_S64x128x128_d3 h_S_))))

/-- The exponentials over their row's sum. -/
def weights (e : FVec Ideal S64x128x128x128 .f32) : FVec Ideal S64x128x128x128 .f32 :=
  Host.divf e (broadcastInDim S64x128x128x128 ![0, 1, 2, 3] bcast_S64x128x128x1_S64x128x128x128_0_1_2_3
    (broadcastInDim S64x128x128x1 ![0, 1, 2] bcast_S64x128x128_S64x128x128x1_0_1_2
      (Host.reduceAdd e (constant S_ .f32 0x00000000#32) reducesTo_S64x128x128x128_S64x128x128_d3 h_S_)))

/-- The attended values, heads side by side. -/
def attended (u : FVec Ideal S64x128x128x64 .f32) (p : FVec Ideal S64x128x128x128 .f32) : FVec Ideal S64x128x8192 .f32 :=
  shapeCast S64x128x8192 (transpose S64x128x128x64 [0, 3, 1, 2]
    (Host.dotGeneral dot_S64x128x128x64_S64x128x128x128_S64x128x64x128_1_3_3_2_02_01 none u p)
    transposes_S64x128x64x128_S64x128x128x64_0_3_1_2) shapeCasts_S64x128x128x64_S64x128x8192

/-- The cosine table. -/
def cosT : FVec Ideal S128x64 .f32 := fun i => FloatOps.ofBits .f32 (lit0 (S128x64.rowMajor i))
/-- The sine table. -/
def sinT : FVec Ideal S128x64 .f32 := fun i => FloatOps.ofBits .f32 (lit1 (S128x64.rowMajor i))

/-- The whole reference. -/
def block (x : FVec Ideal S64x128x512 .f32) (wq wk wv : FVec Ideal S512x8192 .f32) (wo : FVec Ideal S8192x512 .f32) :
    FVec Ideal S64x128x512 .f32 :=
  Host.dotGeneral dot_S64x128x8192_S8192x512_S64x128x512_2_0_01_1_n_n none
    (attended (heads x wv) (weights (expo (scores (turn cosT sinT (heads x wq)) (turn cosT sinT (heads x wk)))))) wo

/-- The reference's run leaves the named value. -/
theorem res_eq (m : (ℓ : Loc nD τ sig) → Buf (Elt Ideal) ℓ) (c : Dev nD) :
    Value.res_main_v55 m c = block (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  chain_rfl

/-! ## At an index -/

/-- One batch entry and one head of an array whose heads are its third axis. -/
abbrev one (b : Fin 64) (h : Fin 128) (t : FVec Ideal S64x128x128x64 .f32) : Mat 128 64 := fun i d => t (ix4 b i h d)
/-- One batch entry and one head of an array of scores. -/
abbrev oneS (b : Fin 64) (h : Fin 128) (t : FVec Ideal S64x128x128x128 .f32) : Mat 128 128 := fun i j => t (ix4 b h i j)
/-- One batch entry of the activations. -/
abbrev rowOf (b : Fin 64) (x : FVec Ideal S64x128x512 .f32) : Mat 128 512 := fun i c => x (ix3 b i c)
/-- Column `64 h + d` of the 8192. -/
abbrev col (h : Fin 128) (d : Fin 64) : Fin 8192 := ⟨h.val * 64 + d.val, by omega⟩
/-- The columns of one head of a weight. -/
abbrev colsOf (h : Fin 128) (w : FVec Ideal S512x8192 .f32) : Mat 512 64 := fun c d => w (ix2 c (col h d))

variable (b : Fin 64) (h : Fin 128)

/-- A head of the products is the row against the head's columns. -/
theorem one_heads (x : FVec Ideal S64x128x512 .f32) (w : FVec Ideal S512x8192 .f32) :
    one b h (heads x w) = times (rowOf b x) (colsOf h w) := by
  funext i d
  show heads x w (ix4 b i h d) = _
  pointwise [heads]
  rfl

/-- The reference's quarter turn, at an index. -/
theorem paired_apply (t : FVec Ideal S64x128x128x64 .f32) (i : Fin 128) (d : Fin 64) :
    (paired t (ix4 b i h d) : EReal) = quarter (one b h t i) d := by
  unfold quarter
  pointwise [paired]
  by_cases e : d.val % 2 = 0
  · rw [dif_pos (by omega), dif_pos e]
    exact congrArg (fun k : Fin 64 => -(t (ix4 b i h k) : EReal)) (Fin.ext (by show d.val / 2 * 2 + 1 = d.val + 1; omega))
  · rw [dif_neg (by omega), dif_neg e]
    exact congrArg (fun k : Fin 64 => (t (ix4 b i h k) : EReal)) (Fin.ext (by show d.val / 2 * 2 = d.val - 1; omega))

/-- The reference's turn is the turn of the mathematics. -/
theorem one_turn (cs sn : FVec Ideal S128x64 .f32) (t : FVec Ideal S64x128x128x64 .f32) :
    one b h (turn cs sn t) = roped (Ring.tab cs) (Ring.tab sn) (one b h t) := by
  funext i d
  show turn cs sn t (ix4 b i h d) = one b h t i d * cs (ix2 i d) + quarter (one b h t i) d * sn (ix2 i d)
  rw [← paired_apply]
  pointwise [turn, spread]

/-- The reference's scores are the scores of the mathematics. -/
theorem one_scores (t u : FVec Ideal S64x128x128x64 .f32) : oneS b h (scores t u) = score (one b h t) (one b h u) := by
  funext i j
  show scores t u (ix4 b h i j) = _
  pointwise [scores]
  rfl

/-- The reference's exponentials are those of the mathematics. -/
theorem one_expo (s : FVec Ideal S64x128x128x128 .f32) : oneS b h (expo s) = expd (oneS b h s) := by
  funext i j
  show expo s (ix4 b h i j) = _
  pointwise [expo]
  rfl

/-- The reference's weights of the values are those of the mathematics. -/
theorem one_weights (s : FVec Ideal S64x128x128x128 .f32) : oneS b h (weights (expo s)) = soft (oneS b h s) := by
  funext i j
  show weights (expo s) (ix4 b h i j) = Ideal.div (expd (oneS b h s) i j) (∑ k, expd (oneS b h s) i k)
  rw [← one_expo]
  pointwise [weights]

/-- The attended values, at a head's coordinate. -/
theorem attended_apply (u : FVec Ideal S64x128x128x64 .f32) (p : FVec Ideal S64x128x128x128 .f32) (i : Fin 128) (d : Fin 64) :
    (attended u p (ix3 b i (col h d)) : EReal) = ∑ j : Fin 128, oneS b h p i j * one b h u j d := by
  have e (k : Fin 8192) : (attended u p (ix3 b i k) : EReal) = ∑ j : Fin 128,
      (u (ix4 b j ⟨k.val / 64, by omega⟩ ⟨k.val % 64, by omega⟩) : EReal) * p (ix4 b ⟨k.val / 64, by omega⟩ i j) := by
    pointwise [attended]
  rw [e]
  refine Finset.sum_congr rfl fun j _ => ?_
  have h1 : (⟨(col h d).val / 64, by omega⟩ : Fin 128) = h := Fin.ext (by show (h.val * 64 + d.val) / 64 = h.val; omega)
  have h2 : (⟨(col h d).val % 64, by omega⟩ : Fin 64) = d := Fin.ext (by show (h.val * 64 + d.val) % 64 = d.val; omega)
  rw [h1, h2]
  exact mul_comm _ _

/-- A sum over the 8192 columns is a sum over the heads and their coordinates. -/
theorem sum_cols (f : Fin 8192 → EReal) : ∑ k, f k = ∑ h : Fin 128, ∑ d : Fin 64, f (col h d) := by
  rw [← Equiv.sum_comp (finProdFinEquiv (m := 128) (n := 64)) f, Fintype.sum_prod_type]
  refine Finset.sum_congr rfl fun h _ => Finset.sum_congr rfl fun d _ => congrArg f (Fin.ext ?_)
  show d.val + 64 * h.val = h.val * 64 + d.val
  omega

/-- The reference at an index. -/
theorem block_apply (x : FVec Ideal S64x128x512 .f32) (wq wk wv : FVec Ideal S512x8192 .f32) (wo : FVec Ideal S8192x512 .f32)
    (i : Fin 128) (n : Fin 512) :
    (block x wq wk wv wo (ix3 b i n) : EReal) = ∑ h : Fin 128, ∑ d : Fin 64,
      headOf (Ring.tab cosT) (Ring.tab sinT) (rowOf b x) (colsOf h wq) (colsOf h wk) (colsOf h wv) i d * wo (ix2 (col h d) n) := by
  unfold headOf attend
  simp only [← one_heads, ← one_turn, ← one_scores, ← one_weights, ← attended_apply]
  rw [← sum_cols fun k => (attended (heads x wv) (weights (expo (scores (turn cosT sinT (heads x wq)) (turn cosT sinT (heads x wk))))) (ix3 b i k) : EReal)
    * wo (ix2 k n)]
  pointwise [block]

end Cert.Ref
-- ==== Proof.Equation.lean ====
/-
  The equation: what the kernel leaves on a device is that device's block of what the reference computes.
-/
module

public import proofs.«01_k».proof.Proof.Operands
public import proofs.«01_k».proof.Proof.Ref
public import Idealize.ShloMosaic.Lib.Layout

@[expose] public section

set_option backward.isDefEq.respectTransparency.types false

noncomputable section

namespace Cert.Ring

open Cert.KernelIdeal Cert.KernelIdeal.Gen
open Idealize.ShloMosaic Idealize.ShloMosaic.TcCoe
open Cert.Ref (col colsOf rowOf cosT sinT block)

variable (m : (ℓ : Loc nD τ sig) → Buf (Elt Ideal) ℓ)

/-! ## Both tables -/

/-- A device's cosines are the reference's. -/
theorem tab_cs (c : Dev nD) : tab (opsAt m c).cs = tab cosT := by
  rw [ops_cs, cos_words]; rfl
/-- A device's sines are the reference's. -/
theorem tab_sn (c : Dev nD) : tab (opsAt m c).sn = tab sinT := by
  rw [ops_sn, sin_words]; rfl

/-! ## The heads of a device among all heads -/

/-- Head `h` of device `e` among the 128. -/
abbrev headAt (e : Fin 32) (h : Fin 4) : Fin 128 := ⟨4 * e.val + h.val, by omega⟩

/-- A sum over all heads is a sum over the devices of the sums over their four. -/
theorem sum_heads (f : Fin 128 → EReal) : ∑ h, f h = ∑ e : Fin 32, ∑ h : Fin 4, f (headAt e h) := by
  rw [← Equiv.sum_comp (finProdFinEquiv (m := 32) (n := 4)) f, Fintype.sum_prod_type]
  refine Finset.sum_congr rfl fun e _ => Finset.sum_congr rfl fun h _ => congrArg f (Fin.ext ?_)
  show h.val + 4 * e.val = 4 * e.val + h.val
  omega

/-- A device's block of columns of a weight, at one head, is the whole weight's at that head among all. -/
theorem block_cols {w : FVec Ideal S512x256 .bf16} {W : FVec Ideal ⟨2, ![512, 8192]⟩ .f32} (e : Dev nD)
    (hw : ∀ a n, (w (ix2 a n) : EReal) = Layout.block ⟨2, ![512, 256]⟩ ⟨2, ![512, 8192]⟩ 1 32 e W (by decide) (ix2 a n)) (h : Fin 4) :
    cols4 w h = colsOf (headAt e h) W := by
  funext a d
  refine (hw a (col4 h d)).trans (congrArg W ?_)
  funext k
  match k with
  | 0 => rfl
  | 1 =>
    apply Fin.ext
    show e.val * 256 + (64 * h.val + d.val) = (4 * e.val + h.val) * 64 + d.val
    omega

/-- A device's block of rows of the output weight, at one head's coordinate. -/
theorem block_rows {w : FVec Ideal S256x512 .bf16} {W : FVec Ideal ⟨2, ![8192, 512]⟩ .f32} (e : Dev nD)
    (hw : ∀ a n, (w (ix2 a n) : EReal) = Layout.block ⟨2, ![256, 512]⟩ ⟨2, ![8192, 512]⟩ 0 32 e W (by decide) (ix2 a n))
    (h : Fin 4) (d : Fin 64) (n : Fin 512) : (w (ix2 (col4 h d) n) : EReal) = W (ix2 (col (headAt e h) d) n) := by
  refine (hw (col4 h d) n).trans (congrArg W ?_)
  funext k
  match k with
  | 0 =>
    apply Fin.ext
    show e.val * 256 + (64 * h.val + d.val) = (4 * e.val + h.val) * 64 + d.val
    omega
  | 1 => rfl

/-! ## The sum of the shares -/

variable {m}
variable {X : FVec Ideal ⟨3, ![64, 128, 512]⟩ .f32} {WQ WK WV : FVec Ideal ⟨2, ![512, 8192]⟩ .f32} {WO : FVec Ideal ⟨2, ![8192, 512]⟩ .f32}

/-- Every device's arguments are its blocks of the whole arrays. -/
structure Blocks (m : (ℓ : Loc nD τ sig) → Buf (Elt Ideal) ℓ) (X : FVec Ideal ⟨3, ![64, 128, 512]⟩ .f32)
    (WQ WK WV : FVec Ideal ⟨2, ![512, 8192]⟩ .f32) (WO : FVec Ideal ⟨2, ![8192, 512]⟩ .f32) : Prop where
  x (c : Dev nD) : m ((c : Thread nD τ).loc main_arg0) = Layout.block ⟨3, ![2, 128, 512]⟩ ⟨3, ![64, 128, 512]⟩ 0 32 c X
  wq (c : Dev nD) : m ((c : Thread nD τ).loc main_arg1) = Layout.block ⟨2, ![512, 256]⟩ ⟨2, ![512, 8192]⟩ 1 32 c WQ
  wk (c : Dev nD) : m ((c : Thread nD τ).loc main_arg2) = Layout.block ⟨2, ![512, 256]⟩ ⟨2, ![512, 8192]⟩ 1 32 c WK
  wv (c : Dev nD) : m ((c : Thread nD τ).loc main_arg3) = Layout.block ⟨2, ![512, 256]⟩ ⟨2, ![512, 8192]⟩ 1 32 c WV
  wo (c : Dev nD) : m ((c : Thread nD τ).loc main_arg4) = Layout.block ⟨2, ![256, 512]⟩ ⟨2, ![8192, 512]⟩ 0 32 c WO

/-- The shares of one batch entry's row, summed over the devices, are the reference at that batch entry. -/
theorem sum_shares (B : Blocks m X WQ WK WV WO) (b : Fin 64) (x : FVec Ideal S128x512 .bf16) (hx : tab x = rowOf b X)
    (i : Fin 128) (n : Fin 512) :
    (∑ e, share (opsAt m e) x (ix2 i n) : EReal) = block X WQ WK WV WO (ix3 b i n) := by
  rw [Ref.block_apply, sum_heads]
  refine Finset.sum_congr rfl fun e _ => ?_
  rw [share_apply _ (ops_quarter m e)]
  refine Finset.sum_congr rfl fun h _ => Finset.sum_congr rfl fun d _ => ?_
  rw [tab_cs, tab_sn, hx, block_cols e (fun a n => (ops_wq m e a n).trans (congrFun (B.wq e) _)) h,
    block_cols e (fun a n => (ops_wk m e a n).trans (congrFun (B.wk e) _)) h,
    block_cols e (fun a n => (ops_wv m e a n).trans (congrFun (B.wv e) _)) h,
    block_rows e (fun a n => (ops_wo m e a n).trans (congrFun (B.wo e) _)) h d n]

/-- Where row `r` of device `c` is among the batch entries. -/
abbrev entryAt (c : Fin 32) (r : Fin 2) : Fin 64 := ⟨c.val * 2 + r.val, by omega⟩

/-- An index of a device's block among the whole. -/
theorem block_entry (Y : FVec Ideal ⟨3, ![64, 128, 512]⟩ .f32) (c : Dev nD) (r : Fin 2) (i : Fin 128) (n : Fin 512) :
    Layout.block ⟨3, ![2, 128, 512]⟩ ⟨3, ![64, 128, 512]⟩ 0 32 c Y (by decide) (ix3 r i n) = Y (ix3 (entryAt c r) i n) := by
  refine congrArg Y ?_
  funext k
  match k with
  | 0 => rfl
  | 1 => rfl
  | 2 => rfl

/-- What the kernel leaves on device `c` is block `c` of what the reference computes from the whole arrays. -/
theorem res_block (B : Blocks m X WQ WK WV WO) (c : Dev nD) :
    resAt m c = Layout.block ⟨3, ![2, 128, 512]⟩ ⟨3, ![64, 128, 512]⟩ 0 32 c (block X WQ WK WV WO) := by
  funext j
  obtain ⟨r, i, n, rfl⟩ : ∃ (r : Fin 2) (i : Fin 128) (n : Fin 512), j = ix3 r i n := ⟨j 0, j 1, j 2, eq_ix3 j⟩
  refine Eq.trans ?_ (block_entry (block X WQ WK WV WO) c r i n).symm
  match r with
  | 0 =>
    refine (res_first m c i n).trans (sum_shares B (entryAt c 0) _ ?_ i n)
    funext a k
    exact (ops_rowA m c a k).trans ((congrFun (B.x c) _).trans (block_entry X c 0 a k))
  | 1 =>
    refine (res_second m c i n).trans (sum_shares B (entryAt c 1) _ ?_ i n)
    funext a k
    exact (ops_rowB m c a k).trans ((congrFun (B.x c) _).trans (block_entry X c 1 a k))

end Cert.Ring
-- ==== Proof.lean ====
/-
  The claims about the ring-pipelined attention kernel, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.SL.Sem

/-- The idealized kernel's text, at any float values: it runs, leaves its arguments and ends with every semaphore at zero. -/
def FrameAt (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The run of the kernel gives its frame, at any float values. -/
theorem frame_at (F : FTy → Type) [FloatOps F] [∀ e, Nonempty (Elt F e)] : FrameAt F := fun m ρ _ =>
  (θ_run Cert.KernelIdeal.defs _ _).mono (fun _ h => ⟨fun c => (h.1 c).1, h.2⟩) (Cert.Ring.run_main m ρ)

/-- The kernel as printed has the idealized kernel's text: the same run, read at bit patterns. -/
theorem frame_kernel : Cert.quiescent_Kernel :=
  Eq.mpr (show Cert.quiescent_Kernel = FrameAt Bits from by chain_rfl) (frame_at Bits)

/-- The idealized kernel: the same run, read at extended reals. -/
theorem frame_kernel_ideal : Cert.quiescent_KernelIdeal := frame_at Ideal

/-- The reference is host operations alone and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the reference's arguments, the kernel leaves on every device that device's block of the reference's
    result. -/
theorem algebraic_kernel : Cert.algebraic_KernelIdeal_ReferenceIdeal := fun m ρ m' ρ' _ hm =>
  ⟨Cert.ReferenceIdeal.Value.res_main_v55 m' 0,
    (θ_run Cert.KernelIdeal.defs _ _).mono
      (fun _ h c => ⟨(h.1 c).2.trans ((Cert.Ring.res_block ⟨fun d => (hm d).1, fun d => (hm d).2.1, fun d => (hm d).2.2.1,
        fun d => (hm d).2.2.2.1, fun d => (hm d).2.2.2.2⟩ c).trans (by rw [Cert.Ref.res_eq])), (h.1 c).1⟩)
      (Cert.Ring.run_main m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_kernel_ideal, frame_reference, trivial, algebraic_kernel⟩

end Cert.Proof

end
